-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).1 = (fun _ => 1#1)
    ∧ (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2 = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_KernelIdeal_call_args [hPre_call_args : Cert.Pre_call_args.Facts] (m : (ℓ : Loc Cert.KernelIdeal.nD Cert.KernelIdeal.τ Cert.KernelIdeal.sig) → Buf (Elt Ideal) ℓ) : Prop :=
  ∀ c : Dev Cert.KernelIdeal.nD,
    (Cert.Pre_call_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_call_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_call_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_call_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_call_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_call_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 = (fun _ => 1#1)
    ∧ (Cert.Pre_call_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_call_args [hPre_call_args : Cert.Pre_call_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_call_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_call_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_call_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_call_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_call_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_call_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.1 = (fun _ => 1#1)
    ∧ (Cert.Pre_call_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2 = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference2 (m : (ℓ : Loc Cert.Reference2.nD Cert.Reference2.τ Cert.Reference2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3 (m : (ℓ : Loc Cert.Reference3.nD Cert.Reference3.τ Cert.Reference3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4 (m : (ℓ : Loc Cert.Reference4.nD Cert.Reference4.τ Cert.Reference4.sig) → Buf (Elt Bits) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Reference5 (m : (ℓ : Loc Cert.Reference5.nD Cert.Reference5.τ Cert.Reference5.sig) → Buf (Elt Bits) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Reference6 (m : (ℓ : Loc Cert.Reference6.nD Cert.Reference6.τ Cert.Reference6.sig) → Buf (Elt Bits) ℓ) : Prop :=
  True

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_call_args [hKernelIdeal : Cert.KernelIdeal.Facts] [hPre_call_args : Cert.Pre_call_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_call_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_call_args [hReferenceIdeal : Cert.ReferenceIdeal.Facts] [hPre_call_args : Cert.Pre_call_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_call_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2)
      ∧ r.2.mem ((c.tc : Thread Cert.Reference3.nD Cert.Reference3.τ).loc Cert.Reference3.main_arg3) = m ((c.tc : Thread Cert.Reference3.nD Cert.Reference3.τ).loc Cert.Reference3.main_arg3)
      ∧ r.2.mem ((c.tc : Thread Cert.Reference3.nD Cert.Reference3.τ).loc Cert.Reference3.main_arg4) = m ((c.tc : Thread Cert.Reference3.nD Cert.Reference3.τ).loc Cert.Reference3.main_arg4)
      ∧ r.2.mem ((c.tc : Thread Cert.Reference3.nD Cert.Reference3.τ).loc Cert.Reference3.main_arg5) = m ((c.tc : Thread Cert.Reference3.nD Cert.Reference3.τ).loc Cert.Reference3.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3)
      ∧ r.2.mem ((c.tc : Thread Cert.Reference4.nD Cert.Reference4.τ).loc Cert.Reference4.main_arg4) = m ((c.tc : Thread Cert.Reference4.nD Cert.Reference4.τ).loc Cert.Reference4.main_arg4)
      ∧ r.2.mem ((c.tc : Thread Cert.Reference4.nD Cert.Reference4.τ).loc Cert.Reference4.main_arg5) = m ((c.tc : Thread Cert.Reference4.nD Cert.Reference4.τ).loc Cert.Reference4.main_arg5)
      ∧ r.2.mem ((c.tc : Thread Cert.Reference4.nD Cert.Reference4.τ).loc Cert.Reference4.main_arg6) = m ((c.tc : Thread Cert.Reference4.nD Cert.Reference4.τ).loc Cert.Reference4.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5 [hReference5 : Cert.Reference5.Facts] : Prop :=
  ∀ (m : (ℓ : Loc Cert.Reference5.nD Cert.Reference5.τ Cert.Reference5.sig) → Buf (Elt Bits) ℓ) (g : Dev Cert.Reference5.nD → PrngReg), Pre_Reference5 m →
    θ_run (Cert.Reference5.defs (F := Bits)) (onTc (τ := Cert.Reference5.τ) (Cert.Reference5.main (F := Bits))) ⟨m, fun _ => 0, g⟩ (fun r => (∀ c : Dev Cert.Reference5.nD,
      r.2.mem ((c.tc : Thread Cert.Reference5.nD Cert.Reference5.τ).loc Cert.Reference5.main_arg0) = m ((c.tc : Thread Cert.Reference5.nD Cert.Reference5.τ).loc Cert.Reference5.main_arg0)
      ∧ r.2.mem ((c.tc : Thread Cert.Reference5.nD Cert.Reference5.τ).loc Cert.Reference5.main_arg1) = m ((c.tc : Thread Cert.Reference5.nD Cert.Reference5.τ).loc Cert.Reference5.main_arg1)
      ∧ r.2.mem ((c.tc : Thread Cert.Reference5.nD Cert.Reference5.τ).loc Cert.Reference5.main_arg2) = m ((c.tc : Thread Cert.Reference5.nD Cert.Reference5.τ).loc Cert.Reference5.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6 [hReference6 : Cert.Reference6.Facts] : Prop :=
  ∀ (m : (ℓ : Loc Cert.Reference6.nD Cert.Reference6.τ Cert.Reference6.sig) → Buf (Elt Bits) ℓ) (g : Dev Cert.Reference6.nD → PrngReg), Pre_Reference6 m →
    θ_run (Cert.Reference6.defs (F := Bits)) (onTc (τ := Cert.Reference6.τ) (Cert.Reference6.main (F := Bits))) ⟨m, fun _ => 0, g⟩ (fun r => (∀ c : Dev Cert.Reference6.nD,
      r.2.mem ((c.tc : Thread Cert.Reference6.nD Cert.Reference6.τ).loc Cert.Reference6.main_arg0) = m ((c.tc : Thread Cert.Reference6.nD Cert.Reference6.τ).loc Cert.Reference6.main_arg0)
      ∧ r.2.mem ((c.tc : Thread Cert.Reference6.nD Cert.Reference6.τ).loc Cert.Reference6.main_arg1) = m ((c.tc : Thread Cert.Reference6.nD Cert.Reference6.τ).loc Cert.Reference6.main_arg1)
      ∧ r.2.mem ((c.tc : Thread Cert.Reference6.nD Cert.Reference6.τ).loc Cert.Reference6.main_arg2) = m ((c.tc : Thread Cert.Reference6.nD Cert.Reference6.τ).loc Cert.Reference6.main_arg2)
      ∧ r.2.mem ((c.tc : Thread Cert.Reference6.nD Cert.Reference6.τ).loc Cert.Reference6.main_arg3) = m ((c.tc : Thread Cert.Reference6.nD Cert.Reference6.τ).loc Cert.Reference6.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def preserves_Reference_ReferenceIdeal : Prop :=
  True

def algebraic_KernelIdeal_ReferenceIdeal_pre_call_args [hKernelIdeal : Cert.KernelIdeal.Facts] [hReferenceIdeal : Cert.ReferenceIdeal.Facts] [hPre_call_args : Cert.Pre_call_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_call_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def preserves_Reference2_Reference2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def preserves_Reference3_Reference3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def preserves_Reference4_Reference4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def preserves_Reference5_Reference5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)) (v3 : (c : Dev Cert.Kernel5Ideal.nD) → Buf (Elt Ideal) ((c.tc : Thread Cert.Kernel5Ideal.nD Cert.Kernel5Ideal.τ).loc Cert.Kernel5Ideal.main_v8_3)) (v4 : (c : Dev Cert.Kernel5Ideal.nD) → Buf (Elt Ideal) ((c.tc : Thread Cert.Kernel5Ideal.nD Cert.Kernel5Ideal.τ).loc Cert.Kernel5Ideal.main_v8_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_v8_3) = v3 c
          ∧ r.2.mem ((c.tc : Thread Cert.Kernel5Ideal.nD Cert.Kernel5Ideal.τ).loc Cert.Kernel5Ideal.main_v8_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_v31) = v2 c
          ∧ r.2.mem ((c.tc : Thread Cert.Reference5Ideal.nD Cert.Reference5Ideal.τ).loc Cert.Reference5Ideal.main_v32) = v3 c
          ∧ r.2.mem ((c.tc : Thread Cert.Reference5Ideal.nD Cert.Reference5Ideal.τ).loc Cert.Reference5Ideal.main_v35) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def preserves_Reference6_Reference6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)) (v4 : (c : Dev Cert.Kernel6Ideal.nD) → Buf (Elt Ideal) ((c.tc : Thread Cert.Kernel6Ideal.nD Cert.Kernel6Ideal.τ).loc Cert.Kernel6Ideal.main_v10_4)) (v5 : (c : Dev Cert.Kernel6Ideal.nD) → Buf (Elt Ideal) ((c.tc : Thread Cert.Kernel6Ideal.nD Cert.Kernel6Ideal.τ).loc Cert.Kernel6Ideal.main_v10_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_v10_4) = v4 c
          ∧ r.2.mem ((c.tc : Thread Cert.Kernel6Ideal.nD Cert.Kernel6Ideal.τ).loc Cert.Kernel6Ideal.main_v10_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_v32) = v2 c
          ∧ r.2.mem ((c.tc : Thread Cert.Reference6Ideal.nD Cert.Reference6Ideal.τ).loc Cert.Reference6Ideal.main_v33) = v3 c
          ∧ r.2.mem ((c.tc : Thread Cert.Reference6Ideal.nD Cert.Reference6Ideal.τ).loc Cert.Reference6Ideal.main_v42) = v4 c
          ∧ r.2.mem ((c.tc : Thread Cert.Reference6Ideal.nD Cert.Reference6Ideal.τ).loc Cert.Reference6Ideal.main_v46) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hReference2 : Cert.Reference2.Facts) (hKernel3 : Cert.Kernel3.Facts) (hKernel3Ideal : Cert.Kernel3Ideal.Facts) (hReference3Ideal : Cert.Reference3Ideal.Facts) (hReference3 : Cert.Reference3.Facts) (hKernel4 : Cert.Kernel4.Facts) (hKernel4Ideal : Cert.Kernel4Ideal.Facts) (hReference4Ideal : Cert.Reference4Ideal.Facts) (hReference4 : Cert.Reference4.Facts) (hKernel5 : Cert.Kernel5.Facts) (hKernel5Ideal : Cert.Kernel5Ideal.Facts) (hReference5Ideal : Cert.Reference5Ideal.Facts) (hReference5 : Cert.Reference5.Facts) (hKernel6 : Cert.Kernel6.Facts) (hKernel6Ideal : Cert.Kernel6Ideal.Facts) (hReference6Ideal : Cert.Reference6Ideal.Facts) (hReference6 : Cert.Reference6.Facts) (hPre_tables : Cert.Pre_tables.Facts) (hPre_call_args : Cert.Pre_call_args.Facts),
    quiescent_Kernel (hKernel := hKernel) (hPre_tables := hPre_tables)
    ∧ quiescent_KernelIdeal (hKernelIdeal := hKernelIdeal) (hPre_tables := hPre_tables)
    ∧ quiescent_KernelIdeal_pre_call_args (hKernelIdeal := hKernelIdeal) (hPre_call_args := hPre_call_args)
    ∧ quiescent_ReferenceIdeal (hReferenceIdeal := hReferenceIdeal)
    ∧ quiescent_ReferenceIdeal_pre_call_args (hReferenceIdeal := hReferenceIdeal) (hPre_call_args := hPre_call_args)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference2 (hReference2 := hReference2)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference3 (hReference3 := hReference3)
    ∧ quiescent_Kernel4 (hKernel4 := hKernel4)
    ∧ quiescent_Kernel4Ideal (hKernel4Ideal := hKernel4Ideal)
    ∧ quiescent_Reference4Ideal (hReference4Ideal := hReference4Ideal)
    ∧ quiescent_Reference4 (hReference4 := hReference4)
    ∧ quiescent_Kernel5 (hKernel5 := hKernel5)
    ∧ quiescent_Kernel5Ideal (hKernel5Ideal := hKernel5Ideal)
    ∧ quiescent_Reference5Ideal (hReference5Ideal := hReference5Ideal)
    ∧ quiescent_Reference5 (hReference5 := hReference5)
    ∧ quiescent_Kernel6 (hKernel6 := hKernel6)
    ∧ quiescent_Kernel6Ideal (hKernel6Ideal := hKernel6Ideal)
    ∧ quiescent_Reference6Ideal (hReference6Ideal := hReference6Ideal)
    ∧ quiescent_Reference6 (hReference6 := hReference6)
    ∧ preserves_Kernel_KernelIdeal
    ∧ preserves_Reference_ReferenceIdeal
    ∧ algebraic_KernelIdeal_ReferenceIdeal_pre_call_args (hKernelIdeal := hKernelIdeal) (hReferenceIdeal := hReferenceIdeal) (hPre_call_args := hPre_call_args)
    ∧ preserves_Kernel2_Kernel2Ideal
    ∧ preserves_Reference2_Reference2Ideal
    ∧ algebraic_Kernel2Ideal_Reference2Ideal (hKernel2Ideal := hKernel2Ideal) (hReference2Ideal := hReference2Ideal)
    ∧ preserves_Kernel3_Kernel3Ideal
    ∧ preserves_Reference3_Reference3Ideal
    ∧ algebraic_Kernel3Ideal_Reference3Ideal (hKernel3Ideal := hKernel3Ideal) (hReference3Ideal := hReference3Ideal)
    ∧ preserves_Kernel4_Kernel4Ideal
    ∧ preserves_Reference4_Reference4Ideal
    ∧ algebraic_Kernel4Ideal_Reference4Ideal (hKernel4Ideal := hKernel4Ideal) (hReference4Ideal := hReference4Ideal)
    ∧ preserves_Kernel5_Kernel5Ideal
    ∧ preserves_Reference5_Reference5Ideal
    ∧ algebraic_Kernel5Ideal_Reference5Ideal (hKernel5Ideal := hKernel5Ideal) (hReference5Ideal := hReference5Ideal)
    ∧ preserves_Kernel6_Kernel6Ideal
    ∧ preserves_Reference6_Reference6Ideal
    ∧ algebraic_Kernel6Ideal_Reference6Ideal (hKernel6Ideal := hKernel6Ideal) (hReference6Ideal := hReference6Ideal)
-- ==== Pre_call_args.lean ====
abbrev S10 : Shape := ⟨1, ![10]⟩
abbrev S32x4x2048x512 : Shape := ⟨4, ![32, 4, 2048, 512]⟩
abbrev S32x2048x1024 : Shape := ⟨3, ![32, 2048, 1024]⟩
abbrev S32x4x1280x512 : Shape := ⟨4, ![32, 4, 1280, 512]⟩
abbrev S32x2048x128 : Shape := ⟨3, ![32, 2048, 128]⟩
abbrev S_ : Shape := ⟨0, ![]⟩
abbrev S32x4x16x80x512 : Shape := ⟨5, ![32, 4, 16, 80, 512]⟩

class Facts : Prop where
  bcast_S_S32x4x2048x512 : S_.BroadcastsInDim S32x4x2048x512 (![] : Fin 0 → Fin S32x4x2048x512.rank)
  bcast_S_S32x4x16x80x512 : S_.BroadcastsInDim S32x4x16x80x512 (![] : Fin 0 → Fin S32x4x16x80x512.rank)
  bitsLt_bf16_f32 : FTy.bits .bf16 < FTy.bits .f32
  shapeCasts_S32x4x1280x512_S32x4x16x80x512 : S32x4x1280x512.ShapeCasts S32x4x16x80x512
  bcast_S_S32x2048x1024 : S_.BroadcastsInDim S32x2048x1024 (![] : Fin 0 → Fin S32x2048x1024.rank)
  bcast_S_S32x2048x128 : S_.BroadcastsInDim S32x2048x128 (![] : Fin 0 → Fin S32x2048x128.rank)

variable [Facts]

noncomputable abbrev lit0 : Fin 10 → BitVec 32 := fun
  | 0 => 0#32 | 1 => 1#32 | 2 => 1#32 | 3 => 2#32 | 4 => 2#32 | 5 => 2#32 | 6 => 3#32 | 7 => 3#32
  | 8 => 3#32 | 9 => 3#32
  | _ => 0#32

noncomputable abbrev lit1 : Fin 10 → BitVec 32 := fun
  | 0 => 0#32 | 1 => 0#32 | 2 => 1#32 | 3 => 0#32 | 4 => 1#32 | 5 => 2#32 | 6 => 0#32 | 7 => 1#32
  | 8 => 2#32 | 9 => 3#32
  | _ => 0#32

def fn_part1 {F : FTy → Type} [FloatOps F] (main_arg1 : IVec S10 32) (main_arg3 : FVec F S32x2048x1024 .bf16) (main_arg5 : FVec F S32x2048x128 .f32) (main_c_0 : IVec S10 32) (main_v9 : IVec S32x4x2048x512 1) (main_v12 : IVec S32x4x16x80x512 1) (main_v13 : FVec F S32x4x2048x512 .f32) (main_v15 : FVec F S32x4x16x80x512 .f32) (main_v16 : IVec S10 1) : IVec S10 1 × IVec S10 1 × IVec S32x4x2048x512 1 × IVec S32x4x2048x512 1 × IVec S32x2048x1024 1 × IVec S32x4x16x80x512 1 × IVec S32x2048x128 1 :=
  let main_v17 : IVec S10 1 := cmpi .eq main_arg1 main_c_0
  let main_v18 : IVec S32x4x2048x512 1 := noti main_v9
  let main_cst : FVec F S_ .f32 := constant S_ .f32 0x00000000#32
  let main_v19 : FVec F S32x4x2048x512 .f32 := broadcastInDim S32x4x2048x512 ![] bcast_S_S32x4x2048x512 main_cst
  let main_v20 : IVec S32x4x2048x512 1 := cmpf .oeq main_v13 main_v19
  let main_v21 : IVec S32x4x2048x512 1 := ori main_v18 main_v20
  let main_v22 : FVec F S32x4x2048x512 .f32 := Host.absf main_v13
  let main_cst_6 : FVec F S_ .f32 := constant S_ .f32 0x7F800000#32
  let main_v23 : FVec F S32x4x2048x512 .f32 := broadcastInDim S32x4x2048x512 ![] bcast_S_S32x4x2048x512 main_cst_6
  let main_v24 : IVec S32x4x2048x512 1 := cmpf .olt main_v22 main_v23
  let main_v25 : FVec F S32x2048x1024 .f32 := (extf .f32 · bitsLt_bf16_f32) main_arg3
  let main_v26 : FVec F S32x2048x1024 .f32 := Host.absf main_v25
  let main_cst_7 : FVec F S_ .f32 := constant S_ .f32 0x7F800000#32
  let main_v27 : FVec F S32x2048x1024 .f32 := broadcastInDim S32x2048x1024 ![] bcast_S_S32x2048x1024 main_cst_7
  let main_v28 : IVec S32x2048x1024 1 := cmpf .olt main_v26 main_v27
  let main_v29 : IVec S32x4x16x80x512 1 := noti main_v12
  let main_cst_8 : FVec F S_ .f32 := constant S_ .f32 0x3F800000#32
  let main_v30 : FVec F S32x4x16x80x512 .f32 := broadcastInDim S32x4x16x80x512 ![] bcast_S_S32x4x16x80x512 main_cst_8
  let main_v31 : IVec S32x4x16x80x512 1 := cmpf .oeq main_v15 main_v30
  let main_v32 : IVec S32x4x16x80x512 1 := ori main_v29 main_v31
  let main_v33 : FVec F S32x2048x128 .f32 := Host.absf main_arg5
  let main_cst_9 : FVec F S_ .f32 := constant S_ .f32 0x7F800000#32
  let main_v34 : FVec F S32x2048x128 .f32 := broadcastInDim S32x2048x128 ![] bcast_S_S32x2048x128 main_cst_9
  let main_v35 : IVec S32x2048x128 1 := cmpf .olt main_v33 main_v34
  (main_v16, main_v17, main_v21, main_v24, main_v28, main_v32, main_v35)

def fn {F : FTy → Type} [FloatOps F] (main_arg0 : IVec S10 32) (main_arg1 : IVec S10 32) (main_arg2 : FVec F S32x4x2048x512 .bf16) (main_arg3 : FVec F S32x2048x1024 .bf16) (main_arg4 : FVec F S32x4x1280x512 .bf16) (main_arg5 : FVec F S32x2048x128 .f32) : IVec S10 1 × IVec S10 1 × IVec S32x4x2048x512 1 × IVec S32x4x2048x512 1 × IVec S32x2048x1024 1 × IVec S32x4x16x80x512 1 × IVec S32x2048x128 1 :=
  let main_c : IVec S10 32 := fun i => lit0 (S10.rowMajor i)
  let main_c_0 : IVec S10 32 := fun i => lit1 (S10.rowMajor i)
  let main_v0 : IVec S32x4x2048x512 32 := iotaInDim S32x4x2048x512 32 2
  let main_c_1 : IVec S_ 32 := constantI S_ 32 6#32
  let main_v1 : IVec S32x4x2048x512 32 := broadcastInDim S32x4x2048x512 ![] bcast_S_S32x4x2048x512 main_c_1
  let main_v2 : IVec S32x4x2048x512 32 := Host.shrsi main_v0 main_v1
  let main_c_2 : IVec S_ 32 := constantI S_ 32 1#32
  let main_v3 : IVec S32x4x2048x512 32 := broadcastInDim S32x4x2048x512 ![] bcast_S_S32x4x2048x512 main_c_2
  let main_v4 : IVec S32x4x2048x512 32 := andi main_v2 main_v3
  let main_c_3 : IVec S_ 32 := constantI S_ 32 7#32
  let main_v5 : IVec S32x4x2048x512 32 := broadcastInDim S32x4x2048x512 ![] bcast_S_S32x4x2048x512 main_c_3
  let main_v6 : IVec S32x4x2048x512 32 := Host.shrsi main_v0 main_v5
  let main_c_4 : IVec S_ 32 := constantI S_ 32 1#32
  let main_v7 : IVec S32x4x2048x512 32 := broadcastInDim S32x4x2048x512 ![] bcast_S_S32x4x2048x512 main_c_4
  let main_v8 : IVec S32x4x2048x512 32 := andi main_v6 main_v7
  let main_v9 : IVec S32x4x2048x512 1 := cmpi .ne main_v4 main_v8
  let main_v10 : IVec S32x4x16x80x512 32 := iotaInDim S32x4x16x80x512 32 3
  let main_c_5 : IVec S_ 32 := constantI S_ 32 64#32
  let main_v11 : IVec S32x4x16x80x512 32 := broadcastInDim S32x4x16x80x512 ![] bcast_S_S32x4x16x80x512 main_c_5
  let main_v12 : IVec S32x4x16x80x512 1 := cmpi .eq main_v10 main_v11
  let main_v13 : FVec F S32x4x2048x512 .f32 := (extf .f32 · bitsLt_bf16_f32) main_arg2
  let main_v14 : FVec F S32x4x1280x512 .f32 := (extf .f32 · bitsLt_bf16_f32) main_arg4
  let main_v15 : FVec F S32x4x16x80x512 .f32 := shapeCast S32x4x16x80x512 main_v14 shapeCasts_S32x4x1280x512_S32x4x16x80x512
  let main_v16 : IVec S10 1 := cmpi .eq main_arg0 main_c
  fn_part1 (F := F) main_arg1 main_arg3 main_arg5 main_c_0 main_v9 main_v12 main_v13 main_v15 main_v16
-- ==== Pre_tables.lean ====
abbrev S10 : Shape := ⟨1, ![10]⟩
abbrev S32x4x2048x512 : Shape := ⟨4, ![32, 4, 2048, 512]⟩
abbrev S32x2048x1024 : Shape := ⟨3, ![32, 2048, 1024]⟩
abbrev S32x4x1280x512 : Shape := ⟨4, ![32, 4, 1280, 512]⟩
abbrev S32x2048x128 : Shape := ⟨3, ![32, 2048, 128]⟩

class Facts : Prop where

variable [Facts]

noncomputable abbrev lit0 : Fin 10 → BitVec 32 := fun
  | 0 => 0#32 | 1 => 1#32 | 2 => 1#32 | 3 => 2#32 | 4 => 2#32 | 5 => 2#32 | 6 => 3#32 | 7 => 3#32
  | 8 => 3#32 | 9 => 3#32
  | _ => 0#32

noncomputable abbrev lit1 : Fin 10 → BitVec 32 := fun
  | 0 => 0#32 | 1 => 0#32 | 2 => 1#32 | 3 => 0#32 | 4 => 1#32 | 5 => 2#32 | 6 => 0#32 | 7 => 1#32
  | 8 => 2#32 | 9 => 3#32
  | _ => 0#32

def fn {F : FTy → Type} [FloatOps F] (main_arg0 : IVec S10 32) (main_arg1 : IVec S10 32) (main_arg2 : FVec F S32x4x2048x512 .bf16) (main_arg3 : FVec F S32x2048x1024 .bf16) (main_arg4 : FVec F S32x4x1280x512 .bf16) (main_arg5 : FVec F S32x2048x128 .f32) : IVec S10 1 × IVec S10 1 :=
  let main_c : IVec S10 32 := fun i => lit0 (S10.rowMajor i)
  let main_c_0 : IVec S10 32 := fun i => lit1 (S10.rowMajor i)
  let main_v0 : IVec S10 1 := cmpi .eq main_arg0 main_c
  let main_v1 : IVec S10 1 := cmpi .eq main_arg1 main_c_0
  (main_v0, main_v1)
-- ==== Kernel.lean ====
abbrev S10 : Shape := ⟨1, ![10]⟩
abbrev S32x4x2048x512 : Shape := ⟨4, ![32, 4, 2048, 512]⟩
abbrev S32x2048x1024 : Shape := ⟨3, ![32, 2048, 1024]⟩
abbrev S32x4x1280x512 : Shape := ⟨4, ![32, 4, 1280, 512]⟩
abbrev S32x2048x128 : Shape := ⟨3, ![32, 2048, 128]⟩
abbrev S1x1x2048x512 : Shape := ⟨4, ![1, 1, 2048, 512]⟩
abbrev S1 : Shape := ⟨1, ![1]⟩
abbrev S1x512x1024 : Shape := ⟨3, ![1, 512, 1024]⟩
abbrev S1x1x1280x512 : Shape := ⟨4, ![1, 1, 1280, 512]⟩
abbrev S1x512x128 : Shape := ⟨3, ![1, 512, 128]⟩
abbrev S16x512 : Shape := ⟨2, ![16, 512]⟩
abbrev S1280x512 : Shape := ⟨2, ![1280, 512]⟩
abbrev S512x128 : Shape := ⟨2, ![512, 128]⟩
abbrev S1x1x128x512 : Shape := ⟨4, ![1, 1, 128, 512]⟩
abbrev S128x512 : Shape := ⟨2, ![128, 512]⟩
abbrev S512x512 : Shape := ⟨2, ![512, 512]⟩
abbrev S1x512x1 : Shape := ⟨3, ![1, 512, 1]⟩
abbrev S512x1 : Shape := ⟨2, ![512, 1]⟩
abbrev S1x512 : Shape := ⟨2, ![1, 512]⟩
abbrev S512 : Shape := ⟨1, ![512]⟩
abbrev S80x512 : Shape := ⟨2, ![80, 512]⟩
abbrev S1x1x80x512 : Shape := ⟨4, ![1, 1, 80, 512]⟩
abbrev S64x512 : Shape := ⟨2, ![64, 512]⟩

abbrev nBuf : Space → Nat
  | .hbm => 5
  | .vmem => 12
  | .smem => 2
  | _ => 0

abbrev bufTy : (tb : Table) → Fin (tcTables nBuf tb) → BufTy
  | .hbm, ⟨0, _⟩ => ⟨S32x4x2048x512, .bf16⟩
  | .hbm, ⟨1, _⟩ => ⟨S32x2048x1024, .bf16⟩
  | .hbm, ⟨2, _⟩ => ⟨S32x4x1280x512, .bf16⟩
  | .hbm, ⟨3, _⟩ => ⟨S32x2048x128, .f32⟩
  | .hbm, ⟨4, _⟩ => ⟨S32x2048x1024, .bf16⟩
  | .local _ .vmem, ⟨0, _⟩ => ⟨S1x1x2048x512, .bf16⟩
  | .local _ .vmem, ⟨1, _⟩ => ⟨S1x1x2048x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1x1280x512, .bf16⟩
  | .local _ .vmem, ⟨5, _⟩ => ⟨S1x1x1280x512, .bf16⟩
  | .local _ .vmem, ⟨6, _⟩ => ⟨S1x512x128, .f32⟩
  | .local _ .vmem, ⟨7, _⟩ => ⟨S1x512x128, .f32⟩
  | .local _ .vmem, ⟨8, _⟩ => ⟨S1x512x1024, .bf16⟩
  | .local _ .vmem, ⟨9, _⟩ => ⟨S1x512x1024, .bf16⟩
  | .local _ .vmem, ⟨10, _⟩ => ⟨S16x512, .f32⟩
  | .local _ .vmem, ⟨11, _⟩ => ⟨S1280x512, .f32⟩
  | .local _ .smem, ⟨0, _⟩ => ⟨S10, .i32⟩
  | .local _ .smem, ⟨1, _⟩ => ⟨S10, .i32⟩
  | _, _ => ⟨S32x4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 10], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let c0_i32_8 : BitVec 32 := 0#32
  let c1_i32_6 : BitVec 32 := 1#32
  let v18 : BitVec 32 := Scalar.addi v1 c1_i32_6
  let c512_i32_7 : BitVec 32 := 512#32
  let v19 : BitVec 32 := Scalar.muli v18 c512_i32_7
  let v20 : BitVec 32 := Scalar.addi c0_i32_8 v19
  let c1_i32_9 : BitVec 32 := 1#32
  let v21 : BitVec 32 := Scalar.subi v20 c1_i32_9
  let c0_i32_11 : BitVec 32 := 0#32
  let v23 : BitVec 1 := Scalar.cmpi .sgt v21 c0_i32_11
  let v24 : BitVec 32 := Scalar.extui v23
  let c0_i32_12 : BitVec 32 := 0#32
  let v25 : BitVec 1 := Scalar.cmpi .slt v21 c0_i32_12
  let v26 : BitVec 32 := Scalar.extui v25
  let v27 : BitVec 32 := Scalar.subi v24 v26
  let c512_i32_10 : BitVec 32 := 512#32
  let c0_i32_13 : BitVec 32 := 0#32
  let v28 : BitVec 1 := Scalar.cmpi .sgt c512_i32_10 c0_i32_13
  let v29 : BitVec 32 := Scalar.extui v28
  let c0_i32_14 : BitVec 32 := 0#32
  let v30 : BitVec 1 := Scalar.cmpi .slt c512_i32_10 c0_i32_14
  let v31 : BitVec 32 := Scalar.extui v30
  let v32 : BitVec 32 := Scalar.subi v29 v31
  let v33 : BitVec 1 := Scalar.cmpi .ne v27 v32
  let v34 : BitVec 32 := Scalar.remsi v21 c512_i32_10
  let c0_i32_15 : BitVec 32 := 0#32
  let v35 : BitVec 1 := Scalar.cmpi .ne v34 c0_i32_15
  let v36 : BitVec 1 := Scalar.andi v33 v35
  let v22 : BitVec 32 := Scalar.divsi v21 c512_i32_10
  let c1_i32_16 : BitVec 32 := 1#32
  let v37 : BitVec 32 := Scalar.subi v22 c1_i32_16
  let v38 : BitVec 32 := Scalar.select v36 v37 v22
  let c3_i32 : BitVec 32 := 3#32
  let v39 : BitVec 32 := Scalar.minsi v38 c3_i32
  let v40 : BitVec 1 := Scalar.cmpi .eq v3 v39
  let v41 : BitVec 32 := Scalar.extui v40
  let c0_i32_17 : BitVec 32 := 0#32
  let v42 : BitVec 1 := Scalar.cmpi .ne v41 c0_i32_17
  v42

def cc0_transform_0 (k0_off1_inb : ∀ i : grid0.Coords, ∀ a, (k0_off1 i) a + S1.size a ≤ S10.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  let c0_i32_1 : BitVec 32 := 0#32
  ![arg0.toNat, v1.toNat, c0_i32.toNat, c0_i32_0.toNat]

def cc0_transform_1 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S10.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  let c0_i32_1 : BitVec 32 := 0#32
  ![arg0.toNat, v1.toNat, c0_i32.toNat, c0_i32_0.toNat]

def cc0_transform_3 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1280x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== Reference.lean ====
abbrev S10 : Shape := ⟨1, ![10]⟩
abbrev S32x4x2048x512 : Shape := ⟨4, ![32, 4, 2048, 512]⟩
abbrev S32x2048x1024 : Shape := ⟨3, ![32, 2048, 1024]⟩
abbrev S32x4x1280x512 : Shape := ⟨4, ![32, 4, 1280, 512]⟩
abbrev S32x2048x128 : Shape := ⟨3, ![32, 2048, 128]⟩
abbrev S32x4x16x128x512 : Shape := ⟨5, ![32, 4, 16, 128, 512]⟩
abbrev S32x4x512x16x128 : Shape := ⟨5, ![32, 4, 512, 16, 128]⟩
abbrev S32x2048x16x128 : Shape := ⟨4, ![32, 2048, 16, 128]⟩
abbrev S32x2048x16x64 : Shape := ⟨4, ![32, 2048, 16, 64]⟩
abbrev S_ : Shape := ⟨0, ![]⟩
abbrev S32x4x16x80x512 : Shape := ⟨5, ![32, 4, 16, 80, 512]⟩
abbrev S32x4x16x64x512 : Shape := ⟨5, ![32, 4, 16, 64, 512]⟩
abbrev S32x4x512x16x64 : Shape := ⟨5, ![32, 4, 512, 16, 64]⟩
abbrev S32x2048x16 : Shape := ⟨3, ![32, 2048, 16]⟩
abbrev S32x16x2048 : Shape := ⟨3, ![32, 16, 2048]⟩
abbrev S32x16x2048x2048 : Shape := ⟨4, ![32, 16, 2048, 2048]⟩
abbrev S32x16x2048x1 : Shape := ⟨4, ![32, 16, 2048, 1]⟩
abbrev S32x16x1x2048 : Shape := ⟨4, ![32, 16, 1, 2048]⟩
abbrev S2048x2048 : Shape := ⟨2, ![2048, 2048]⟩
abbrev S32x16x64x2048 : Shape := ⟨4, ![32, 16, 64, 2048]⟩

abbrev nBuf : Space → Nat
  | .hbm => 66
  | .vmem => 0
  | .smem => 0
  | _ => 0

abbrev bufTy : (tb : Table) → Fin (tcTables nBuf tb) → BufTy
  | .hbm, ⟨0, _⟩ => ⟨S10, .i32⟩
  | .hbm, ⟨1, _⟩ => ⟨S10, .i32⟩
  | .hbm, ⟨2, _⟩ => ⟨S32x4x2048x512, .bf16⟩
  | .hbm, ⟨3, _⟩ => ⟨S32x2048x1024, .bf16⟩
  | .hbm, ⟨4, _⟩ => ⟨S32x4x1280x512, .bf16⟩
  | .hbm, ⟨5, _⟩ => ⟨S32x2048x128, .f32⟩
  | .hbm, ⟨6, _⟩ => ⟨S32x4x2048x512, .f32⟩
  | .hbm, ⟨7, _⟩ => ⟨S32x4x16x128x512, .f32⟩
  | .hbm, ⟨8, _⟩ => ⟨S32x4x512x16x128, .f32⟩
  | .hbm, ⟨9, _⟩ => ⟨S32x2048x16x128, .f32⟩
  | .hbm, ⟨10, _⟩ => ⟨S32x2048x16x64, .i32⟩
  | .hbm, ⟨11, _⟩ => ⟨S_, .i32⟩
  | .hbm, ⟨12, _⟩ => ⟨S32x2048x16x64, .i32⟩
  | .hbm, ⟨13, _⟩ => ⟨S32x2048x16x64, .i32⟩
  | .hbm, ⟨14, _⟩ => ⟨S_, .i32⟩
  | .hbm, ⟨15, _⟩ => ⟨S32x2048x16x64, .i32⟩
  | .hbm, ⟨16, _⟩ => ⟨S32x2048x16x64, .i1⟩
  | .hbm, ⟨17, _⟩ => ⟨S32x2048x16x64, .f32⟩
  | .hbm, ⟨18, _⟩ => ⟨S32x2048x16x64, .f32⟩
  | .hbm, ⟨19, _⟩ => ⟨S32x2048x16x64, .f32⟩
  | .hbm, ⟨20, _⟩ => ⟨S32x2048x1024, .f32⟩
  | .hbm, ⟨21, _⟩ => ⟨S32x2048x16x64, .f32⟩
  | .hbm, ⟨22, _⟩ => ⟨S32x4x1280x512, .f32⟩
  | .hbm, ⟨23, _⟩ => ⟨S32x4x16x80x512, .f32⟩
  | .hbm, ⟨24, _⟩ => ⟨S32x4x16x64x512, .f32⟩
  | .hbm, ⟨25, _⟩ => ⟨S32x4x512x16x64, .f32⟩
  | .hbm, ⟨26, _⟩ => ⟨S32x2048x16x64, .f32⟩
  | .hbm, ⟨27, _⟩ => ⟨S32x2048x16, .f32⟩
  | .hbm, ⟨28, _⟩ => ⟨S32x16x2048, .f32⟩
  | .hbm, ⟨29, _⟩ => ⟨S32x16x2048x2048, .f32⟩
  | .hbm, ⟨30, _⟩ => ⟨S_, .f32⟩
  | .hbm, ⟨31, _⟩ => ⟨S_, .f32⟩
  | .hbm, ⟨32, _⟩ => ⟨S32x16x2048x2048, .f32⟩
  | .hbm, ⟨33, _⟩ => ⟨S32x16x2048x2048, .f32⟩
  | .hbm, ⟨34, _⟩ => ⟨S32x16x2048x1, .f32⟩
  | .hbm, ⟨35, _⟩ => ⟨S32x16x2048x2048, .f32⟩
  | .hbm, ⟨36, _⟩ => ⟨S32x16x2048x2048, .f32⟩
  | .hbm, ⟨37, _⟩ => ⟨S32x16x1x2048, .f32⟩
  | .hbm, ⟨38, _⟩ => ⟨S32x16x2048x2048, .f32⟩
  | .hbm, ⟨39, _⟩ => ⟨S32x16x2048x2048, .f32⟩
  | .hbm, ⟨40, _⟩ => ⟨S2048x2048, .i32⟩
  | .hbm, ⟨41, _⟩ => ⟨S2048x2048, .i32⟩
  | .hbm, ⟨42, _⟩ => ⟨S2048x2048, .i1⟩
  | .hbm, ⟨43, _⟩ => ⟨S_, .f32⟩
  | .hbm, ⟨44, _⟩ => ⟨S_, .f32⟩
  | .hbm, ⟨45, _⟩ => ⟨S32x16x2048x2048, .i1⟩
  | .hbm, ⟨46, _⟩ => ⟨S32x16x2048x2048, .f32⟩
  | .hbm, ⟨47, _⟩ => ⟨S32x16x2048x2048, .f32⟩
  | .hbm, ⟨48, _⟩ => ⟨S_, .f32⟩
  | .hbm, ⟨49, _⟩ => ⟨S32x16x2048, .f32⟩
  | .hbm, ⟨50, _⟩ => ⟨S_, .f32⟩
  | .hbm, ⟨51, _⟩ => ⟨S32x16x2048, .f32⟩
  | .hbm, ⟨52, _⟩ => ⟨S32x16x2048, .f32⟩
  | .hbm, ⟨53, _⟩ => ⟨S32x16x2048x1, .f32⟩
  | .hbm, ⟨54, _⟩ => ⟨S32x16x2048x2048, .f32⟩
  | .hbm, ⟨55, _⟩ => ⟨S32x16x2048x2048, .f32⟩
  | .hbm, ⟨56, _⟩ => ⟨S32x16x2048x2048, .f32⟩
  | .hbm, ⟨57, _⟩ => ⟨S_, .f32⟩
  | .hbm, ⟨58, _⟩ => ⟨S32x16x2048, .f32⟩
  | .hbm, ⟨59, _⟩ => ⟨S32x16x2048x1, .f32⟩
  | .hbm, ⟨60, _⟩ => ⟨S32x16x2048x2048, .f32⟩
  | .hbm, ⟨61, _⟩ => ⟨S32x16x2048x2048, .f32⟩
  | .hbm, ⟨62, _⟩ => ⟨S32x16x64x2048, .f32⟩
  | .hbm, ⟨63, _⟩ => ⟨S32x2048x16x64, .f32⟩
  | .hbm, ⟨64, _⟩ => ⟨S32x2048x1024, .f32⟩
  | .hbm, ⟨65, _⟩ => ⟨S32x2048x1024, .bf16⟩
  | _, _ => ⟨S10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Kernel2.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 40
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S1024x5632, .f32⟩
  | .hbm, ⟨21, _⟩ => ⟨S65536x5632, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S65536x2816, .f32⟩
  | .hbm, ⟨26, _⟩ => ⟨S_, .f32⟩
  | .hbm, ⟨27, _⟩ => ⟨S65536x2816, .f32⟩
  | .hbm, ⟨28, _⟩ => ⟨S65536x2816, .f32⟩
  | .hbm, ⟨29, _⟩ => ⟨S_, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S2816x1024, .f32⟩
  | .hbm, ⟨35, _⟩ => ⟨S65536x1024, .f32⟩
  | .hbm, ⟨36, _⟩ => ⟨S_, .f32⟩
  | .hbm, ⟨37, _⟩ => ⟨S65536x1024, .f32⟩
  | .hbm, ⟨38, _⟩ => ⟨S65536x1024, .f32⟩
  | .hbm, ⟨39, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel3.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 8
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S65536x1024, .bf16⟩
  | .hbm, ⟨5, _⟩ => ⟨S1024x1024, .bf16⟩
  | .hbm, ⟨6, _⟩ => ⟨S1x1024, .f32⟩
  | .hbm, ⟨7, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 46
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S65536x1024, .bf16⟩
  | .hbm, ⟨5, _⟩ => ⟨S1024x1024, .bf16⟩
  | .hbm, ⟨6, _⟩ => ⟨S65536x1024, .f32⟩
  | .hbm, ⟨7, _⟩ => ⟨S1024x1024, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1, .f32⟩
  | .hbm, ⟨21, _⟩ => ⟨S65536x1024, .f32⟩
  | .hbm, ⟨22, _⟩ => ⟨S65536x1024, .f32⟩
  | .hbm, ⟨23, _⟩ => ⟨S1x1024, .f32⟩
  | .hbm, ⟨24, _⟩ => ⟨S65536x1024, .f32⟩
  | .hbm, ⟨25, _⟩ => ⟨S65536x1024, .f32⟩
  | .hbm, ⟨26, _⟩ => ⟨S1024x5632, .f32⟩
  | .hbm, ⟨27, _⟩ => ⟨S65536x5632, .f32⟩
  | .hbm, ⟨28, _⟩ => ⟨S65536x2816, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S_, .f32⟩
  | .hbm, ⟨33, _⟩ => ⟨S65536x2816, .f32⟩
  | .hbm, ⟨34, _⟩ => ⟨S65536x2816, .f32⟩
  | .hbm, ⟨35, _⟩ => ⟨S_, .f32⟩
  | .hbm, ⟨36, _⟩ => ⟨S65536x2816, .f32⟩
  | .hbm, ⟨37, _⟩ => ⟨S65536x2816, .f32⟩
  | .hbm, ⟨38, _⟩ => ⟨S65536x2816, .f32⟩
  | .hbm, ⟨39, _⟩ => ⟨S65536x2816, .f32⟩
  | .hbm, ⟨40, _⟩ => ⟨S2816x1024, .f32⟩
  | .hbm, ⟨41, _⟩ => ⟨S65536x1024, .f32⟩
  | .hbm, ⟨42, _⟩ => ⟨S_, .f32⟩
  | .hbm, ⟨43, _⟩ => ⟨S65536x1024, .f32⟩
  | .hbm, ⟨44, _⟩ => ⟨S65536x1024, .f32⟩
  | .hbm, ⟨45, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Kernel4.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S65536x1024, .bf16⟩
  | .hbm, ⟨5, _⟩ => ⟨S1024x1024, .bf16⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 63
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S65536x1024, .bf16⟩
  | .hbm, ⟨5, _⟩ => ⟨S1024x1024, .bf16⟩
  | .hbm, ⟨6, _⟩ => ⟨S1024, .f32⟩
  | .hbm, ⟨7, _⟩ => ⟨S65536x1024, .f32⟩
  | .hbm, ⟨8, _⟩ => ⟨S1024x1024, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S65536x1, .f32⟩
  | .hbm, ⟨22, _⟩ => ⟨S65536x1024, .f32⟩
  | .hbm, ⟨23, _⟩ => ⟨S65536x1024, .f32⟩
  | .hbm, ⟨24, _⟩ => ⟨S1x1024, .f32⟩
  | .hbm, ⟨25, _⟩ => ⟨S65536x1024, .f32⟩
  | .hbm, ⟨26, _⟩ => ⟨S65536x1024, .f32⟩
  | .hbm, ⟨27, _⟩ => ⟨S1024x5632, .f32⟩
  | .hbm, ⟨28, _⟩ => ⟨S65536x5632, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S_, .f32⟩
  | .hbm, ⟨34, _⟩ => ⟨S65536x2816, .f32⟩
  | .hbm, ⟨35, _⟩ => ⟨S65536x2816, .f32⟩
  | .hbm, ⟨36, _⟩ => ⟨S_, .f32⟩
  | .hbm, ⟨37, _⟩ => ⟨S65536x2816, .f32⟩
  | .hbm, ⟨38, _⟩ => ⟨S65536x2816, .f32⟩
  | .hbm, ⟨39, _⟩ => ⟨S65536x2816, .f32⟩
  | .hbm, ⟨40, _⟩ => ⟨S65536x2816, .f32⟩
  | .hbm, ⟨41, _⟩ => ⟨S2816x1024, .f32⟩
  | .hbm, ⟨42, _⟩ => ⟨S65536x1024, .f32⟩
  | .hbm, ⟨43, _⟩ => ⟨S_, .f32⟩
  | .hbm, ⟨44, _⟩ => ⟨S65536x1024, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S_, .f32⟩
  | .hbm, ⟨49, _⟩ => ⟨S65536, .f32⟩
  | .hbm, ⟨50, _⟩ => ⟨S65536x1, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S_, .f32⟩
  | .hbm, ⟨55, _⟩ => ⟨S65536x1, .f32⟩
  | .hbm, ⟨56, _⟩ => ⟨S65536x1, .f32⟩
  | .hbm, ⟨57, _⟩ => ⟨S65536x1, .f32⟩
  | .hbm, ⟨58, _⟩ => ⟨S65536x1024, .f32⟩
  | .hbm, ⟨59, _⟩ => ⟨S65536x1024, .f32⟩
  | .hbm, ⟨60, _⟩ => ⟨S1x1024, .f32⟩
  | .hbm, ⟨61, _⟩ => ⟨S65536x1024, .f32⟩
  | .hbm, ⟨62, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== Kernel5.lean ====
abbrev S65536x1024 : Shape := ⟨2, ![65536, 1024]⟩
abbrev S1024 : Shape := ⟨1, ![1024]⟩
abbrev S1024x3072 : Shape := ⟨2, ![1024, 3072]⟩
abbrev S1024x1024 : Shape := ⟨2, ![1024, 1024]⟩
abbrev S1x1024 : Shape := ⟨2, ![1, 1024]⟩
abbrev S32x8x2048x256 : Shape := ⟨4, ![32, 8, 2048, 256]⟩
abbrev S65536x16x64 : Shape := ⟨3, ![65536, 16, 64]⟩
abbrev S32x8x1024x256 : Shape := ⟨4, ![32, 8, 1024, 256]⟩
abbrev S256x1024 : Shape := ⟨2, ![256, 1024]⟩
abbrev S1x1x2048x256 : Shape := ⟨4, ![1, 1, 2048, 256]⟩
abbrev S256x16x64 : Shape := ⟨3, ![256, 16, 64]⟩
abbrev S1x1x1024x256 : Shape := ⟨4, ![1, 1, 1024, 256]⟩
abbrev S256 : Shape := ⟨1, ![256]⟩
abbrev S256x1 : Shape := ⟨2, ![256, 1]⟩
abbrev S1024x256 : Shape := ⟨2, ![1024, 256]⟩
abbrev S64x256 : Shape := ⟨2, ![64, 256]⟩
abbrev S1x1x64x256 : Shape := ⟨4, ![1, 1, 64, 256]⟩

abbrev nBuf : Space → Nat
  | .hbm => 16
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S32x8x2048x256, .bf16⟩
  | .hbm, ⟨12, _⟩ => ⟨S65536x16x64, .f32⟩
  | .hbm, ⟨13, _⟩ => ⟨S65536x1024, .bf16⟩
  | .hbm, ⟨14, _⟩ => ⟨S65536x16x64, .f32⟩
  | .hbm, ⟨15, _⟩ => ⟨S32x8x1024x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1x2048x256, .bf16⟩
  | .local _ .vmem, ⟨8, _⟩ => ⟨S1x1x2048x256, .bf16⟩
  | .local _ .vmem, ⟨9, _⟩ => ⟨S256x16x64, .f32⟩
  | .local _ .vmem, ⟨10, _⟩ => ⟨S256x16x64, .f32⟩
  | .local _ .vmem, ⟨11, _⟩ => ⟨S256x1024, .bf16⟩
  | .local _ .vmem, ⟨12, _⟩ => ⟨S256x1024, .bf16⟩
  | .local _ .vmem, ⟨13, _⟩ => ⟨S256x16x64, .f32⟩
  | .local _ .vmem, ⟨14, _⟩ => ⟨S256x16x64, .f32⟩
  | .local _ .vmem, ⟨15, _⟩ => ⟨S1x1x1024x256, .bf16⟩
  | .local _ .vmem, ⟨16, _⟩ => ⟨S1x1x1024x256, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev main_v8_3 : Ref sig .tc := ⟨.hbm, 14, rfl⟩
abbrev main_v8_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x16x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x16x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5.lean ====
abbrev S65536x1024 : Shape := ⟨2, ![65536, 1024]⟩
abbrev S1024 : Shape := ⟨1, ![1024]⟩
abbrev S1024x3072 : Shape := ⟨2, ![1024, 3072]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3072 : Shape := ⟨2, ![65536, 3072]⟩
abbrev S16x2 : Shape := ⟨2, ![16, 2]⟩
abbrev S1x16x2x1 : Shape := ⟨4, ![1, 16, 2, 1]⟩
abbrev S65536x16x1x64 : Shape := ⟨4, ![65536, 16, 1, 64]⟩
abbrev S65536x16x2x64 : Shape := ⟨4, ![65536, 16, 2, 64]⟩
abbrev S32x8x256x2048 : Shape := ⟨4, ![32, 8, 256, 2048]⟩
abbrev S32x8x2048x256 : Shape := ⟨4, ![32, 8, 2048, 256]⟩
abbrev S65536x16x64 : Shape := ⟨3, ![65536, 16, 64]⟩
abbrev S32x8x256x1024 : Shape := ⟨4, ![32, 8, 256, 1024]⟩
abbrev S32x8x1024x256 : Shape := ⟨4, ![32, 8, 1024, 256]⟩

abbrev nBuf : Space → Nat
  | .hbm => 49
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x3072, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536x1024, .f32⟩
  | .hbm, ⟨25, _⟩ => ⟨S65536x1024, .f32⟩
  | .hbm, ⟨26, _⟩ => ⟨S16x2, .i32⟩
  | .hbm, ⟨27, _⟩ => ⟨S_, .i32⟩
  | .hbm, ⟨28, _⟩ => ⟨S16x2, .i32⟩
  | .hbm, ⟨29, _⟩ => ⟨S16x2, .i32⟩
  | .hbm, ⟨30, _⟩ => ⟨S16x2, .i32⟩
  | .hbm, ⟨31, _⟩ => ⟨S16x2, .i1⟩
  | .hbm, ⟨32, _⟩ => ⟨S1x16x2x1, .i1⟩
  | .hbm, ⟨33, _⟩ => ⟨S65536x16x1x64, .f32⟩
  | .hbm, ⟨34, _⟩ => ⟨S_, .f32⟩
  | .hbm, ⟨35, _⟩ => ⟨S_, .f32⟩
  | .hbm, ⟨36, _⟩ => ⟨S65536x16x2x64, .i1⟩
  | .hbm, ⟨37, _⟩ => ⟨S65536x16x2x64, .f32⟩
  | .hbm, ⟨38, _⟩ => ⟨S65536x16x2x64, .f32⟩
  | .hbm, ⟨39, _⟩ => ⟨S65536x16x2x64, .f32⟩
  | .hbm, ⟨40, _⟩ => ⟨S32x8x256x2048, .f32⟩
  | .hbm, ⟨41, _⟩ => ⟨S32x8x2048x256, .f32⟩
  | .hbm, ⟨42, _⟩ => ⟨S32x8x2048x256, .bf16⟩
  | .hbm, ⟨43, _⟩ => ⟨S65536x16x64, .f32⟩
  | .hbm, ⟨44, _⟩ => ⟨S65536x1024, .bf16⟩
  | .hbm, ⟨45, _⟩ => ⟨S65536x16x64, .f32⟩
  | .hbm, ⟨46, _⟩ => ⟨S32x8x256x1024, .f32⟩
  | .hbm, ⟨47, _⟩ => ⟨S32x8x1024x256, .f32⟩
  | .hbm, ⟨48, _⟩ => ⟨S32x8x1024x256, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel6.lean ====
abbrev S65536x1024 : Shape := ⟨2, ![65536, 1024]⟩
abbrev S1024 : Shape := ⟨1, ![1024]⟩
abbrev S1024x3088 : Shape := ⟨2, ![1024, 3088]⟩
abbrev S16 : Shape := ⟨1, ![16]⟩
abbrev S1024x1024 : Shape := ⟨2, ![1024, 1024]⟩
abbrev S1024x16 : Shape := ⟨2, ![1024, 16]⟩
abbrev S1x1024 : Shape := ⟨2, ![1, 1024]⟩
abbrev S1x16 : Shape := ⟨2, ![1, 16]⟩
abbrev S32x4x2048x512 : Shape := ⟨4, ![32, 4, 2048, 512]⟩
abbrev S65536x16x64 : Shape := ⟨3, ![65536, 16, 64]⟩
abbrev S32x4x1280x512 : Shape := ⟨4, ![32, 4, 1280, 512]⟩
abbrev S65536x16 : Shape := ⟨2, ![65536, 16]⟩
abbrev S512x1024 : Shape := ⟨2, ![512, 1024]⟩
abbrev S1x1x2048x512 : Shape := ⟨4, ![1, 1, 2048, 512]⟩
abbrev S512x16x64 : Shape := ⟨3, ![512, 16, 64]⟩
abbrev S1x1x1280x512 : Shape := ⟨4, ![1, 1, 1280, 512]⟩
abbrev S512x16 : Shape := ⟨2, ![512, 16]⟩
abbrev S512 : Shape := ⟨1, ![512]⟩
abbrev S512x1 : Shape := ⟨2, ![512, 1]⟩
abbrev S1024x512 : Shape := ⟨2, ![1024, 512]⟩
abbrev S64x512 : Shape := ⟨2, ![64, 512]⟩
abbrev S1x1x64x512 : Shape := ⟨4, ![1, 1, 64, 512]⟩
abbrev S16x512 : Shape := ⟨2, ![16, 512]⟩
abbrev S1x1x16x512 : Shape := ⟨4, ![1, 1, 16, 512]⟩

abbrev nBuf : Space → Nat
  | .hbm => 20
  | .vmem => 21
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S1024x3088, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x16, .bf16⟩
  | .hbm, ⟨12, _⟩ => ⟨S1x1024, .f32⟩
  | .hbm, ⟨13, _⟩ => ⟨S1x16, .f32⟩
  | .hbm, ⟨14, _⟩ => ⟨S32x4x2048x512, .bf16⟩
  | .hbm, ⟨15, _⟩ => ⟨S65536x16x64, .f32⟩
  | .hbm, ⟨16, _⟩ => ⟨S65536x1024, .bf16⟩
  | .hbm, ⟨17, _⟩ => ⟨S65536x16x64, .f32⟩
  | .hbm, ⟨18, _⟩ => ⟨S32x4x1280x512, .bf16⟩
  | .hbm, ⟨19, _⟩ => ⟨S65536x16, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x16, .bf16⟩
  | .local _ .vmem, ⟨8, _⟩ => ⟨S1x16, .f32⟩
  | .local _ .vmem, ⟨9, _⟩ => ⟨S1x1x2048x512, .bf16⟩
  | .local _ .vmem, ⟨10, _⟩ => ⟨S1x1x2048x512, .bf16⟩
  | .local _ .vmem, ⟨11, _⟩ => ⟨S512x16x64, .f32⟩
  | .local _ .vmem, ⟨12, _⟩ => ⟨S512x16x64, .f32⟩
  | .local _ .vmem, ⟨13, _⟩ => ⟨S512x1024, .bf16⟩
  | .local _ .vmem, ⟨14, _⟩ => ⟨S512x1024, .bf16⟩
  | .local _ .vmem, ⟨15, _⟩ => ⟨S512x16x64, .f32⟩
  | .local _ .vmem, ⟨16, _⟩ => ⟨S512x16x64, .f32⟩
  | .local _ .vmem, ⟨17, _⟩ => ⟨S1x1x1280x512, .bf16⟩
  | .local _ .vmem, ⟨18, _⟩ => ⟨S1x1x1280x512, .bf16⟩
  | .local _ .vmem, ⟨19, _⟩ => ⟨S512x16, .f32⟩
  | .local _ .vmem, ⟨20, _⟩ => ⟨S512x16, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v10_3 : Ref sig .tc := ⟨.hbm, 17, rfl⟩
abbrev main_v10_4 : Ref sig .tc := ⟨.hbm, 18, rfl⟩
abbrev main_v10_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x16x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x16x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1280x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6.lean ====
abbrev S65536x1024 : Shape := ⟨2, ![65536, 1024]⟩
abbrev S1024 : Shape := ⟨1, ![1024]⟩
abbrev S1024x3088 : Shape := ⟨2, ![1024, 3088]⟩
abbrev S16 : Shape := ⟨1, ![16]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3088 : Shape := ⟨2, ![65536, 3088]⟩
abbrev S65536x16 : Shape := ⟨2, ![65536, 16]⟩
abbrev S16x2 : Shape := ⟨2, ![16, 2]⟩
abbrev S1x16x2x1 : Shape := ⟨4, ![1, 16, 2, 1]⟩
abbrev S65536x16x1x64 : Shape := ⟨4, ![65536, 16, 1, 64]⟩
abbrev S65536x16x2x64 : Shape := ⟨4, ![65536, 16, 2, 64]⟩
abbrev S32x4x512x2048 : Shape := ⟨4, ![32, 4, 512, 2048]⟩
abbrev S32x4x2048x512 : Shape := ⟨4, ![32, 4, 2048, 512]⟩
abbrev S65536x16x64 : Shape := ⟨3, ![65536, 16, 64]⟩
abbrev S65536x16x80 : Shape := ⟨3, ![65536, 16, 80]⟩
abbrev S32x4x512x1280 : Shape := ⟨4, ![32, 4, 512, 1280]⟩
abbrev S32x4x1280x512 : Shape := ⟨4, ![32, 4, 1280, 512]⟩
abbrev S1x16 : Shape := ⟨2, ![1, 16]⟩

abbrev nBuf : Space → Nat
  | .hbm => 82
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x3088, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S65536x16, .f32⟩
  | .hbm, ⟨25, _⟩ => ⟨S_, .f32⟩
  | .hbm, ⟨26, _⟩ => ⟨S65536x1024, .f32⟩
  | .hbm, ⟨27, _⟩ => ⟨S65536x1024, .f32⟩
  | .hbm, ⟨28, _⟩ => ⟨S16x2, .i32⟩
  | .hbm, ⟨29, _⟩ => ⟨S_, .i32⟩
  | .hbm, ⟨30, _⟩ => ⟨S16x2, .i32⟩
  | .hbm, ⟨31, _⟩ => ⟨S16x2, .i32⟩
  | .hbm, ⟨32, _⟩ => ⟨S16x2, .i32⟩
  | .hbm, ⟨33, _⟩ => ⟨S16x2, .i1⟩
  | .hbm, ⟨34, _⟩ => ⟨S1x16x2x1, .i1⟩
  | .hbm, ⟨35, _⟩ => ⟨S65536x16x1x64, .f32⟩
  | .hbm, ⟨36, _⟩ => ⟨S_, .f32⟩
  | .hbm, ⟨37, _⟩ => ⟨S_, .f32⟩
  | .hbm, ⟨38, _⟩ => ⟨S65536x16x2x64, .i1⟩
  | .hbm, ⟨39, _⟩ => ⟨S65536x16x2x64, .f32⟩
  | .hbm, ⟨40, _⟩ => ⟨S65536x16x2x64, .f32⟩
  | .hbm, ⟨41, _⟩ => ⟨S65536x16x2x64, .f32⟩
  | .hbm, ⟨42, _⟩ => ⟨S32x4x512x2048, .f32⟩
  | .hbm, ⟨43, _⟩ => ⟨S32x4x2048x512, .f32⟩
  | .hbm, ⟨44, _⟩ => ⟨S32x4x2048x512, .bf16⟩
  | .hbm, ⟨45, _⟩ => ⟨S65536x16x64, .f32⟩
  | .hbm, ⟨46, _⟩ => ⟨S65536x1024, .bf16⟩
  | .hbm, ⟨47, _⟩ => ⟨S65536x16x64, .f32⟩
  | .hbm, ⟨48, _⟩ => ⟨S65536x16x64, .f32⟩
  | .hbm, ⟨49, _⟩ => ⟨S_, .i32⟩
  | .hbm, ⟨50, _⟩ => ⟨S_, .f32⟩
  | .hbm, ⟨51, _⟩ => ⟨S65536x16x80, .f32⟩
  | .hbm, ⟨52, _⟩ => ⟨S65536x16x80, .i32⟩
  | .hbm, ⟨53, _⟩ => ⟨S_, .i32⟩
  | .hbm, ⟨54, _⟩ => ⟨S65536x16x80, .i32⟩
  | .hbm, ⟨55, _⟩ => ⟨S65536x16x80, .i1⟩
  | .hbm, ⟨56, _⟩ => ⟨S_, .f32⟩
  | .hbm, ⟨57, _⟩ => ⟨S_, .f32⟩
  | .hbm, ⟨58, _⟩ => ⟨S65536x16x80, .f32⟩
  | .hbm, ⟨59, _⟩ => ⟨S65536x16x80, .f32⟩
  | .hbm, ⟨60, _⟩ => ⟨S32x4x512x1280, .f32⟩
  | .hbm, ⟨61, _⟩ => ⟨S32x4x1280x512, .f32⟩
  | .hbm, ⟨62, _⟩ => ⟨S32x4x1280x512, .bf16⟩
  | .hbm, ⟨63, _⟩ => ⟨S1x16, .f32⟩
  | .hbm, ⟨64, _⟩ => ⟨S65536x16, .f32⟩
  | .hbm, ⟨65, _⟩ => ⟨S65536x16, .f32⟩
  | .hbm, ⟨66, _⟩ => ⟨S65536x16, .f32⟩
  | .hbm, ⟨67, _⟩ => ⟨S_, .f32⟩
  | .hbm, ⟨68, _⟩ => ⟨S65536x16, .f32⟩
  | .hbm, ⟨69, _⟩ => ⟨S65536x16, .f32⟩
  | .hbm, ⟨70, _⟩ => ⟨S65536x16, .f32⟩
  | .hbm, ⟨71, _⟩ => ⟨S65536x16, .f32⟩
  | .hbm, ⟨72, _⟩ => ⟨S65536x16, .i1⟩
  | .hbm, ⟨73, _⟩ => ⟨S65536x16, .f32⟩
  | .hbm, ⟨74, _⟩ => ⟨S65536x16, .f32⟩
  | .hbm, ⟨75, _⟩ => ⟨S65536x16, .f32⟩
  | .hbm, ⟨76, _⟩ => ⟨S65536x16, .f32⟩
  | .hbm, ⟨77, _⟩ => ⟨S65536x16, .f32⟩
  | .hbm, ⟨78, _⟩ => ⟨S65536x16, .f32⟩
  | .hbm, ⟨79, _⟩ => ⟨S65536x16, .f32⟩
  | .hbm, ⟨80, _⟩ => ⟨S65536x16, .f32⟩
  | .hbm, ⟨81, _⟩ => ⟨S65536x16, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_call1_v0 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_call2_v0 : Ref sig .tc := ⟨.hbm, 57, rfl⟩
abbrev main_call2_v1 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call3_v0 : Ref sig .tc := ⟨.hbm, 66, rfl⟩
abbrev main_call3_call0_cst : Ref sig .tc := ⟨.hbm, 67, rfl⟩
abbrev main_call3_call0_v0 : Ref sig .tc := ⟨.hbm, 68, rfl⟩
abbrev main_call3_call0_v1 : Ref sig .tc := ⟨.hbm, 69, rfl⟩
abbrev main_call3_call0_v2 : Ref sig .tc := ⟨.hbm, 70, rfl⟩
abbrev main_call3_call0_v3 : Ref sig .tc := ⟨.hbm, 71, rfl⟩
abbrev main_call3_call0_v4 : Ref sig .tc := ⟨.hbm, 72, rfl⟩
abbrev main_call3_call0_v5 : Ref sig .tc := ⟨.hbm, 73, rfl⟩
abbrev main_call3_call0_v6 : Ref sig .tc := ⟨.hbm, 74, rfl⟩
abbrev main_call3_call0_v7 : Ref sig .tc := ⟨.hbm, 75, rfl⟩
abbrev main_call3_call0_v8 : Ref sig .tc := ⟨.hbm, 76, rfl⟩
abbrev main_call3_call0_v9 : Ref sig .tc := ⟨.hbm, 77, rfl⟩
abbrev main_call3_call0_v10 : Ref sig .tc := ⟨.hbm, 78, rfl⟩
abbrev main_call3_call0_v11 : Ref sig .tc := ⟨.hbm, 79, rfl⟩
abbrev main_call3_v1 : Ref sig .tc := ⟨.hbm, 80, rfl⟩
abbrev main_v46 : Ref sig .tc := ⟨.hbm, 81, rfl⟩

abbrev nD : Nat := 1
abbrev τ : Topo := Topo.v7x

variable {F : FTy → Type} [FloatOps F]
-- ==== Proof.Args.lean ====
module

public import proofs.«01_k».proof.Proof.Gen.Pre_call_args
public import proofs.«01_k».proof.Proof.Gen.Pre_tables
public import Idealize.ShloMosaic.Lib.Pointwise
public import Idealize.ShloMosaic.Lib.StableHlo.Predicate
public import Idealize.ShloMosaic.Lib.IdealHost

@[expose] public section

/-! # What the preconditions say

The two tables name the ten blocks on and below the diagonal; the half of each head's query slab that the head does not use is
zero; queries, keys and gates are finite; row 64 of each head's values is all ones. -/

set_option maxRecDepth 65536
set_option Elab.async false

noncomputable section

namespace Cert.Args

open Idealize.ShloMosaic

abbrev tab0 : List (BitVec 32) := [0, 1, 1, 2, 2, 2, 3, 3, 3, 3]
abbrev tab1 : List (BitVec 32) := [0, 0, 1, 0, 1, 2, 0, 1, 2, 3]

theorem tables_eq {F : FTy → Type} [FloatOps F] (x0 x1 : IVec Cert.Pre_tables.S10 32) (x2 : FVec F Cert.Pre_tables.S32x4x2048x512 .bf16)
    (x3 : FVec F Cert.Pre_tables.S32x2048x1024 .bf16) (x4 : FVec F Cert.Pre_tables.S32x4x1280x512 .bf16) (x5 : FVec F Cert.Pre_tables.S32x2048x128 .f32)
    (h : (Cert.Pre_tables.fn (F := F) x0 x1 x2 x3 x4 x5).1 = (fun _ => 1#1) ∧ (Cert.Pre_tables.fn (F := F) x0 x1 x2 x3 x4 x5).2 = (fun _ => 1#1)) :
    x0 = (fun x => tab0.getD (x 0).val 0) ∧ x1 = (fun x => tab1.getD (x 0).val 0) := by
  constructor
  · funext x
    have e : IntOp.cmpi .eq (x0 x) (Cert.Pre_tables.lit0 (Cert.Pre_tables.S10.rowMajor x)) = 1#1 := congrFun h.1 x
    rw [StableHlo.Predicate.cmpi_eq_iff] at e
    rw [e]; clear e
    revert x; decide +kernel
  · funext x
    have e : IntOp.cmpi .eq (x1 x) (Cert.Pre_tables.lit1 (Cert.Pre_tables.S10.rowMajor x)) = 1#1 := congrFun h.2 x
    rw [StableHlo.Predicate.cmpi_eq_iff] at e
    rw [e]; clear e
    revert x; decide +kernel

theorem args_tables (x0 x1 : IVec Cert.Pre_call_args.S10 32) (x2 : FVec Ideal Cert.Pre_call_args.S32x4x2048x512 .bf16)
    (x3 : FVec Ideal Cert.Pre_call_args.S32x2048x1024 .bf16) (x4 : FVec Ideal Cert.Pre_call_args.S32x4x1280x512 .bf16) (x5 : FVec Ideal Cert.Pre_call_args.S32x2048x128 .f32)
    (h0 : (Cert.Pre_call_args.fn (F := Ideal) x0 x1 x2 x3 x4 x5).1 = (fun _ => 1#1)) (h1 : (Cert.Pre_call_args.fn (F := Ideal) x0 x1 x2 x3 x4 x5).2.1 = (fun _ => 1#1)) :
    x0 = (fun x => tab0.getD (x 0).val 0) ∧ x1 = (fun x => tab1.getD (x 0).val 0) := by
  constructor
  · funext x
    have e : IntOp.cmpi .eq (x0 x) (Cert.Pre_call_args.lit0 (Cert.Pre_call_args.S10.rowMajor x)) = 1#1 := congrFun h0 x
    rw [StableHlo.Predicate.cmpi_eq_iff] at e
    rw [e]; clear e
    revert x; decide +kernel
  · funext x
    have e : IntOp.cmpi .eq (x1 x) (Cert.Pre_call_args.lit1 (Cert.Pre_call_args.S10.rowMajor x)) = 1#1 := congrFun h1 x
    rw [StableHlo.Predicate.cmpi_eq_iff] at e
    rw [e]; clear e
    revert x; decide +kernel

section Values

variable (x0 x1 : IVec Cert.Pre_call_args.S10 32) (x2 : FVec Ideal Cert.Pre_call_args.S32x4x2048x512 .bf16)
    (x3 : FVec Ideal Cert.Pre_call_args.S32x2048x1024 .bf16) (x4 : FVec Ideal Cert.Pre_call_args.S32x4x1280x512 .bf16) (x5 : FVec Ideal Cert.Pre_call_args.S32x2048x128 .f32)

theorem or_not (p q : BitVec 1) (h : IntOp.ori (~~~p) q = 1#1) (hp : p = 1#1) : q = 1#1 := by
  subst hp; revert q; decide

theorem oeq_eq (x y : EReal) (h : Ideal.cmp .oeq x y = 1#1) : x = y := by
  by_contra hne
  rw [Ideal.cmp, decide_eq_false hne] at h
  exact absurd h (by decide)

theorem olt_lt (x y : EReal) (h : Ideal.cmp .olt x y = 1#1) : x < y := by
  by_contra hne
  rw [Ideal.cmp, decide_eq_false hne] at h
  exact absurd h (by decide)

theorem pinf_eq : Ideal.ofBits .f32 0x7F800000#32 = ⊤ := by
  rw [Ideal.ofBits]; rfl

theorem real_of_abs (x : EReal) (h : Ideal.cmp .olt (max x (-x)) (Ideal.ofBits .f32 0x7F800000#32) = 1#1) : ∃ r : ℝ, x = r := by
  have := olt_lt _ _ h
  rw [pinf_eq] at this
  induction x using EReal.rec with
  | bot => exact absurd this (by simp)
  | top => exact absurd this (by simp)
  | coe r => exact ⟨r, rfl⟩

theorem half_bit (r : Fin 2048) (hr : r.val / 64 % 2 ≠ r.val / 128 % 2) :
    IntOp.cmpi .ne (IntOp.andi (IntOp.shrsi .host (BitVec.ofNat 32 r.val) 6#32) 1#32) (IntOp.andi (IntOp.shrsi .host (BitVec.ofNat 32 r.val) 7#32) 1#32) = 1#1 := by
  revert r; decide +kernel

/-- The half of a head's query slab that the head does not use is zero. -/
theorem query_zero (h : (Cert.Pre_call_args.fn (F := Ideal) x0 x1 x2 x3 x4 x5).2.2.1 = (fun _ => 1#1))
    (b : Fin 32) (a : Fin 4) (r : Fin 2048) (y : Fin 512) (hr : r.val / 64 % 2 ≠ r.val / 128 % 2) : x2 (ix4 b a r y) = (0 : EReal) := by
  have e := or_not _ _ (congrFun h (ix4 b a r y)) (half_bit r hr)
  exact (oeq_eq (x2 (ix4 b a r y)) (Ideal.ofBits .f32 0x00000000#32) e).trans Ideal.ofBits_zero_f32

theorem query_real (h : (Cert.Pre_call_args.fn (F := Ideal) x0 x1 x2 x3 x4 x5).2.2.2.1 = (fun _ => 1#1))
    (i : Cert.Pre_call_args.S32x4x2048x512.Idx) : ∃ r : ℝ, x2 i = (r : EReal) := real_of_abs _ (congrFun h i)

theorem key_real (h : (Cert.Pre_call_args.fn (F := Ideal) x0 x1 x2 x3 x4 x5).2.2.2.2.1 = (fun _ => 1#1))
    (i : Cert.Pre_call_args.S32x2048x1024.Idx) : ∃ r : ℝ, x3 i = (r : EReal) := real_of_abs _ (congrFun h i)

theorem gate_real (h : (Cert.Pre_call_args.fn (F := Ideal) x0 x1 x2 x3 x4 x5).2.2.2.2.2.2 = (fun _ => 1#1))
    (i : Cert.Pre_call_args.S32x2048x128.Idx) : ∃ r : ℝ, x5 i = (r : EReal) := real_of_abs _ (congrFun h i)

theorem cast_apply (v : FVec Ideal Cert.Pre_call_args.S32x4x1280x512 .f32) (b : Fin 32) (j : Fin 4) (hd : Fin 16) (r : Fin 80) (y : Fin 512) :
    shapeCast Cert.Pre_call_args.S32x4x16x80x512 v Cert.Pre_call_args.Gen.shapeCasts_S32x4x1280x512_S32x4x16x80x512 (ix5 b j hd r y)
      = v (ix4 b j (⟨80 * hd.val + r.val, by omega⟩ : Fin 1280) y) := by
  refine shapeCast_apply v _ _ _ ?_
  rw [Shape.rowMajor_val_four, Shape.rowMajor_val_five]
  show ((b.val * 4 + j.val) * 1280 + (80 * hd.val + r.val)) * 512 + y.val = (((b.val * 4 + j.val) * 16 + hd.val) * 80 + r.val) * 512 + y.val
  omega

/-- Row 64 of a head's values is all ones. -/
theorem ones_row (h : (Cert.Pre_call_args.fn (F := Ideal) x0 x1 x2 x3 x4 x5).2.2.2.2.2.1 = (fun _ => 1#1))
    (b : Fin 32) (j : Fin 4) (hd : Fin 16) (y : Fin 512) : x4 (ix4 b j (⟨80 * hd.val + 64, by omega⟩ : Fin 1280) y) = (1 : EReal) := by
  have e := or_not _ _ (congrFun h (ix5 b j hd (64 : Fin 80) y)) (by
    show IntOp.cmpi .eq (BitVec.ofNat 32 64) 64#32 = 1#1
    decide)
  have e2 := oeq_eq (shapeCast Cert.Pre_call_args.S32x4x16x80x512 (extf (F := Ideal) .f32 x4 Cert.Pre_call_args.Gen.bitsLt_bf16_f32)
      Cert.Pre_call_args.Gen.shapeCasts_S32x4x1280x512_S32x4x16x80x512 (ix5 b j hd (64 : Fin 80) y)) (Ideal.ofBits .f32 0x3F800000#32) e
  rw [cast_apply, Ideal.ofBits_one_f32] at e2
  exact e2

end Values

end Cert.Args

end
-- ==== Proof.Heads.lean ====
module

public import proofs.«01_k».proof.Proof.Gen.KernelIdeal.Flash.Runs

@[expose] public section

/-! # One head of the attention body, once

The body of the kernel treats its sixteen heads one after another, in four control paths. This module says what one head
does in terms of the blocks it loads, and that what each path leaves in the two scratch buffers and in the output block is
the list of the sixteen heads' stores. -/

set_option maxRecDepth 65536

noncomputable section

namespace Cert.KernelIdeal.Heads

open Cert.KernelIdeal Cert.KernelIdeal.Gen
open Idealize.ShloMosaic
open Idealize.ShloMosaic.TcCoe Idealize.ShloMosaic.Tactic
open Idealize.SL Idealize.SL.Sem

/-- The heads in the order the body treats them. -/
def heads : List (Fin 16) := [0, 1, 2, 3, 4, 5, 6, 7, 8, 9, 10, 11, 12, 13, 14, 15]

theorem inbM (h : Fin 16) : ∀ a : Fin 2, (![h.val, 0] : Fin 2 → ℕ) a + S1x512.size a ≤ S16x512.size a := by
  intro a; fin_cases a
  · show h.val + 1 ≤ 16; omega
  · show 0 + 512 ≤ 512; omega

theorem inbA (h : Fin 16) : ∀ a : Fin 2, (![80 * h.val, 0] : Fin 2 → ℕ) a + S80x512.size a ≤ S1280x512.size a := by
  intro a; fin_cases a
  · show 80 * h.val + 80 ≤ 1280; omega
  · show 0 + 512 ≤ 512; omega

theorem inbA64 (h : Fin 16) : ∀ a : Fin 2, (![80 * h.val, 0] : Fin 2 → ℕ) a + S64x512.size a ≤ S1280x512.size a := by
  intro a; fin_cases a
  · show 80 * h.val + 64 ≤ 1280; omega
  · show 0 + 512 ≤ 512; omega

theorem inbA1 (h : Fin 16) : ∀ a : Fin 2, (![80 * h.val + 64, 0] : Fin 2 → ℕ) a + S1x512.size a ≤ S1280x512.size a := by
  intro a; fin_cases a
  · show 80 * h.val + 64 + 1 ≤ 1280; omega
  · show 0 + 512 ≤ 512; omega

theorem inbQ (h : Fin 16) : ∀ a : Fin 4, (![0, 0, 128 * h.val, 0] : Fin 4 → ℕ) a + S1x1x128x512.size a ≤ S1x1x2048x512.size a := by
  intro a; fin_cases a
  · show 0 + 1 ≤ 1; omega
  · show 0 + 1 ≤ 1; omega
  · show 128 * h.val + 128 ≤ 2048; omega
  · show 0 + 512 ≤ 512; omega

theorem inbK (h : Fin 16) : ∀ a : Fin 3, (![0, 0, 128 * (h.val / 2)] : Fin 3 → ℕ) a + S1x512x128.size a ≤ S1x512x1024.size a := by
  intro a; fin_cases a
  · show 0 + 1 ≤ 1; omega
  · show 0 + 512 ≤ 512; omega
  · show 128 * (h.val / 2) + 128 ≤ 1024; omega

theorem inbV (h : Fin 16) : ∀ a : Fin 4, (![0, 0, 80 * h.val, 0] : Fin 4 → ℕ) a + S1x1x80x512.size a ≤ S1x1x1280x512.size a := by
  intro a; fin_cases a
  · show 0 + 1 ≤ 1; omega
  · show 0 + 1 ≤ 1; omega
  · show 80 * h.val + 80 ≤ 1280; omega
  · show 0 + 512 ≤ 512; omega

theorem inbC (h : Fin 16) : ∀ a : Fin 3, (![0, 0, h.val] : Fin 3 → ℕ) a + S1x512x1.size a ≤ S1x512x128.size a := by
  intro a; fin_cases a
  · show 0 + 1 ≤ 1; omega
  · show 0 + 512 ≤ 512; omega
  · show h.val + 1 ≤ 128; omega

theorem inbO (p : Fin 8) : ∀ a : Fin 3, (![0, 0, 128 * p.val] : Fin 3 → ℕ) a + S1x512x128.size a ≤ S1x512x1024.size a := by
  intro a; fin_cases a
  · show 0 + 1 ≤ 1; omega
  · show 0 + 512 ≤ 512; omega
  · show 128 * p.val + 128 ≤ 1024; omega

/-- Row `h` of the running maxima. -/
def rowM (h : Fin 16) : Rect S16x512 := Rect.unit (s := S16x512) ![h.val, 0] S1x512.size (inbM h)
/-- The eighty accumulator rows of head `h`: sixty-four values, the denominator and its padding. -/
def rowA (h : Fin 16) : Rect S1280x512 := Rect.unit (s := S1280x512) ![80 * h.val, 0] S80x512.size (inbA h)
/-- The value rows of head `h`. -/
def rowA64 (h : Fin 16) : Rect S1280x512 := Rect.unit (s := S1280x512) ![80 * h.val, 0] S64x512.size (inbA64 h)
/-- The denominator row of head `h`. -/
def rowA1 (h : Fin 16) : Rect S1280x512 := Rect.unit (s := S1280x512) ![80 * h.val + 64, 0] S1x512.size (inbA1 h)
def rectQ (h : Fin 16) : Rect S1x1x2048x512 := Rect.unit (s := S1x1x2048x512) ![0, 0, 128 * h.val, 0] S1x1x128x512.size (inbQ h)
def rectK (h : Fin 16) : Rect S1x512x1024 := Rect.unit (s := S1x512x1024) ![0, 0, 128 * (h.val / 2)] S1x512x128.size (inbK h)
def rectV (h : Fin 16) : Rect S1x1x1280x512 := Rect.unit (s := S1x1x1280x512) ![0, 0, 80 * h.val, 0] S1x1x80x512.size (inbV h)
def rectC (h : Fin 16) : Rect S1x512x128 := Rect.unit (s := S1x512x128) ![0, 0, h.val] S1x512x1.size (inbC h)
def rectO (p : Fin 8) : Rect S1x512x1024 := Rect.unit (s := S1x512x1024) ![0, 0, 128 * p.val] S1x512x128.size (inbO p)

/-- The scores of one head: keys against queries, the key's cumulative gate subtracted in units of log 2. -/
def score (q : Vec Ideal S1x1x128x512 .bf16) (k : Vec Ideal S1x512x128 .bf16) (c : Vec Ideal S1x512x1 .f32) : FVec Ideal S512x512 .f32 :=
  subf (matmul dot_S512x128_S128x512_S512x512_1_0_0_1_n_n none (shapeCast S512x128 k shapeCasts_S1x512x128_S512x128 : FVec Ideal S512x128 .bf16)
      (shapeCast S128x512 q shapeCasts_S1x1x128x512_S128x512 : FVec Ideal S128x512 .bf16) (constant S512x512 .f32 0x00000000#32))
    (broadcastTo S512x512 (mulf (shapeCast S512x1 c shapeCasts_S1x512x1_S512x1 : FVec Ideal S512x1 .f32)
      (broadcast S512x1 (Named.named κ "log2e" 0x3FB8AA3B#32))) broadcasts_S512x1_S512x512)

/-- The new running maximum of one head. -/
def maxNew (s : FVec Ideal S512x512 .f32) (mo : FVec Ideal S1x512 .f32) : FVec Ideal S1x512 .f32 :=
  maximumf mo (shapeCast S1x512 (multiReduction .maximumf [0] S512 s 0xFF800000#32 reduces_S512x512_S512 (.inl rfl) rfl) shapeCasts_S512_S1x512)

/-- What one head stores as its running maximum. -/
def mStore (s : FVec Ideal S512x512 .f32) (mo : FVec Ideal S1x512 .f32) : FVec Ideal S1x512 .f32 :=
  shapeCast S1x512 (maxNew s mo) shapeCasts_S1x512_S1x512

/-- What one head stores in its accumulator rows. -/
def aStore (s : FVec Ideal S512x512 .f32) (mo : FVec Ideal S1x512 .f32) (ao : FVec Ideal S80x512 .f32)
    (v : Vec Ideal S1x1x80x512 .bf16) : FVec Ideal S80x512 .f32 :=
  shapeCast S80x512 (addf (mulf (broadcastTo S80x512 (exp2 (subf mo (maxNew s mo))) broadcasts_S1x512_S80x512) ao)
    (matmul dot_S80x512_S512x512_S80x512_1_0_0_1_n_n none (shapeCast S80x512 v shapeCasts_S1x1x80x512_S80x512 : FVec Ideal S80x512 .bf16)
      (truncf .bf16 (exp2 (subf s (broadcastTo S512x512 (maxNew s mo) broadcasts_S1x512_S512x512))) bitsLt_bf16_f32)
      (constant S80x512 .f32 0x00000000#32))) shapeCasts_S80x512_S80x512

/-- What the epilogue stores for a pair of heads, from the accumulator rows of the two. -/
def oStore (a0 : Vec Ideal S64x512 .f32) (l0 : Vec Ideal S1x512 .f32) (a1 : Vec Ideal S64x512 .f32) (l1 : Vec Ideal S1x512 .f32) :
    FVec Ideal S1x512x128 .bf16 := k0_pay2 (F := Ideal) a0 l0 a1 l1

abbrev PM := View.Piece (Elt Ideal) S16x512 .f32
abbrev PA := View.Piece (Elt Ideal) S1280x512 .f32
abbrev PO := View.Piece (Elt Ideal) S1x512x1024 .bf16

/-- The sixteen heads' stores, last first, over lists already there: `S` the heads' scores, `V` their value blocks,
    `lm`, `la` how a head reads the running maximum and the accumulator. -/
def build (S : Fin 16 → FVec Ideal S512x512 .f32) (V : Fin 16 → Vec Ideal S1x1x80x512 .bf16)
    (lm : List PM → Fin 16 → FVec Ideal S1x512 .f32) (la : List PA → Fin 16 → FVec Ideal S80x512 .f32)
    (L0 : List PM × List PA) : List PM × List PA :=
  heads.foldl (fun L h => (⟨rowM h, mStore (S h) (lm L.1 h)⟩ :: L.1, ⟨rowA h, aStore (S h) (lm L.1 h) (la L.2 h) (V h)⟩ :: L.2)) L0

/-- Reading back what the first step of a row has already stored. -/
def lmNew (L : List PM) (h : Fin 16) : FVec Ideal S1x512 .f32 := scM0_0.view.readCov L (rowM h).toLoadRect
def laNew (L : List PA) (h : Fin 16) : FVec Ideal S80x512 .f32 := scM0_1.view.readCov L (rowA h).toLoadRect
/-- Reading what the step before left. -/
def lmOld (c : Dev nD) (xa0 : Buf (Elt Ideal) ((c : Thread nD τ).loc cc0_scratch0)) (_ : List PM) (h : Fin 16) : FVec Ideal S1x512 .f32 :=
  View.readAt (Elt Ideal) scM0_0.view (rowM h).toLoadRect xa0
def laOld (c : Dev nD) (xa1 : Buf (Elt Ideal) ((c : Thread nD τ).loc cc0_scratch1)) (_ : List PA) (h : Fin 16) : FVec Ideal S80x512 .f32 :=
  View.readAt (Elt Ideal) scM0_1.view (rowA h).toLoadRect xa1

/-- The two buffers cleared: the first store of a row. -/
def clear : List PM × List PA :=
  ([⟨Rect.unit (s := S16x512) ![0, 0] S16x512.size inb_S16x512_S16x512_0_0, k0_pay205 (F := Ideal)⟩],
   [⟨Rect.unit (s := S1280x512) ![0, 0] S1280x512.size inb_S1280x512_S1280x512_0_0, k0_pay206 (F := Ideal)⟩])

/-- The eight output stores, from what the accumulator holds at the end. -/
def outs (LA : List PA) : List PO :=
  ([7, 6, 5, 4, 3, 2, 1, 0] : List (Fin 8)).map fun p =>
    ⟨rectO p, oStore (scM0_1.view.readCov LA (rowA64 ⟨2 * p.val, by omega⟩).toLoadRect)
      (scM0_1.view.readCov LA (rowA1 ⟨2 * p.val, by omega⟩).toLoadRect)
      (scM0_1.view.readCov LA (rowA64 ⟨2 * p.val + 1, by omega⟩).toLoadRect)
      (scM0_1.view.readCov LA (rowA1 ⟨2 * p.val + 1, by omega⟩).toLoadRect)⟩

section
variable (arg4 : Memref sig .tc .vmem S1x1x2048x512 .bf16) (arg5 : Memref sig .tc .vmem S1x512x1024 .bf16)
  (arg6 : Memref sig .tc .vmem S1x1x1280x512 .bf16) (arg7 : Memref sig .tc .vmem S1x512x128 .f32)
  (x0 : (S1x1x2048x512.Idx → Elt Ideal .bf16)) (x1 : (S1x512x1024.Idx → Elt Ideal .bf16))
  (x2 : (S1x1x1280x512.Idx → Elt Ideal .bf16)) (x3 : (S1x512x128.Idx → Elt Ideal .f32))

/-- The scores of head `h` of the blocks in the staging buffers. -/
def scoreB (h : Fin 16) : FVec Ideal S512x512 .f32 :=
  score (View.readAt (Elt Ideal) arg4.view (rectQ h).toLoadRect (arg4.view.rep x0))
    (View.readAt (Elt Ideal) arg5.view (rectK h).toLoadRect (arg5.view.rep x1))
    (View.readAt (Elt Ideal) arg7.view (rectC h).toLoadRect (arg7.view.rep x3))

/-- The value block of head `h`. -/
def valB (h : Fin 16) : Vec Ideal S1x1x80x512 .bf16 :=
  View.readAt (Elt Ideal) arg6.view (rectV h).toLoadRect (arg6.view.rep x2)
end

/-- The word the body reads from a table at a point. -/
def word0 (i : grid0.Coords) (T0 : (S10.Idx → Elt Ideal .i32)) : BitVec 32 :=
  View.readAt (Elt Ideal) (tbM0_0).view (Rect.unit (s := S10) (k0_off1 i) S1.size (k0_off1_inb i)).toLoadRect T0 (Shape.Idx.first (numel1_S1.symm ▸ Nat.one_pos))
def word1 (i : grid0.Coords) (T1 : (S10.Idx → Elt Ideal .i32)) : BitVec 32 :=
  View.readAt (Elt Ideal) (tbM0_1).view (Rect.unit (s := S10) (k0_off1 i) S1.size (k0_off1_inb i)).toLoadRect T1 (Shape.Idx.first (numel1_S1.symm ▸ Nat.one_pos))

/-- The causal mask of a diagonal block, added to the scores. -/
def maskB (i : grid0.Coords) (T0 T1 : (S10.Idx → Elt Ideal .i32)) : FVec Ideal S512x512 .f32 :=
  k0_pay100 (F := Ideal) (word1 i T1) (Scalar.addi 0#32 (Scalar.muli (word0 i T0) 512#32))

end Cert.KernelIdeal.Heads
end
end
-- ==== Proof.Paths.lean ====
module

public import proofs.«01_k».proof.Proof.Heads

@[expose] public section

/-! # What the four control paths leave, head by head -/

set_option maxRecDepth 65536
set_option Elab.async false

noncomputable section

namespace Cert.KernelIdeal.Heads

open Cert.KernelIdeal Cert.KernelIdeal.Gen
open Idealize.ShloMosaic
open Idealize.ShloMosaic.TcCoe Idealize.ShloMosaic.Tactic
open Idealize.SL Idealize.SL.Sem

variable (c : Dev nD) (i : grid0.Coords) (arg4 : Memref sig .tc .vmem S1x1x2048x512 .bf16) (arg5 : Memref sig .tc .vmem S1x512x1024 .bf16)
  (arg6 : Memref sig .tc .vmem S1x1x1280x512 .bf16) (arg7 : Memref sig .tc .vmem S1x512x128 .f32)
  (T0 T1 : (S10.Idx → Elt Ideal .i32))
  (x0 : (S1x1x2048x512.Idx → Elt Ideal .bf16)) (x1 : (S1x512x1024.Idx → Elt Ideal .bf16))
  (x2 : (S1x1x1280x512.Idx → Elt Ideal .bf16)) (x3 : (S1x512x128.Idx → Elt Ideal .f32))
  (xa0 : Buf (Elt Ideal) ((c : Thread nD τ).loc cc0_scratch0)) (xa1 : Buf (Elt Ideal) ((c : Thread nD τ).loc cc0_scratch1))

/-- The scores of head `h` with the diagonal block's mask. -/
def scoreM (h : Fin 16) : FVec Ideal S512x512 .f32 := addf (scoreB arg4 arg5 arg7 x0 x1 x3 h) (maskB i T0 T1)

/-- First and last step of a row at once: cleared, masked. -/
def listsA : List PM × List PA := build (scoreM i arg4 arg5 arg7 T0 T1 x0 x1 x3) (valB arg6 x2) lmNew laNew clear
/-- First step of a row: cleared, nothing masked. -/
def listsB : List PM × List PA := build (scoreB arg4 arg5 arg7 x0 x1 x3) (valB arg6 x2) lmNew laNew clear
/-- Last step of a row: masked. -/
def listsC : List PM × List PA := build (scoreM i arg4 arg5 arg7 T0 T1 x0 x1 x3) (valB arg6 x2) (lmOld c xa0) (laOld c xa1) ([], [])
/-- A step between: nothing masked. -/
def listsD : List PM × List PA := build (scoreB arg4 arg5 arg7 x0 x1 x3) (valB arg6 x2) (lmOld c xa0) (laOld c xa1) ([], [])

theorem d_m : kernelRun0_D.sl.HS0_16 c arg4 arg5 arg7 x0 x1 x3 xa0 = (listsD c arg4 arg5 arg6 arg7 x0 x1 x2 x3 xa0 xa1).1 := by sl_kernel_rfl
theorem d_a : kernelRun0_D.sl.HS1_16 c arg4 arg5 arg6 arg7 x0 x1 x2 x3 xa0 xa1 = (listsD c arg4 arg5 arg6 arg7 x0 x1 x2 x3 xa0 xa1).2 := by sl_kernel_rfl
theorem c_m : kernelRun0_C.sl.HS0_16 c i arg4 arg5 arg7 T0 T1 x0 x1 x3 xa0 = (listsC c i arg4 arg5 arg6 arg7 T0 T1 x0 x1 x2 x3 xa0 xa1).1 := by sl_kernel_rfl
theorem c_a : kernelRun0_C.sl.HS1_16 c i arg4 arg5 arg6 arg7 T0 T1 x0 x1 x2 x3 xa0 xa1 = (listsC c i arg4 arg5 arg6 arg7 T0 T1 x0 x1 x2 x3 xa0 xa1).2 := by sl_kernel_rfl
theorem c_o : kernelRun0_C.sl.HO4_8 c i arg4 arg5 arg6 arg7 T0 T1 x0 x1 x2 x3 xa0 xa1
    = outs (kernelRun0_C.sl.HS1_16 c i arg4 arg5 arg6 arg7 T0 T1 x0 x1 x2 x3 xa0 xa1) := by sl_kernel_rfl
theorem b_m : kernelRun0_B.sl.HS0_17 arg4 arg5 arg7 x0 x1 x3 = (listsB arg4 arg5 arg6 arg7 x0 x1 x2 x3).1 := by sl_kernel_rfl
theorem b_a : kernelRun0_B.sl.HS1_17 arg4 arg5 arg6 arg7 x0 x1 x2 x3 = (listsB arg4 arg5 arg6 arg7 x0 x1 x2 x3).2 := by sl_kernel_rfl
theorem a_m : kernelRun0_A.sl.HS0_17 i arg4 arg5 arg7 T0 T1 x0 x1 x3 = (listsA i arg4 arg5 arg6 arg7 T0 T1 x0 x1 x2 x3).1 := by sl_kernel_rfl
theorem a_a : kernelRun0_A.sl.HS1_17 i arg4 arg5 arg6 arg7 T0 T1 x0 x1 x2 x3 = (listsA i arg4 arg5 arg6 arg7 T0 T1 x0 x1 x2 x3).2 := by sl_kernel_rfl
theorem a_o : kernelRun0_A.sl.HO4_8 i arg4 arg5 arg6 arg7 T0 T1 x0 x1 x2 x3
    = outs (kernelRun0_A.sl.HS1_17 i arg4 arg5 arg6 arg7 T0 T1 x0 x1 x2 x3) := by sl_kernel_rfl

end Cert.KernelIdeal.Heads
end
end
-- ==== Proof.State.lean ====
module

public import proofs.«01_k».proof.Proof.Paths
public import Idealize.ShloMosaic.Lib.Pointwise

@[expose] public section

/-! # What one step leaves, element by element -/

set_option maxRecDepth 16384

noncomputable section

namespace Cert.KernelIdeal.Heads

open Cert.KernelIdeal Cert.KernelIdeal.Gen
open Idealize.ShloMosaic
open Idealize.ShloMosaic.TcCoe Idealize.ShloMosaic.Tactic
open Idealize.SL Idealize.SL.Sem

/-! ## One head's stores at an index -/

theorem log2e_eq : (Named.named (F := Ideal) (φ := .f32) κ "log2e" 0x3FB8AA3B#32 : EReal) = (((Real.log 2)⁻¹ : ℝ) : EReal) := rfl
theorem mask_eq : (Named.named (F := Ideal) (φ := .f32) κ "mask" 0xF149F2CA#32 : EReal) = ⊥ := rfl
theorem ninf_eq : Ideal.ofBits .f32 0xFF800000#32 = ⊥ := by
  rw [Ideal.ofBits]; rfl

theorem score_apply (q : Vec Ideal S1x1x128x512 .bf16) (k : Vec Ideal S1x512x128 .bf16) (c : Vec Ideal S1x512x1 .f32) (r y : Fin 512) :
    score q k c (ix2 r y) = (∑ d : Fin 128, k (ix3 0 r d) * q (ix4 0 0 d y) : EReal) - c (ix3 0 r 0) * (((Real.log 2)⁻¹ : ℝ) : EReal) := by
  pointwise [score]
  rw [← log2e_eq]

theorem mStore_apply (s : FVec Ideal S512x512 .f32) (mo : FVec Ideal S1x512 .f32) (y : Fin 512) :
    mStore s mo (ix2 0 y) = max (mo (ix2 0 y)) (Finset.univ.fold max ⊥ fun k : Fin 512 => (s (ix2 k y) : EReal)) := by
  pointwise [mStore, maxNew]
  rw [← ninf_eq]

theorem aStore_apply (s : FVec Ideal S512x512 .f32) (mo : FVec Ideal S1x512 .f32) (ao : FVec Ideal S80x512 .f32)
    (v : Vec Ideal S1x1x80x512 .bf16) (r : Fin 80) (y : Fin 512) :
    aStore s mo ao v (ix2 r y) = Ideal.exp2 (mo (ix2 0 y) - mStore s mo (ix2 0 y) : EReal) * ao (ix2 r y)
      + ∑ k : Fin 512, v (ix4 0 0 r k) * Ideal.exp2 (s (ix2 k y) - mStore s mo (ix2 0 y) : EReal) := by
  pointwise [aStore, mStore, maxNew]
  rfl

theorem oStore_apply (a0 : Vec Ideal S64x512 .f32) (l0 : Vec Ideal S1x512 .f32) (a1 : Vec Ideal S64x512 .f32) (l1 : Vec Ideal S1x512 .f32)
    (y : Fin 512) (d : Fin 128) :
    oStore a0 l0 a1 l1 (ix3 0 y d) = if h : d.val < 64 then Ideal.div (a0 (ix2 ⟨d.val, h⟩ y)) (l0 (ix2 0 y))
      else Ideal.div (a1 (ix2 ⟨d.val - 64, by omega⟩ y)) (l1 (ix2 0 y)) := by
  pointwise [oStore, k0_pay2]

/-- The comparison of two positions below 2 ^ 31. -/
theorem sle_word (a b : ℕ) (ha : a < 2 ^ 31) (hb : b < 2 ^ 31) :
    IntOp.cmpi .sle (BitVec.ofNat 32 a) (BitVec.ofNat 32 b) = if a ≤ b then 1#1 else 0#1 := by
  have ea : (BitVec.ofNat 32 a).toInt = a := by
    rw [BitVec.toInt_eq_toNat_of_lt] <;> rw [BitVec.toNat_ofNat, Nat.mod_eq_of_lt (by omega)]
    omega
  have eb : (BitVec.ofNat 32 b).toInt = b := by
    rw [BitVec.toInt_eq_toNat_of_lt] <;> rw [BitVec.toNat_ofNat, Nat.mod_eq_of_lt (by omega)]
    omega
  simp only [IntOp.cmpi, BitVec.sle, ea, eb, Nat.cast_le]
  split <;> simp [*]

/-- The mask of a diagonal block at key `r` and query `y`: the two words of the tables are the block's numbers. -/
theorem maskB_apply (i : grid0.Coords) (T0 T1 : (S10.Idx → Elt Ideal .i32)) (a b : ℕ) (ha : a < 4) (hb : b < 4)
    (h0 : word0 i T0 = BitVec.ofNat 32 a) (h1 : word1 i T1 = BitVec.ofNat 32 b) (r y : Fin 512) :
    maskB i T0 T1 (ix2 r y) = if 512 * b + r.val ≤ 512 * a + y.val then (0 : EReal) else ⊥ := by
  have e1 : IntOp.addi (Scalar.muli (word1 i T1) 512#32) (BitVec.ofNat 32 r.val) = BitVec.ofNat 32 (512 * b + r.val) := by
    rw [h1]; show BitVec.ofNat 32 b * 512#32 + BitVec.ofNat 32 r.val = _
    apply BitVec.eq_of_toNat_eq; simp only [BitVec.toNat_add, BitVec.toNat_mul, BitVec.toNat_ofNat]; omega
  have e0 : IntOp.addi (Scalar.addi (0#32) (Scalar.muli (word0 i T0) 512#32)) (BitVec.ofNat 32 y.val) = BitVec.ofNat 32 (512 * a + y.val) := by
    rw [h0]; show 0#32 + BitVec.ofNat 32 a * 512#32 + BitVec.ofNat 32 y.val = _
    apply BitVec.eq_of_toNat_eq; simp only [BitVec.toNat_add, BitVec.toNat_mul, BitVec.toNat_ofNat]; omega
  pointwise [maskB, k0_pay100]
  rw [e0, e1, sle_word _ _ (by omega) (by omega), mask_eq]
  split <;> rfl

theorem clear_m (x : S16x512.Idx) : k0_pay205 (F := Ideal) x = (⊥ : EReal) := by
  pointwise [k0_pay205]
  rfl
theorem clear_a (x : S1280x512.Idx) : k0_pay206 (F := Ideal) x = (0 : EReal) := by
  pointwise [k0_pay206]

/-! ## The sixteen heads' stores -/

theorem rowM_emb (h : Fin 16) (y : Fin 512) : (rowM h).emb (ix2 0 y) = ix2 h y := by
  funext a; apply Fin.ext
  match a with
  | ⟨0, _⟩ => show h.val + 1 * 0 = h.val; omega
  | ⟨1, _⟩ => show 0 + 1 * y.val = y.val; omega

/-- Row `r` of head `h` in the accumulator. -/
def arow (h : Fin 16) (r : Fin 80) : Fin 1280 := ⟨80 * h.val + r.val, by omega⟩

theorem rowA_emb (h : Fin 16) (r : Fin 80) (y : Fin 512) : (rowA h).emb (ix2 r y) = ix2 (arow h r) y := by
  funext a; apply Fin.ext
  match a with
  | ⟨0, _⟩ => show 80 * h.val + 1 * r.val = 80 * h.val + r.val; omega
  | ⟨1, _⟩ => show 0 + 1 * y.val = y.val; omega

theorem not_mem_rowM (h h' : Fin 16) (hne : h ≠ h') (x) : (rowM h).emb x ∉ (rowM h').set := by
  have h0 : (x 0).val < 1 := (x 0).isLt
  have hne' : h.val ≠ h'.val := fun e => hne (Fin.ext e)
  refine Rect.not_mem_set_of_axis (rowM h') _ (0 : Fin 2) h'.val 1 rfl rfl rfl ?_
  show h.val + 1 * (x 0).val < h'.val ∨ h'.val + 1 ≤ h.val + 1 * (x 0).val
  omega

theorem not_mem_rowA (h h' : Fin 16) (hne : h ≠ h') (x) : (rowA h).emb x ∉ (rowA h').set := by
  have h0 : (x 0).val < 80 := (x 0).isLt
  have hne' : h.val ≠ h'.val := fun e => hne (Fin.ext e)
  refine Rect.not_mem_set_of_axis (rowA h') _ (0 : Fin 2) (80 * h'.val) 80 rfl rfl rfl ?_
  show 80 * h.val + 1 * (x 0).val < 80 * h'.val ∨ 80 * h'.val + 80 ≤ 80 * h.val + 1 * (x 0).val
  omega

section
variable {s1 s2 : Shape} {e1 e2 : EltTy} {Val : EltTy → Type} [∀ e, Nonempty (Val e)]
  (RM : Fin 16 → Rect s1) (RA : Fin 16 → Rect s2) {TM TA : Type}
  (wm : ∀ h, TM → (RM h).shape.Idx → Val e1) (wa : ∀ h, TM → TA → (RA h).shape.Idx → Val e2)
  (lm : List (View.Piece Val s1 e1) → Fin 16 → TM) (la : List (View.Piece Val s2 e2) → Fin 16 → TA)
  (mo : Fin 16 → TM) (ao : Fin 16 → TA)
  (okM : List (View.Piece Val s1 e1) → Fin 16 → Prop) (okA : List (View.Piece Val s2 e2) → Fin 16 → Prop)

/-- One head's two stores on top of the lists so far. -/
def push (L : List (View.Piece Val s1 e1) × List (View.Piece Val s2 e2)) (h : Fin 16) :
    List (View.Piece Val s1 e1) × List (View.Piece Val s2 e2) :=
  (⟨RM h, wm h (lm L.1 h)⟩ :: L.1, ⟨RA h, wa h (lm L.1 h) (la L.2 h)⟩ :: L.2)

/-- The stores leave in each head's rows what that head stores, when every head reads the old contents of its own rows
    (`ok`: the pieces so far leave that head's rows as they were). -/
theorem foldl_read (dM : ∀ h h', h ≠ h' → ∀ x, (RM h).emb x ∉ (RM h').set) (dA : ∀ h h', h ≠ h' → ∀ x, (RA h).emb x ∉ (RA h').set)
    (hokM : ∀ L h h' w, h ≠ h' → okM L h → okM (⟨RM h', w⟩ :: L) h)
    (hokA : ∀ L h h' w, h ≠ h' → okA L h → okA (⟨RA h', w⟩ :: L) h)
    (hlm : ∀ L h, okM L h → lm L h = mo h) (hla : ∀ L h, okA L h → la L h = ao h) :
    ∀ (l : List (Fin 16)) (_ : l.Nodup) (L : List (View.Piece Val s1 e1) × List (View.Piece Val s2 e2))
      (_ : ∀ h ∈ l, okM L.1 h ∧ okA L.2 h),
      (∀ h ∈ l, (∀ x, View.canon (l.foldl (push RM RA wm wa lm la) L).1 ((RM h).emb x) = wm h (mo h) x)
        ∧ ∀ x, View.canon (l.foldl (push RM RA wm wa lm la) L).2 ((RA h).emb x) = wa h (mo h) (ao h) x)
      ∧ ∀ h, h ∉ l → (∀ x, View.canon (l.foldl (push RM RA wm wa lm la) L).1 ((RM h).emb x) = View.canon L.1 ((RM h).emb x))
        ∧ ∀ x, View.canon (l.foldl (push RM RA wm wa lm la) L).2 ((RA h).emb x) = View.canon L.2 ((RA h).emb x)
  | [], _, L, _ => ⟨fun h hh => absurd hh (by simp), fun h _ => ⟨fun _ => rfl, fun _ => rfl⟩⟩
  | g :: l, hnd, L, hok => by
    obtain ⟨hg, hnd'⟩ := List.nodup_cons.1 hnd
    have ih := foldl_read dM dA hokM hokA hlm hla l hnd' (push RM RA wm wa lm la L g)
      (fun h hh => by
        have hne : h ≠ g := fun e => hg (e ▸ hh)
        obtain ⟨h1, h2⟩ := hok h (List.mem_cons_of_mem _ hh)
        exact ⟨hokM _ _ _ _ hne h1, hokA _ _ _ _ hne h2⟩)
    obtain ⟨o1, o2⟩ := hok g List.mem_cons_self
    have e1 := hlm _ _ o1
    have e2 := hla _ _ o2
    rw [List.foldl_cons]
    refine ⟨fun h hh => ?_, fun h hh => ?_⟩
    · by_cases e : h = g
      · subst e
        refine ⟨fun x => ((ih.2 h hg).1 x).trans ?_, fun x => ((ih.2 h hg).2 x).trans ?_⟩
        · exact (View.canon_cons_emb _ _ _ _).trans (by rw [e1])
        · exact (View.canon_cons_emb _ _ _ _).trans (by rw [e1, e2])
      · exact ih.1 h ((List.mem_cons.1 hh).resolve_left e)
    · have e : h ≠ g := fun e => hh (e ▸ List.mem_cons_self)
      have hl : h ∉ l := fun h' => hh (List.mem_cons_of_mem _ h')
      refine ⟨fun x => ((ih.2 h hl).1 x).trans ?_, fun x => ((ih.2 h hl).2 x).trans ?_⟩
      · exact View.canon_cons_of_not_mem _ _ (dM h g e x)
      · exact View.canon_cons_of_not_mem _ _ (dA h g e x)
end

section
variable (S : Fin 16 → FVec Ideal S512x512 .f32) (V : Fin 16 → Vec Ideal S1x1x80x512 .bf16)
  (lm : List PM → Fin 16 → FVec Ideal S1x512 .f32) (la : List PA → Fin 16 → FVec Ideal S80x512 .f32)
  (mo : Fin 16 → FVec Ideal S1x512 .f32) (ao : Fin 16 → FVec Ideal S80x512 .f32)
  (okM : List PM → Fin 16 → Prop) (okA : List PA → Fin 16 → Prop)

theorem mem_heads (h : Fin 16) : h ∈ heads := by
  revert h; decide

theorem build_read (hokM : ∀ L h h' w, h ≠ h' → okM L h → okM (⟨rowM h', w⟩ :: L) h)
    (hokA : ∀ L h h' w, h ≠ h' → okA L h → okA (⟨rowA h', w⟩ :: L) h)
    (hlm : ∀ L h, okM L h → lm L h = mo h) (hla : ∀ L h, okA L h → la L h = ao h)
    (L0 : List PM × List PA) (hok : ∀ h, okM L0.1 h ∧ okA L0.2 h) (h : Fin 16) :
    (∀ y, View.canon (build S V lm la L0).1 (ix2 h y) = mStore (S h) (mo h) (ix2 0 y))
      ∧ ∀ r y, View.canon (build S V lm la L0).2 (ix2 (arow h r) y) = aStore (S h) (mo h) (ao h) (V h) (ix2 r y) := by
  have H := (foldl_read (Val := Elt Ideal) (e1 := .f32) (e2 := .f32) rowM rowA (fun h m => mStore (S h) m) (fun h m a => aStore (S h) m a (V h)) lm la mo ao okM okA
    not_mem_rowM not_mem_rowA hokM hokA hlm hla heads (by decide) L0 (fun h _ => hok h)).1 h (mem_heads h)
  refine ⟨fun y => ?_, fun r y => ?_⟩
  · rw [← rowM_emb]; exact H.1 _
  · rw [← rowA_emb]; exact H.2 _
end

/-- The first step of a row, from cleared buffers. -/
theorem build_new (S : Fin 16 → FVec Ideal S512x512 .f32) (V : Fin 16 → Vec Ideal S1x1x80x512 .bf16) (h : Fin 16) :
    (∀ y, View.canon (build S V lmNew laNew clear).1 (ix2 h y) = mStore (S h) (fun _ => (⊥ : EReal)) (ix2 0 y))
      ∧ ∀ r y, View.canon (build S V lmNew laNew clear).2 (ix2 (arow h r) y) = aStore (S h) (fun _ => (⊥ : EReal)) (fun _ => (0 : EReal)) (V h) (ix2 r y) := by
  refine build_read S V lmNew laNew (fun _ _ => (⊥ : EReal)) (fun _ _ => (0 : EReal))
    (fun L h => ∀ x, View.canon L ((rowM h).emb x) = (⊥ : EReal)) (fun L h => ∀ x, View.canon L ((rowA h).emb x) = (0 : EReal))
    ?_ ?_ ?_ ?_ clear ?_ h
  · intro L h h' w hne hL x
    exact (View.canon_cons_of_not_mem (⟨rowM h', w⟩ : PM) L (not_mem_rowM h h' hne x)).trans (hL x)
  · intro L h h' w hne hL x
    exact (View.canon_cons_of_not_mem (⟨rowA h', w⟩ : PA) L (not_mem_rowA h h' hne x)).trans (hL x)
  · intro L h hL
    rw [lmNew, View.readCov_eq_canon']
    funext x; exact hL x
  · intro L h hL
    rw [laNew, View.readCov_eq_canon']
    funext x; exact hL x
  · intro h
    refine ⟨fun x => ?_, fun x => ?_⟩
    · have e : (rowM h).emb x = (Rect.unit (s := S16x512) ![0, 0] S16x512.size inb_S16x512_S16x512_0_0).emb ((rowM h).emb x) := by
        funext a; apply Fin.ext
        match a with
        | ⟨0, _⟩ => show _ = 0 + 1 * _; omega
        | ⟨1, _⟩ => show _ = 0 + 1 * _; omega
      rw [e]
      exact (View.canon_cons_emb _ _ _ _).trans (clear_m _)
    · have e : (rowA h).emb x = (Rect.unit (s := S1280x512) ![0, 0] S1280x512.size inb_S1280x512_S1280x512_0_0).emb ((rowA h).emb x) := by
        funext a; apply Fin.ext
        match a with
        | ⟨0, _⟩ => show _ = 0 + 1 * _; omega
        | ⟨1, _⟩ => show _ = 0 + 1 * _; omega
      rw [e]
      exact (View.canon_cons_emb _ _ _ _).trans (clear_a _)

/-- A later step, over what the step before left. -/
theorem build_old (c : Dev nD) (xa0 : Buf (Elt Ideal) ((c : Thread nD τ).loc cc0_scratch0)) (xa1 : Buf (Elt Ideal) ((c : Thread nD τ).loc cc0_scratch1))
    (S : Fin 16 → FVec Ideal S512x512 .f32) (V : Fin 16 → Vec Ideal S1x1x80x512 .bf16) (h : Fin 16) :
    (∀ y, View.canon (build S V (lmOld c xa0) (laOld c xa1) ([], [])).1 (ix2 h y) = mStore (S h) (lmOld c xa0 [] h) (ix2 0 y))
      ∧ ∀ r y, View.canon (build S V (lmOld c xa0) (laOld c xa1) ([], [])).2 (ix2 (arow h r) y)
        = aStore (S h) (lmOld c xa0 [] h) (laOld c xa1 [] h) (V h) (ix2 r y) :=
  build_read S V (lmOld c xa0) (laOld c xa1) (fun h => lmOld c xa0 [] h) (fun h => laOld c xa1 [] h) (fun _ _ => True) (fun _ _ => True)
    (fun _ _ _ _ _ _ => trivial) (fun _ _ _ _ _ _ => trivial) (fun _ _ _ => rfl) (fun _ _ _ => rfl) ([], []) (fun _ => ⟨trivial, trivial⟩) h

theorem lmOld_apply (c : Dev nD) (xa0 : Buf (Elt Ideal) ((c : Thread nD τ).loc cc0_scratch0)) (h : Fin 16) (y : Fin 512) :
    lmOld c xa0 [] h (ix2 0 y) = scM0_0.view.read (Elt Ideal) xa0 (ix2 h y) := by
  rw [← rowM_emb]; rfl
theorem laOld_apply (c : Dev nD) (xa1 : Buf (Elt Ideal) ((c : Thread nD τ).loc cc0_scratch1)) (h : Fin 16) (r : Fin 80) (y : Fin 512) :
    laOld c xa1 [] h (ix2 r y) = scM0_1.view.read (Elt Ideal) xa1 (ix2 (arow h r) y) := by
  rw [← rowA_emb]; rfl

/-! ## The output block -/

/-- The value rows of a head, and its denominator, as the epilogue loads them. -/
def rd64 (LA : List PA) (h : Fin 16) : Vec Ideal S64x512 .f32 := scM0_1.view.readCov LA (rowA64 h).toLoadRect
def rd1 (LA : List PA) (h : Fin 16) : Vec Ideal S1x512 .f32 := scM0_1.view.readCov LA (rowA1 h).toLoadRect

theorem rd64_apply (LA : List PA) (h : Fin 16) (d : Fin 64) (y : Fin 512) :
    rd64 LA h (ix2 d y) = View.canon LA (ix2 (arow h ⟨d.val, by omega⟩) y) := by
  rw [rd64, View.readCov_eq_canon']
  refine congrArg (View.canon LA) ?_
  funext a; apply Fin.ext
  match a with
  | ⟨0, _⟩ => show 80 * h.val + 1 * d.val = 80 * h.val + d.val; omega
  | ⟨1, _⟩ => show 0 + 1 * y.val = y.val; omega

theorem rd1_apply (LA : List PA) (h : Fin 16) (y : Fin 512) :
    rd1 LA h (ix2 0 y) = View.canon LA (ix2 (arow h 64) y) := by
  rw [rd1, View.readCov_eq_canon']
  refine congrArg (View.canon LA) ?_
  funext a; apply Fin.ext
  match a with
  | ⟨0, _⟩ => show 80 * h.val + 64 + 1 * 0 = 80 * h.val + 64; omega
  | ⟨1, _⟩ => show 0 + 1 * y.val = y.val; omega

/-- The value at query `y`, lane `z` of the output block: head `z / 64`, value `z % 64`. -/
def quot (LA : List PA) (y : Fin 512) (z : Fin 1024) : EReal :=
  Ideal.div (View.canon LA (ix2 (arow ⟨z.val / 64, by omega⟩ ⟨z.val % 64, by omega⟩) y)) (View.canon LA (ix2 (arow ⟨z.val / 64, by omega⟩ 64) y))

theorem oStore_eq (LA : List PA) (p : Fin 8) (y : Fin 512) (d : Fin 128) :
    oStore (rd64 LA ⟨2 * p.val, by omega⟩) (rd1 LA ⟨2 * p.val, by omega⟩)
      (rd64 LA ⟨2 * p.val + 1, by omega⟩) (rd1 LA ⟨2 * p.val + 1, by omega⟩) (ix3 0 y d)
      = quot LA y ⟨128 * p.val + d.val, by omega⟩ := by
  rw [oStore_apply, quot]
  split
  · rename_i h
    have eh : (⟨(128 * p.val + d.val) / 64, by omega⟩ : Fin 16) = ⟨2 * p.val, by omega⟩ := Fin.ext (by show (128 * p.val + d.val) / 64 = 2 * p.val; omega)
    have ed : (⟨(128 * p.val + d.val) % 64, by omega⟩ : Fin 80) = ⟨d.val, by omega⟩ := Fin.ext (by show (128 * p.val + d.val) % 64 = d.val; omega)
    dsimp only
    rw [rd64_apply, rd1_apply, eh, ed]
  · rename_i h
    have eh : (⟨(128 * p.val + d.val) / 64, by omega⟩ : Fin 16) = ⟨2 * p.val + 1, by omega⟩ := Fin.ext (by show (128 * p.val + d.val) / 64 = 2 * p.val + 1; omega)
    have ed : (⟨(128 * p.val + d.val) % 64, by omega⟩ : Fin 80) = ⟨d.val - 64, by omega⟩ := Fin.ext (by show (128 * p.val + d.val) % 64 = d.val - 64; omega)
    dsimp only
    rw [rd64_apply, rd1_apply, eh, ed]

theorem rectO_emb (p : Fin 8) (y : Fin 512) (d : Fin 128) :
    (rectO p).emb (ix3 0 y d) = ix3 0 y (⟨128 * p.val + d.val, by omega⟩ : Fin 1024) := by
  funext a; apply Fin.ext
  match a with
  | ⟨0, _⟩ => show 0 + 1 * 0 = 0; omega
  | ⟨1, _⟩ => show 0 + 1 * y.val = y.val; omega
  | ⟨2, _⟩ => show 128 * p.val + 1 * d.val = 128 * p.val + d.val; omega

/-- An element of the output block: the quotient of two accumulator rows. -/
theorem outs_read (LA : List PA) (y : Fin 512) (z : Fin 1024) : View.canon (outs LA) (ix3 0 y z) = quot LA y z := by
  refine View.canon_apply_of_pieces (fun x : S1x512x1024.Idx => quot LA (x 1) (x 2)) (outs LA) ?_ (ix3 0 y z) ?_
  · intro q hq x
    obtain ⟨p, _, rfl⟩ := List.mem_map.1 hq
    obtain ⟨y', d', hx⟩ : ∃ (y' : Fin 512) (d' : Fin 128), (x : S1x512x128.Idx) = ix3 0 y' d' := by
      refine ⟨x 1, x 2, (eq_ix3 (x : S1x512x128.Idx)).trans ?_⟩
      congr 1
      exact Subsingleton.elim (α := Fin 1) _ _
    subst hx
    refine (oStore_eq LA p y' d').trans ?_
    show _ = quot LA ((rectO p).emb (ix3 0 y' d') 1) ((rectO p).emb (ix3 0 y' d') 2)
    rw [rectO_emb]
    rfl
  · have hp : z.val / 128 < 8 := by omega
    refine ⟨_, List.mem_map.2 ⟨⟨z.val / 128, hp⟩, ?_, rfl⟩, ?_⟩
    · generalize (⟨z.val / 128, hp⟩ : Fin 8) = p
      revert p; decide
    · have e : ix3 0 y z = (rectO ⟨z.val / 128, hp⟩).emb (ix3 0 y (⟨z.val % 128, by omega⟩ : Fin 128)) := by
        rw [rectO_emb]; congr 1; exact Fin.ext (by show z.val = 128 * (z.val / 128) + z.val % 128; omega)
      rw [e]
      exact (rectO ⟨z.val / 128, hp⟩).idx_mem _

end Cert.KernelIdeal.Heads
end
end
-- ==== Proof.Points.lean ====
module

public import proofs.«01_k».proof.Proof.State
public import proofs.«01_k».proof.Proof.Gen.KernelIdeal.Flash
public import Idealize.ShloMosaic.Lib.Pipeline.ValueKit

@[expose] public section

/-! # The points of the grid

Which query block, which key block a point treats, what its control decides, where its blocks lie in the arrays. -/

set_option maxRecDepth 65536
set_option Elab.async false

noncomputable section

namespace Cert.KernelIdeal.Points

open Cert.KernelIdeal Cert.KernelIdeal.Gen Cert.KernelIdeal.Heads
open Idealize.ShloMosaic
open Idealize.ShloMosaic.TcCoe Idealize.ShloMosaic.Tactic
open Idealize.SL Idealize.SL.Sem

/-- The query block of the `p`-th step of a sequence. -/
def iN (p : ℕ) : ℕ := ([0, 1, 1, 2, 2, 2, 3, 3, 3, 3] : List ℕ).getD p 0
/-- The key block of the `p`-th step of a sequence. -/
def jN (p : ℕ) : ℕ := ([0, 0, 1, 0, 1, 2, 0, 1, 2, 3] : List ℕ).getD p 0

/-- What is decided at a point. -/
abbrev At (t : Fin (cfgA 0).N) : Prop :=
  ((cfgA 0).win (0 : Fin 5)).index t = ![t.val / 10, iN (t.val % 10), 0, 0]
  ∧ ((cfgA 0).win (1 : Fin 5)).index t = ![t.val / 10, jN (t.val % 10), 0]
  ∧ ((cfgA 0).win (2 : Fin 5)).index t = ![t.val / 10, jN (t.val % 10), 0, 0]
  ∧ ((cfgA 0).win (3 : Fin 5)).index t = ![t.val / 10, jN (t.val % 10), 0]
  ∧ ((cfgA 0).win (4 : Fin 5)).index t = ![t.val / 10, iN (t.val % 10), 0]
  ∧ word0 (crd 0 t) (pinT_0 0) = BitVec.ofNat 32 (iN (t.val % 10))
  ∧ word1 (crd 0 t) (pinT_1 0) = BitVec.ofNat 32 (jN (t.val % 10))
  ∧ (P0_0 0 t ↔ jN (t.val % 10) = 0)
  ∧ (P0_1 0 t ↔ jN (t.val % 10) < iN (t.val % 10))
  ∧ (((cfgA 0).win (4 : Fin 5)).flush t = true ↔ jN (t.val % 10) = iN (t.val % 10))

theorem at_ : ∀ t : Fin (cfgA 0).N, At t := by decide +kernel

theorem covers : ((cfgA 0).win (4 : Fin 5)).Covers := by decide +kernel

/-- The steps: block numbers below four, and the step before a later key block is the key block before of the same queries. -/
theorem steps : ∀ p : Fin 10, iN p < 4 ∧ jN p ≤ iN p ∧ (jN p ≠ 0 → p.val ≠ 0 ∧ iN (p.val - 1) = iN p ∧ jN (p.val - 1) + 1 = jN p) := by decide

end Cert.KernelIdeal.Points
end
end
-- ==== Proof.Softmax.lean ====
module

public import Idealize.ShloMosaic.PureOps.Ideal
public import Idealize.ShloMosaic.PureOps.Ideal.Laws

@[expose] public section

/-! # A softmax taken block by block

Scores `s`, values `v` over the keys `0, 1, …`. `top s n` is the largest of the first `n` scores and `acc s v n` the sum of
the first `n` values weighed by `2 ^ (score − top)`. One block of keys further both are had from what they were
(`top_add`, `acc_add`), and the quotient of two such sums is the softmax average (`acc_div`). -/

noncomputable section

namespace Softmax

open Idealize.ShloMosaic

/-- The largest of the first `n` scores. -/
def top (s : ℕ → EReal) (n : ℕ) : EReal := (Finset.range n).sup s
/-- The weighed sum of the first `n` values. -/
def acc (s v : ℕ → EReal) (n : ℕ) : EReal := ∑ k ∈ Finset.range n, v k * Ideal.exp2 (s k - top s n)

/-- A score is a real number or the bottom. -/
def Score (x : EReal) : Prop := x = ⊥ ∨ ∃ r : ℝ, x = (r : EReal)

theorem fold_max_fin (n : ℕ) (f : ℕ → EReal) : (Finset.univ.fold max ⊥ fun k : Fin n => f k) = (Finset.range n).sup f := by
  show (Finset.univ.sup fun k : Fin n => f k) = (Finset.range n).sup f
  apply le_antisymm
  · exact Finset.sup_le fun k _ => Finset.le_sup (f := f) (Finset.mem_range.2 k.isLt)
  · exact Finset.sup_le fun k hk => Finset.le_sup (f := fun k : Fin n => f k) (Finset.mem_univ (⟨k, Finset.mem_range.1 hk⟩ : Fin n))

theorem top_zero (s : ℕ → EReal) : top s 0 = ⊥ := rfl
theorem acc_zero (s v : ℕ → EReal) : acc s v 0 = 0 := rfl

theorem top_add (s : ℕ → EReal) (n T : ℕ) :
    max (top s n) (Finset.univ.fold max ⊥ fun k : Fin T => s (n + k)) = top s (n + T) := by
  rw [fold_max_fin T fun k => s (n + k)]
  apply le_antisymm
  · refine max_le (Finset.sup_mono (Finset.range_mono (Nat.le_add_right _ _))) (Finset.sup_le fun k hk => ?_)
    have := Finset.mem_range.1 hk
    exact Finset.le_sup (f := s) (Finset.mem_range.2 (by omega))
  · refine Finset.sup_le fun k hk => ?_
    have hk := Finset.mem_range.1 hk
    rcases Nat.lt_or_ge k n with h | h
    · exact le_max_of_le_left (Finset.le_sup (f := s) (Finset.mem_range.2 h))
    · refine le_max_of_le_right ?_
      have := Finset.le_sup (f := fun k => s (n + k)) (Finset.mem_range.2 (show k - n < T by omega))
      simpa only [Nat.add_sub_cancel' h] using this

theorem exp2_real (r : ℝ) : Ideal.exp2 (r : EReal) = ((Real.exp (Real.log 2 * r) : ℝ) : EReal) := by
  rw [Ideal.exp2_coe]
  exact congrArg _ (Real.rpow_def_of_pos two_pos r)

theorem top_attained (s : ℕ → EReal) (n : ℕ) (hn : 0 < n) : ∃ k, k < n ∧ top s n = s k := by
  obtain ⟨k, hk, h⟩ := Finset.exists_mem_eq_sup (Finset.range n) ⟨0, Finset.mem_range.2 hn⟩ s
  exact ⟨k, Finset.mem_range.1 hk, h⟩

theorem top_real (s : ℕ → EReal) (n : ℕ) (hn : 0 < n) (hs : ∀ k < n, Score (s k)) (h0 : s 0 ≠ ⊥) :
    ∃ r : ℝ, top s n = (r : EReal) := by
  obtain ⟨k, hk, h⟩ := top_attained s n hn
  rcases hs k hk with hb | ⟨r, hr⟩
  · have : s 0 ≤ top s n := Finset.le_sup (f := s) (Finset.mem_range.2 hn)
    rw [h, hb] at this
    exact absurd (le_bot_iff.1 this) h0
  · exact ⟨r, h.trans hr⟩

theorem mul_sum_real {ι : Type} (S : Finset ι) (f : ι → EReal) (r : ℝ) (hr : 0 ≤ r) :
    (r : EReal) * ∑ i ∈ S, f i = ∑ i ∈ S, (r : EReal) * f i := by
  classical
  induction S using Finset.induction_on with
  | empty => simp
  | insert a S ha ih =>
    rw [Finset.sum_insert ha, Finset.sum_insert ha,
      EReal.left_distrib_of_nonneg_of_ne_top (by exact_mod_cast hr) (EReal.coe_ne_top r), ih]

/-- Rescaling one weight to a later maximum. -/
theorem rescale (a b : ℝ) (x : EReal) (hx : Score x) (v : EReal) :
    Ideal.exp2 ((a : EReal) - b) * (v * Ideal.exp2 (x - a)) = v * Ideal.exp2 (x - b) := by
  rw [mul_left_comm]
  congr 1
  rcases hx with rfl | ⟨r, rfl⟩
  · rw [EReal.bot_sub, EReal.bot_sub, Ideal.exp2_bot, mul_zero]
  · rw [← EReal.coe_sub, ← EReal.coe_sub, ← EReal.coe_sub, exp2_real, exp2_real, exp2_real, ← EReal.coe_mul, ← Real.exp_add]
    congr 2; ring

theorem acc_add (s v : ℕ → EReal) (n T : ℕ) (hT : 0 < T) (hs : ∀ k < n + T, Score (s k)) (h0 : s 0 ≠ ⊥) :
    Ideal.exp2 (top s n - top s (n + T)) * acc s v n + ∑ k : Fin T, v (n + k) * Ideal.exp2 (s (n + k) - top s (n + T))
      = acc s v (n + T) := by
  obtain ⟨b, hb⟩ := top_real s (n + T) (by omega) hs h0
  rw [acc, acc, Finset.sum_range_add, Finset.sum_range (fun k => v (n + k) * Ideal.exp2 (s (n + k) - top s (n + T)))]
  congr 1
  rcases Nat.eq_zero_or_pos n with rfl | hn
  · rw [Finset.range_zero, Finset.sum_empty, Finset.sum_empty, mul_zero]
  · obtain ⟨a, ha⟩ := top_real s n hn (fun k hk => hs k (by omega)) h0
    have e : Ideal.exp2 (top s n - top s (n + T)) = ((Real.exp (Real.log 2 * (a - b)) : ℝ) : EReal) := by
      rw [ha, hb, ← EReal.coe_sub, exp2_real]
    rw [e, mul_sum_real _ _ _ (Real.exp_pos _).le, ← e, ha, hb]
    refine Finset.sum_congr rfl fun k hk => ?_
    have hk := Finset.mem_range.1 hk
    exact rescale a b (s k) (hs k (by omega)) (v k)

/-- Keys that are masked out change nothing. -/
theorem top_masked (s : ℕ → EReal) (n T : ℕ) (hm : ∀ k, n ≤ k → k < n + T → s k = ⊥) : top s (n + T) = top s n := by
  apply le_antisymm
  · refine Finset.sup_le fun k hk => ?_
    have hk := Finset.mem_range.1 hk
    rcases Nat.lt_or_ge k n with h | h
    · exact Finset.le_sup (f := s) (Finset.mem_range.2 h)
    · rw [hm k h hk]; exact bot_le
  · exact Finset.sup_mono (Finset.range_mono (Nat.le_add_right _ _))

theorem acc_masked (s v : ℕ → EReal) (n T : ℕ) (hm : ∀ k, n ≤ k → k < n + T → s k = ⊥) : acc s v (n + T) = acc s v n := by
  rw [acc, acc, top_masked s n T hm, Finset.sum_range_add]
  rw [Finset.sum_eq_zero (s := Finset.range T), add_zero]
  intro k hk
  have hk := Finset.mem_range.1 hk
  rw [hm (n + k) (by omega) (by omega), EReal.bot_sub, Ideal.exp2_bot, mul_zero]

/-- The quotient of the weighed sum by the sum of the weights is the softmax average: `sr` are the scores in natural units,
    with a constant `c` of the query added. -/
theorem acc_div (s sr v : ℕ → EReal) (n : ℕ) (hn : 0 < n) (c : ℝ)
    (hs : ∀ k < n, (s k = ⊥ ∧ sr k = ⊥) ∨ ∃ r : ℝ, s k = (r : EReal) ∧ sr k = ((r * Real.log 2 + c : ℝ) : EReal)) (h0 : s 0 ≠ ⊥) :
    Ideal.div (acc s v n) (acc s (fun _ => 1) n)
      = ∑ k : Fin n, v k * Ideal.div (Ideal.exp (sr k - top sr n)) (∑ j : Fin n, Ideal.exp (sr j - top sr n)) := by
  have hsc : ∀ k < n, Score (s k) := fun k hk => (hs k hk).elim (fun h => Or.inl h.1) fun ⟨r, h⟩ => Or.inr ⟨r, h.1⟩
  obtain ⟨k0, hk0, hM⟩ := top_attained s n hn
  obtain ⟨m, hm⟩ := top_real s n hn hsc h0
  have hlog : 0 < Real.log 2 := Real.log_pos one_lt_two
  have hMr : top sr n = ((m * Real.log 2 + c : ℝ) : EReal) := by
    apply le_antisymm
    · refine Finset.sup_le fun k hk => ?_
      have hk := Finset.mem_range.1 hk
      rcases hs k hk with ⟨_, h⟩ | ⟨r, h1, h2⟩
      · rw [h]; exact bot_le
      · have : s k ≤ top s n := Finset.le_sup (f := s) (Finset.mem_range.2 hk)
        rw [h1, hm, EReal.coe_le_coe_iff] at this
        rw [h2, EReal.coe_le_coe_iff]
        nlinarith
    · rcases hs k0 hk0 with ⟨h, _⟩ | ⟨r, h1, h2⟩
      · rw [hM, h] at hm; exact absurd hm.symm (EReal.coe_ne_bot m)
      · have e : r = m := by
          have := h1.symm.trans (hM.symm.trans hm)
          exact_mod_cast this
        rw [← e, ← h2]
        exact Finset.le_sup (f := sr) (Finset.mem_range.2 hk0)
  -- the weights, as real numbers
  have hw : ∀ k < n, ∃ w : ℝ, 0 ≤ w ∧ Ideal.exp2 (s k - top s n) = (w : EReal) ∧ Ideal.exp (sr k - top sr n) = (w : EReal) ∧ (k = k0 → 0 < w) := by
    intro k hk
    rcases hs k hk with ⟨h1, h2⟩ | ⟨r, h1, h2⟩
    · refine ⟨0, le_refl _, ?_, ?_, ?_⟩
      · rw [h1, EReal.bot_sub, Ideal.exp2_bot]; rfl
      · rw [h2, EReal.bot_sub, Ideal.exp_bot]; rfl
      · rintro rfl
        rw [hM, h1] at hm; exact absurd hm.symm (EReal.coe_ne_bot m)
    · refine ⟨Real.exp (Real.log 2 * (r - m)), (Real.exp_pos _).le, ?_, ?_, fun _ => Real.exp_pos _⟩
      · rw [h1, hm, ← EReal.coe_sub, exp2_real]
      · rw [h2, hMr, ← EReal.coe_sub, Ideal.exp_coe]
        congr 2; ring
  choose! w hw0 hw1 hw2 hw3 using hw
  have hl : (∑ k ∈ Finset.range n, ((w k : ℝ) : EReal)) = ((∑ k ∈ Finset.range n, w k : ℝ) : EReal) := by
    induction Finset.range n using Finset.induction_on with
    | empty => simp
    | insert a S ha ih => rw [Finset.sum_insert ha, Finset.sum_insert ha, ih, EReal.coe_add]
  have hpos : 0 < ∑ k ∈ Finset.range n, w k :=
    Finset.sum_pos' (fun k hk => hw0 k (Finset.mem_range.1 hk)) ⟨k0, Finset.mem_range.2 hk0, hw3 k0 hk0 rfl⟩
  have e1 : acc s (fun _ => 1) n = ((∑ k ∈ Finset.range n, w k : ℝ) : EReal) := by
    rw [← hl, acc]
    refine Finset.sum_congr rfl fun k hk => ?_
    rw [one_mul, hw1 k (Finset.mem_range.1 hk)]
  have e2 : (∑ j : Fin n, Ideal.exp (sr j - top sr n)) = ((∑ k ∈ Finset.range n, w k : ℝ) : EReal) := by
    rw [← hl, Finset.sum_range]
    exact Finset.sum_congr rfl fun k _ => hw2 k k.isLt
  rw [e1, e2, Ideal.div_coe hpos.ne', mul_comm, acc, mul_sum_real _ _ _ (by positivity), Finset.sum_range]
  refine Finset.sum_congr rfl fun k _ => ?_
  rw [Ideal.div_coe hpos.ne', hw1 k k.isLt, hw2 k k.isLt, mul_left_comm, mul_comm ((_ : ℝ) : EReal) ((w k : ℝ) : EReal)]

end Softmax
end
end
-- ==== Proof.Traj.lean ====
module

public import proofs.«01_k».proof.Proof.Points
public import proofs.«01_k».proof.Proof.Softmax

@[expose] public section

/-! # The trajectory of the attention kernel

After each point of a query block the scratch buffers hold, per head and query, the maximum and the weighted sums over the
keys read so far; the last point of the query block writes the quotients. -/

set_option maxRecDepth 65536
set_option Elab.async false

noncomputable section

namespace Cert.KernelIdeal.Traj

open Cert.KernelIdeal Cert.KernelIdeal.Gen Cert.KernelIdeal.Heads Cert.KernelIdeal.Points
open Idealize.ShloMosaic
open Idealize.ShloMosaic.TcCoe Idealize.ShloMosaic.Tactic
open Idealize.SL Idealize.SL.Sem

/-! ## What a head reads of the blocks, at an index -/

theorem scoreB_apply (arg4 : Memref sig .tc .vmem S1x1x2048x512 .bf16) (arg5 : Memref sig .tc .vmem S1x512x1024 .bf16)
    (arg7 : Memref sig .tc .vmem S1x512x128 .f32) (x0 : (S1x1x2048x512.Idx → Elt Ideal .bf16))
    (x1 : (S1x512x1024.Idx → Elt Ideal .bf16)) (x3 : (S1x512x128.Idx → Elt Ideal .f32)) (h : Fin 16) (r y : Fin 512) :
    scoreB arg4 arg5 arg7 x0 x1 x3 h (ix2 r y)
      = (∑ d : Fin 128, x1 (ix3 0 r (⟨128 * (h.val / 2) + d.val, by omega⟩ : Fin 1024)) * x0 (ix4 0 0 (⟨128 * h.val + d.val, by omega⟩ : Fin 2048) y) : EReal)
        - x3 (ix3 0 r (⟨h.val, by omega⟩ : Fin 128)) * (((Real.log 2)⁻¹ : ℝ) : EReal) := by
  refine (score_apply _ _ _ r y).trans ?_
  refine congrArg₂ (fun a b : EReal => a - b) (Finset.sum_congr rfl fun d _ => congrArg₂ (fun a b : EReal => a * b)
      ((congrFun (View.readAt_rep arg5.view (rectK h).toLoadRect x1) (ix3 0 r d)).trans (congrArg x1 ?_))
      ((congrFun (View.readAt_rep arg4.view (rectQ h).toLoadRect x0) (ix4 0 0 d y)).trans (congrArg x0 ?_)))
    (congrArg (fun a : EReal => a * _) ((congrFun (View.readAt_rep arg7.view (rectC h).toLoadRect x3) (ix3 0 r 0)).trans (congrArg x3 ?_)))
  · funext a; apply Fin.ext
    match a with
    | ⟨0, _⟩ => rfl
    | ⟨1, _⟩ => show 0 + 1 * r.val = r.val; omega
    | ⟨2, _⟩ => show 128 * (h.val / 2) + 1 * d.val = 128 * (h.val / 2) + d.val; omega
  · funext a; apply Fin.ext
    match a with
    | ⟨0, _⟩ => rfl
    | ⟨1, _⟩ => rfl
    | ⟨2, _⟩ => show 128 * h.val + 1 * d.val = 128 * h.val + d.val; omega
    | ⟨3, _⟩ => show 0 + 1 * y.val = y.val; omega
  · funext a; apply Fin.ext
    match a with
    | ⟨0, _⟩ => rfl
    | ⟨1, _⟩ => show 0 + 1 * r.val = r.val; omega
    | ⟨2, _⟩ => show h.val + 1 * 0 = h.val; omega

theorem valB_apply (arg6 : Memref sig .tc .vmem S1x1x1280x512 .bf16) (x2 : (S1x1x1280x512.Idx → Elt Ideal .bf16)) (h : Fin 16)
    (r : Fin 80) (k : Fin 512) : valB arg6 x2 h (ix4 0 0 r k) = x2 (ix4 0 0 (arow h r) k) := by
  refine (congrFun (View.readAt_rep arg6.view (rectV h).toLoadRect x2) (ix4 0 0 r k)).trans (congrArg x2 ?_)
  funext a; apply Fin.ext
  match a with
  | ⟨0, _⟩ => rfl
  | ⟨1, _⟩ => rfl
  | ⟨2, _⟩ => show 80 * h.val + 1 * r.val = 80 * h.val + r.val; omega
  | ⟨3, _⟩ => show 0 + 1 * k.val = k.val; omega

variable (m : (ℓ : Loc nD τ sig) → Buf (Elt Ideal) ℓ) (ρ : Dev nD → PrngReg) (c : Dev nD)

/-! ## The arrays, and the blocks of a point in them -/

def qA : S32x4x2048x512.Idx → EReal := m ((c : Thread nD τ).loc main_arg2)
def kA : S32x2048x1024.Idx → EReal := m ((c : Thread nD τ).loc main_arg3)
def vA : S32x4x1280x512.Idx → EReal := m ((c : Thread nD τ).loc main_arg4)
def cA : S32x2048x128.Idx → EReal := m ((c : Thread nD τ).loc main_arg5)

theorem lt320 (t : Fin (cfgA 0).N) : t.val < 320 := Nat.lt_of_lt_of_eq t.isLt (by decide +kernel)

/-- Sequence, query block and key block of a point. -/
def bP (t : Fin (cfgA 0).N) : Fin 32 := ⟨t.val / 10, by have := lt320 t; omega⟩
def aP (t : Fin (cfgA 0).N) : Fin 4 := ⟨iN (t.val % 10), (steps ⟨t.val % 10, by omega⟩).1⟩
def jP (t : Fin (cfgA 0).N) : Fin 4 :=
  ⟨jN (t.val % 10), Nat.lt_of_le_of_lt (steps ⟨t.val % 10, by omega⟩).2.1 (steps ⟨t.val % 10, by omega⟩).1⟩

theorem iblk_q (t : Fin (cfgA 0).N) (d : Fin 2048) (y : Fin 512) :
    iblk 0 m ρ c (0 : Fin 5) t (ix4 0 0 d y : S1x1x2048x512.Idx) = qA m c (ix4 (bP t) (aP t) d y) := by
  have hi := (at_ t).1
  unfold iblk
  rw [View.read_apply]
  show m ((c : Thread nD τ).loc main_arg2) _ = m ((c : Thread nD τ).loc main_arg2) _
  congr 1
  funext a; apply Fin.ext
  match a with
  | ⟨0, _⟩ => show ((cfgA 0).win (0 : Fin 5)).index t 0 * 1 + 1 * 0 = t.val / 10; rw [hi]; show t.val / 10 * 1 + 1 * 0 = _; omega
  | ⟨1, _⟩ => show ((cfgA 0).win (0 : Fin 5)).index t 1 * 1 + 1 * 0 = iN (t.val % 10); rw [hi]; show iN (t.val % 10) * 1 + 1 * 0 = _; omega
  | ⟨2, _⟩ => show ((cfgA 0).win (0 : Fin 5)).index t 2 * 2048 + 1 * d.val = d.val; rw [hi]; show 0 * 2048 + 1 * d.val = _; omega
  | ⟨3, _⟩ => show ((cfgA 0).win (0 : Fin 5)).index t 3 * 512 + 1 * y.val = y.val; rw [hi]; show 0 * 512 + 1 * y.val = _; omega

/-- The row of a sequence at row `r` of its `j`-th key block. -/
def krow (j : Fin 4) (r : Fin 512) : Fin 2048 := ⟨512 * j.val + r.val, by omega⟩

theorem iblk_k (t : Fin (cfgA 0).N) (r : Fin 512) (d : Fin 1024) :
    iblk 0 m ρ c (1 : Fin 5) t (ix3 0 r d : S1x512x1024.Idx) = kA m c (ix3 (bP t) (krow (jP t) r) d) := by
  have hi := (at_ t).2.1
  unfold iblk
  rw [View.read_apply]
  show m ((c : Thread nD τ).loc main_arg3) _ = m ((c : Thread nD τ).loc main_arg3) _
  congr 1
  funext a; apply Fin.ext
  match a with
  | ⟨0, _⟩ => show ((cfgA 0).win (1 : Fin 5)).index t 0 * 1 + 1 * 0 = t.val / 10; rw [hi]; show t.val / 10 * 1 + 1 * 0 = _; omega
  | ⟨1, _⟩ => show ((cfgA 0).win (1 : Fin 5)).index t 1 * 512 + 1 * r.val = 512 * jN (t.val % 10) + r.val; rw [hi]; show jN (t.val % 10) * 512 + 1 * r.val = _; omega
  | ⟨2, _⟩ => show ((cfgA 0).win (1 : Fin 5)).index t 2 * 1024 + 1 * d.val = d.val; rw [hi]; show 0 * 1024 + 1 * d.val = _; omega

theorem iblk_v (t : Fin (cfgA 0).N) (d : Fin 1280) (y : Fin 512) :
    iblk 0 m ρ c (2 : Fin 5) t (ix4 0 0 d y : S1x1x1280x512.Idx) = vA m c (ix4 (bP t) (jP t) d y) := by
  have hi := (at_ t).2.2.1
  unfold iblk
  rw [View.read_apply]
  show m ((c : Thread nD τ).loc main_arg4) _ = m ((c : Thread nD τ).loc main_arg4) _
  congr 1
  funext a; apply Fin.ext
  match a with
  | ⟨0, _⟩ => show ((cfgA 0).win (2 : Fin 5)).index t 0 * 1 + 1 * 0 = t.val / 10; rw [hi]; show t.val / 10 * 1 + 1 * 0 = _; omega
  | ⟨1, _⟩ => show ((cfgA 0).win (2 : Fin 5)).index t 1 * 1 + 1 * 0 = jN (t.val % 10); rw [hi]; show jN (t.val % 10) * 1 + 1 * 0 = _; omega
  | ⟨2, _⟩ => show ((cfgA 0).win (2 : Fin 5)).index t 2 * 1280 + 1 * d.val = d.val; rw [hi]; show 0 * 1280 + 1 * d.val = _; omega
  | ⟨3, _⟩ => show ((cfgA 0).win (2 : Fin 5)).index t 3 * 512 + 1 * y.val = y.val; rw [hi]; show 0 * 512 + 1 * y.val = _; omega

theorem iblk_c (t : Fin (cfgA 0).N) (r : Fin 512) (d : Fin 128) :
    iblk 0 m ρ c (3 : Fin 5) t (ix3 0 r d : S1x512x128.Idx) = cA m c (ix3 (bP t) (krow (jP t) r) d) := by
  have hi := (at_ t).2.2.2.1
  unfold iblk
  rw [View.read_apply]
  show m ((c : Thread nD τ).loc main_arg5) _ = m ((c : Thread nD τ).loc main_arg5) _
  congr 1
  funext a; apply Fin.ext
  match a with
  | ⟨0, _⟩ => show ((cfgA 0).win (3 : Fin 5)).index t 0 * 1 + 1 * 0 = t.val / 10; rw [hi]; show t.val / 10 * 1 + 1 * 0 = _; omega
  | ⟨1, _⟩ => show ((cfgA 0).win (3 : Fin 5)).index t 1 * 512 + 1 * r.val = 512 * jN (t.val % 10) + r.val; rw [hi]; show jN (t.val % 10) * 512 + 1 * r.val = _; omega
  | ⟨2, _⟩ => show ((cfgA 0).win (3 : Fin 5)).index t 2 * 128 + 1 * d.val = d.val; rw [hi]; show 0 * 128 + 1 * d.val = _; omega

/-! ## Scores and values of a sequence -/

/-- The score of key `k` for query `y` of query block `a`, head `h`. -/
def raw (b : Fin 32) (a : Fin 4) (h : Fin 16) (y : Fin 512) (k : Fin 2048) : EReal :=
  (∑ d : Fin 128, kA m c (ix3 b k (⟨128 * (h.val / 2) + d.val, by omega⟩ : Fin 1024)) * qA m c (ix4 b a (⟨128 * h.val + d.val, by omega⟩ : Fin 2048) y))
    - cA m c (ix3 b k (⟨h.val, by omega⟩ : Fin 128)) * (((Real.log 2)⁻¹ : ℝ) : EReal)

/-- The same, causal: `⊥` beyond the query. -/
def sc (b : Fin 32) (a : Fin 4) (h : Fin 16) (y : Fin 512) (k : ℕ) : EReal :=
  if hk : k < 2048 ∧ k ≤ 512 * a.val + y.val then raw m c b a h y ⟨k, hk.1⟩ else ⊥

/-- Row `r` of head `h` of the values, along the keys. -/
def va (b : Fin 32) (h : Fin 16) (r : Fin 80) (k : ℕ) : EReal :=
  if hk : k < 2048 then vA m c (ix4 b (⟨k / 512, by omega⟩ : Fin 4) (arow h r) (⟨k % 512, by omega⟩ : Fin 512)) else 0

/-- The scores are real numbers. -/
def Fin_ : Prop := ∀ b a h y k, ∃ r : ℝ, raw m c b a h y k = r

theorem sc_score (hf : Fin_ m c) (b a h y) (k : ℕ) : Softmax.Score (sc m c b a h y k) := by
  unfold sc; split
  · exact Or.inr (hf _ _ _ _ _)
  · exact Or.inl rfl

theorem sc_zero (hf : Fin_ m c) (b a h y) : sc m c b a h y 0 ≠ ⊥ := by
  unfold sc
  rw [dif_pos ⟨by omega, Nat.zero_le _⟩]
  obtain ⟨r, hr⟩ := hf b a h y ⟨0, by omega⟩
  rw [hr]; exact EReal.coe_ne_bot r

theorem va_block (b : Fin 32) (h : Fin 16) (r : Fin 80) (j : Fin 4) (k : Fin 512) :
    vA m c (ix4 b j (arow h r) k) = va m c b h r (512 * j.val + k.val) := by
  unfold va
  rw [dif_pos (by omega)]
  have e1 : (⟨(512 * j.val + k.val) / 512, by omega⟩ : Fin 4) = j := Fin.ext (by show (512 * j.val + k.val) / 512 = j.val; omega)
  have e2 : (⟨(512 * j.val + k.val) % 512, by omega⟩ : Fin 512) = k := Fin.ext (by show (512 * j.val + k.val) % 512 = k.val; omega)
  rw [e1, e2]

/-! ## One step of one head -/

/-- What the scratch buffers hold after the first `n` keys. -/
def Holds (b : Fin 32) (a : Fin 4) (n : ℕ) (M : S16x512.Idx → EReal) (A : S1280x512.Idx → EReal) : Prop :=
  ∀ h y, M (ix2 h y) = Softmax.top (sc m c b a h y) n ∧ ∀ r, A (ix2 (arow h r) y) = Softmax.acc (sc m c b a h y) (va m c b h r) n

theorem step (hf : Fin_ m c) (b : Fin 32) (a : Fin 4) (n : ℕ) (S : FVec Ideal S512x512 .f32) (V : Vec Ideal S1x1x80x512 .bf16)
    (mo : FVec Ideal S1x512 .f32) (ao : FVec Ideal S80x512 .f32) (h : Fin 16) (y : Fin 512)
    (hS : ∀ r : Fin 512, S (ix2 r y) = sc m c b a h y (n + r.val))
    (hV : ∀ (r : Fin 80) (k : Fin 512), V (ix4 0 0 r k) = va m c b h r (n + k.val))
    (hmo : mo (ix2 0 y) = Softmax.top (sc m c b a h y) n)
    (hao : ∀ r, ao (ix2 r y) = Softmax.acc (sc m c b a h y) (va m c b h r) n) :
    mStore S mo (ix2 0 y) = Softmax.top (sc m c b a h y) (n + 512)
      ∧ ∀ r, aStore S mo ao V (ix2 r y) = Softmax.acc (sc m c b a h y) (va m c b h r) (n + 512) := by
  have hM : mStore S mo (ix2 0 y) = Softmax.top (sc m c b a h y) (n + 512) := by
    rw [mStore_apply, hmo, ← Softmax.top_add]
    simp only [hS]
  refine ⟨hM, fun r => ?_⟩
  rw [aStore_apply, hM, hmo, hao]
  simp only [hS, hV]
  exact Softmax.acc_add _ _ n 512 (by omega) (fun k _ => sc_score m c hf b a h y k) (sc_zero m c hf b a h y)

/-! ## The scores of a point -/

theorem score_full (t : Fin (cfgA 0).N) (ht : jN (t.val % 10) < iN (t.val % 10)) (h : Fin 16) (r y : Fin 512) :
    scoreB (ms0_0 0 t) (ms0_1 0 t) (ms0_3 0 t) (iblk 0 m ρ c (0 : Fin 5) t) (iblk 0 m ρ c (1 : Fin 5) t) (iblk 0 m ρ c (3 : Fin 5) t) h (ix2 r y)
      = sc m c (bP t) (aP t) h y (512 * (jP t).val + r.val) := by
  have e : sc m c (bP t) (aP t) h y (512 * (jP t).val + r.val) = raw m c (bP t) (aP t) h y (krow (jP t) r) := by
    unfold sc
    rw [dif_pos ⟨by have := (jP t).isLt; omega, by show 512 * jN (t.val % 10) + r.val ≤ 512 * iN (t.val % 10) + y.val; omega⟩]
    rfl
  rw [e]
  refine (scoreB_apply _ _ _ _ _ _ h r y).trans ?_
  unfold raw
  rw [← iblk_c m ρ c t]
  simp only [← iblk_k m ρ c t, ← iblk_q m ρ c t]

theorem score_masked (t : Fin (cfgA 0).N) (h : Fin 16) (r y : Fin 512) :
    scoreM (crd 0 t) (ms0_0 0 t) (ms0_1 0 t) (ms0_3 0 t) (pinT_0 0) (pinT_1 0) (iblk 0 m ρ c (0 : Fin 5) t) (iblk 0 m ρ c (1 : Fin 5) t) (iblk 0 m ρ c (3 : Fin 5) t) h (ix2 r y)
      = sc m c (bP t) (aP t) h y (512 * (jP t).val + r.val) := by
  have hm := maskB_apply (crd 0 t) (pinT_0 0) (pinT_1 0) (aP t).val (jP t).val (aP t).isLt (jP t).isLt (at_ t).2.2.2.2.2.1 (at_ t).2.2.2.2.2.2.1 r y
  have hs : scoreB (ms0_0 0 t) (ms0_1 0 t) (ms0_3 0 t) (iblk 0 m ρ c (0 : Fin 5) t) (iblk 0 m ρ c (1 : Fin 5) t) (iblk 0 m ρ c (3 : Fin 5) t) h (ix2 r y)
      = raw m c (bP t) (aP t) h y (krow (jP t) r) := by
    refine (scoreB_apply _ _ _ _ _ _ h r y).trans ?_
    unfold raw
    rw [← iblk_c m ρ c t]
    simp only [← iblk_k m ρ c t, ← iblk_q m ρ c t]
  have hj := (jP t).isLt
  show (scoreB _ _ _ _ _ _ h (ix2 r y) + maskB _ _ _ (ix2 r y) : EReal) = _
  rw [hm, hs]
  unfold sc
  split
  · rename_i hle
    rw [dif_pos ⟨by omega, hle⟩, add_zero]
    rfl
  · rename_i hle
    rw [dif_neg (fun hh => hle hh.2), EReal.add_bot]

theorem val_point (t : Fin (cfgA 0).N) (h : Fin 16) (r : Fin 80) (k : Fin 512) :
    valB (ms0_2 0 t) (iblk 0 m ρ c (2 : Fin 5) t) h (ix4 0 0 r k) = va m c (bP t) h r (512 * (jP t).val + k.val) := by
  refine (valB_apply _ _ h r k).trans ?_
  rw [← va_block]
  exact iblk_v m ρ c t _ _

end Cert.KernelIdeal.Traj
end
end
-- ==== Proof.Row.lean ====
module

public import proofs.«01_k».proof.Proof.Traj

@[expose] public section

/-! # What every point leaves, and the result array

The contents of the scratch buffers along the points of a query block, by induction on the point; then the result array. -/

set_option maxRecDepth 65536
set_option Elab.async false

noncomputable section

namespace Cert.KernelIdeal.Traj

open Cert.KernelIdeal Cert.KernelIdeal.Gen Cert.KernelIdeal.Heads Cert.KernelIdeal.Points
open Idealize.ShloMosaic
open Idealize.ShloMosaic.TcCoe Idealize.ShloMosaic.Tactic
open Idealize.SL Idealize.SL.Sem

variable (m : (ℓ : Loc nD τ sig) → Buf (Elt Ideal) ℓ) (ρ : Dev nD → PrngReg) (c : Dev nD)

/-- What is tracked along the points: the output block and the two scratch buffers. -/
abbrev St := (S1x512x1024.Idx → Elt Ideal .bf16) × Buf (Elt Ideal) ((c : Thread nD τ).loc cc0_scratch0) × Buf (Elt Ideal) ((c : Thread nD τ).loc cc0_scratch1)

/-! ## The components of a step -/

theorem stepA_m (t : Fin (cfgA 0).N) (prev : St c) (q0 : P0_0 0 t) (q1 : ¬P0_1 0 t) :
    scM0_0.view.read (Elt Ideal) (step0 0 m ρ c t prev).2.1
      = View.canon (listsA (crd 0 t) (ms0_0 0 t) (ms0_1 0 t) (ms0_2 0 t) (ms0_3 0 t) (pinT_0 0) (pinT_1 0) (iblk 0 m ρ c (0 : Fin 5) t) (iblk 0 m ρ c (1 : Fin 5) t) (iblk 0 m ρ c (2 : Fin 5) t) (iblk 0 m ρ c (3 : Fin 5) t)).1 := by
  rw [step0_A 0 m ρ c t prev q0 q1, ← a_m]
  refine Eq.trans (b := scM0_0.view.read (Elt Ideal) (scM0_0.view.writes (Elt Ideal) scM0_0.view.junk (kernelRun0_A.sl.HS0_17 (crd 0 t) (ms0_0 0 t) (ms0_1 0 t) (ms0_3 0 t) (pinT_0 0) (pinT_1 0) (iblk 0 m ρ c (0 : Fin 5) t) (iblk 0 m ρ c (1 : Fin 5) t) (iblk 0 m ρ c (3 : Fin 5) t)))) ?_ (View.read_writes_junk_eq_canon _ _)
  exact congrArg (scM0_0.view.read (Elt Ideal)) (by sl_kernel_rfl)

theorem stepA_a (t : Fin (cfgA 0).N) (prev : St c) (q0 : P0_0 0 t) (q1 : ¬P0_1 0 t) :
    scM0_1.view.read (Elt Ideal) (step0 0 m ρ c t prev).2.2
      = View.canon (listsA (crd 0 t) (ms0_0 0 t) (ms0_1 0 t) (ms0_2 0 t) (ms0_3 0 t) (pinT_0 0) (pinT_1 0) (iblk 0 m ρ c (0 : Fin 5) t) (iblk 0 m ρ c (1 : Fin 5) t) (iblk 0 m ρ c (2 : Fin 5) t) (iblk 0 m ρ c (3 : Fin 5) t)).2 := by
  rw [step0_A 0 m ρ c t prev q0 q1, ← a_a]
  refine Eq.trans (b := scM0_1.view.read (Elt Ideal) (scM0_1.view.writes (Elt Ideal) scM0_1.view.junk (kernelRun0_A.sl.HS1_17 (crd 0 t) (ms0_0 0 t) (ms0_1 0 t) (ms0_2 0 t) (ms0_3 0 t) (pinT_0 0) (pinT_1 0) (iblk 0 m ρ c (0 : Fin 5) t) (iblk 0 m ρ c (1 : Fin 5) t) (iblk 0 m ρ c (2 : Fin 5) t) (iblk 0 m ρ c (3 : Fin 5) t)))) ?_ (View.read_writes_junk_eq_canon _ _)
  exact congrArg (scM0_1.view.read (Elt Ideal)) (by sl_kernel_rfl)

theorem stepA_o (t : Fin (cfgA 0).N) (prev : St c) (q0 : P0_0 0 t) (q1 : ¬P0_1 0 t) :
    (step0 0 m ρ c t prev).1
      = View.canon (outs (listsA (crd 0 t) (ms0_0 0 t) (ms0_1 0 t) (ms0_2 0 t) (ms0_3 0 t) (pinT_0 0) (pinT_1 0) (iblk 0 m ρ c (0 : Fin 5) t) (iblk 0 m ρ c (1 : Fin 5) t) (iblk 0 m ρ c (2 : Fin 5) t) (iblk 0 m ρ c (3 : Fin 5) t)).2) := by
  rw [step0_A 0 m ρ c t prev q0 q1, ← a_a, ← a_o]
  refine Eq.trans (b := VO0_4.read (Elt Ideal) (VO0_4.writes (Elt Ideal) VO0_4.junk (kernelRun0_A.sl.HO4_8 (crd 0 t) (ms0_0 0 t) (ms0_1 0 t) (ms0_2 0 t) (ms0_3 0 t) (pinT_0 0) (pinT_1 0) (iblk 0 m ρ c (0 : Fin 5) t) (iblk 0 m ρ c (1 : Fin 5) t) (iblk 0 m ρ c (2 : Fin 5) t) (iblk 0 m ρ c (3 : Fin 5) t)))) ?_ (View.read_writes_junk_eq_canon _ _)
  sl_kernel_rfl

theorem stepB_m (t : Fin (cfgA 0).N) (prev : St c) (q0 : P0_0 0 t) (q1 : P0_1 0 t) :
    scM0_0.view.read (Elt Ideal) (step0 0 m ρ c t prev).2.1
      = View.canon (listsB (ms0_0 0 t) (ms0_1 0 t) (ms0_2 0 t) (ms0_3 0 t) (iblk 0 m ρ c (0 : Fin 5) t) (iblk 0 m ρ c (1 : Fin 5) t) (iblk 0 m ρ c (2 : Fin 5) t) (iblk 0 m ρ c (3 : Fin 5) t)).1 := by
  rw [step0_B 0 m ρ c t prev q0 q1, ← b_m]
  refine Eq.trans (b := scM0_0.view.read (Elt Ideal) (scM0_0.view.writes (Elt Ideal) scM0_0.view.junk (kernelRun0_B.sl.HS0_17 (ms0_0 0 t) (ms0_1 0 t) (ms0_3 0 t) (iblk 0 m ρ c (0 : Fin 5) t) (iblk 0 m ρ c (1 : Fin 5) t) (iblk 0 m ρ c (3 : Fin 5) t)))) ?_ (View.read_writes_junk_eq_canon _ _)
  exact congrArg (scM0_0.view.read (Elt Ideal)) (by sl_kernel_rfl)

theorem stepB_a (t : Fin (cfgA 0).N) (prev : St c) (q0 : P0_0 0 t) (q1 : P0_1 0 t) :
    scM0_1.view.read (Elt Ideal) (step0 0 m ρ c t prev).2.2
      = View.canon (listsB (ms0_0 0 t) (ms0_1 0 t) (ms0_2 0 t) (ms0_3 0 t) (iblk 0 m ρ c (0 : Fin 5) t) (iblk 0 m ρ c (1 : Fin 5) t) (iblk 0 m ρ c (2 : Fin 5) t) (iblk 0 m ρ c (3 : Fin 5) t)).2 := by
  rw [step0_B 0 m ρ c t prev q0 q1, ← b_a]
  refine Eq.trans (b := scM0_1.view.read (Elt Ideal) (scM0_1.view.writes (Elt Ideal) scM0_1.view.junk (kernelRun0_B.sl.HS1_17 (ms0_0 0 t) (ms0_1 0 t) (ms0_2 0 t) (ms0_3 0 t) (iblk 0 m ρ c (0 : Fin 5) t) (iblk 0 m ρ c (1 : Fin 5) t) (iblk 0 m ρ c (2 : Fin 5) t) (iblk 0 m ρ c (3 : Fin 5) t)))) ?_ (View.read_writes_junk_eq_canon _ _)
  exact congrArg (scM0_1.view.read (Elt Ideal)) (by sl_kernel_rfl)

theorem stepC_m (t : Fin (cfgA 0).N) (prev : St c) (q0 : ¬P0_0 0 t) (q1 : ¬P0_1 0 t) :
    scM0_0.view.read (Elt Ideal) (step0 0 m ρ c t prev).2.1
      = View.canon (listsC c (crd 0 t) (ms0_0 0 t) (ms0_1 0 t) (ms0_2 0 t) (ms0_3 0 t) (pinT_0 0) (pinT_1 0) (iblk 0 m ρ c (0 : Fin 5) t) (iblk 0 m ρ c (1 : Fin 5) t) (iblk 0 m ρ c (2 : Fin 5) t) (iblk 0 m ρ c (3 : Fin 5) t) prev.2.1 prev.2.2).1 := by
  rw [step0_C 0 m ρ c t prev q0 q1, ← c_m]
  refine Eq.trans (b := scM0_0.view.read (Elt Ideal) (scM0_0.view.writes (Elt Ideal) scM0_0.view.junk (kernelRun0_C.sl.HS0_16 c (crd 0 t) (ms0_0 0 t) (ms0_1 0 t) (ms0_3 0 t) (pinT_0 0) (pinT_1 0) (iblk 0 m ρ c (0 : Fin 5) t) (iblk 0 m ρ c (1 : Fin 5) t) (iblk 0 m ρ c (3 : Fin 5) t) prev.2.1))) ?_ (View.read_writes_junk_eq_canon _ _)
  exact congrArg (scM0_0.view.read (Elt Ideal)) (by sl_kernel_rfl)

theorem stepC_a (t : Fin (cfgA 0).N) (prev : St c) (q0 : ¬P0_0 0 t) (q1 : ¬P0_1 0 t) :
    scM0_1.view.read (Elt Ideal) (step0 0 m ρ c t prev).2.2
      = View.canon (listsC c (crd 0 t) (ms0_0 0 t) (ms0_1 0 t) (ms0_2 0 t) (ms0_3 0 t) (pinT_0 0) (pinT_1 0) (iblk 0 m ρ c (0 : Fin 5) t) (iblk 0 m ρ c (1 : Fin 5) t) (iblk 0 m ρ c (2 : Fin 5) t) (iblk 0 m ρ c (3 : Fin 5) t) prev.2.1 prev.2.2).2 := by
  rw [step0_C 0 m ρ c t prev q0 q1, ← c_a]
  refine Eq.trans (b := scM0_1.view.read (Elt Ideal) (scM0_1.view.writes (Elt Ideal) scM0_1.view.junk (kernelRun0_C.sl.HS1_16 c (crd 0 t) (ms0_0 0 t) (ms0_1 0 t) (ms0_2 0 t) (ms0_3 0 t) (pinT_0 0) (pinT_1 0) (iblk 0 m ρ c (0 : Fin 5) t) (iblk 0 m ρ c (1 : Fin 5) t) (iblk 0 m ρ c (2 : Fin 5) t) (iblk 0 m ρ c (3 : Fin 5) t) prev.2.1 prev.2.2))) ?_ (View.read_writes_junk_eq_canon _ _)
  exact congrArg (scM0_1.view.read (Elt Ideal)) (by sl_kernel_rfl)

theorem stepC_o (t : Fin (cfgA 0).N) (prev : St c) (q0 : ¬P0_0 0 t) (q1 : ¬P0_1 0 t) :
    (step0 0 m ρ c t prev).1
      = View.canon (outs (listsC c (crd 0 t) (ms0_0 0 t) (ms0_1 0 t) (ms0_2 0 t) (ms0_3 0 t) (pinT_0 0) (pinT_1 0) (iblk 0 m ρ c (0 : Fin 5) t) (iblk 0 m ρ c (1 : Fin 5) t) (iblk 0 m ρ c (2 : Fin 5) t) (iblk 0 m ρ c (3 : Fin 5) t) prev.2.1 prev.2.2).2) := by
  rw [step0_C 0 m ρ c t prev q0 q1, ← c_a, ← c_o]
  refine Eq.trans (b := VO0_4.read (Elt Ideal) (VO0_4.writes (Elt Ideal) VO0_4.junk (kernelRun0_C.sl.HO4_8 c (crd 0 t) (ms0_0 0 t) (ms0_1 0 t) (ms0_2 0 t) (ms0_3 0 t) (pinT_0 0) (pinT_1 0) (iblk 0 m ρ c (0 : Fin 5) t) (iblk 0 m ρ c (1 : Fin 5) t) (iblk 0 m ρ c (2 : Fin 5) t) (iblk 0 m ρ c (3 : Fin 5) t) prev.2.1 prev.2.2))) ?_ (View.read_writes_junk_eq_canon _ _)
  sl_kernel_rfl

theorem stepD_m (t : Fin (cfgA 0).N) (prev : St c) (q0 : ¬P0_0 0 t) (q1 : P0_1 0 t) :
    scM0_0.view.read (Elt Ideal) (step0 0 m ρ c t prev).2.1
      = View.canon (listsD c (ms0_0 0 t) (ms0_1 0 t) (ms0_2 0 t) (ms0_3 0 t) (iblk 0 m ρ c (0 : Fin 5) t) (iblk 0 m ρ c (1 : Fin 5) t) (iblk 0 m ρ c (2 : Fin 5) t) (iblk 0 m ρ c (3 : Fin 5) t) prev.2.1 prev.2.2).1 := by
  rw [step0_D 0 m ρ c t prev q0 q1, ← d_m]
  refine Eq.trans (b := scM0_0.view.read (Elt Ideal) (scM0_0.view.writes (Elt Ideal) scM0_0.view.junk (kernelRun0_D.sl.HS0_16 c (ms0_0 0 t) (ms0_1 0 t) (ms0_3 0 t) (iblk 0 m ρ c (0 : Fin 5) t) (iblk 0 m ρ c (1 : Fin 5) t) (iblk 0 m ρ c (3 : Fin 5) t) prev.2.1))) ?_ (View.read_writes_junk_eq_canon _ _)
  exact congrArg (scM0_0.view.read (Elt Ideal)) (by sl_kernel_rfl)

theorem stepD_a (t : Fin (cfgA 0).N) (prev : St c) (q0 : ¬P0_0 0 t) (q1 : P0_1 0 t) :
    scM0_1.view.read (Elt Ideal) (step0 0 m ρ c t prev).2.2
      = View.canon (listsD c (ms0_0 0 t) (ms0_1 0 t) (ms0_2 0 t) (ms0_3 0 t) (iblk 0 m ρ c (0 : Fin 5) t) (iblk 0 m ρ c (1 : Fin 5) t) (iblk 0 m ρ c (2 : Fin 5) t) (iblk 0 m ρ c (3 : Fin 5) t) prev.2.1 prev.2.2).2 := by
  rw [step0_D 0 m ρ c t prev q0 q1, ← d_a]
  refine Eq.trans (b := scM0_1.view.read (Elt Ideal) (scM0_1.view.writes (Elt Ideal) scM0_1.view.junk (kernelRun0_D.sl.HS1_16 c (ms0_0 0 t) (ms0_1 0 t) (ms0_2 0 t) (ms0_3 0 t) (iblk 0 m ρ c (0 : Fin 5) t) (iblk 0 m ρ c (1 : Fin 5) t) (iblk 0 m ρ c (2 : Fin 5) t) (iblk 0 m ρ c (3 : Fin 5) t) prev.2.1 prev.2.2))) ?_ (View.read_writes_junk_eq_canon _ _)
  exact congrArg (scM0_1.view.read (Elt Ideal)) (by sl_kernel_rfl)

/-! ## A step of the trajectory -/

theorem new_holds (hf : Fin_ m c) (t : Fin (cfgA 0).N) (hj : jN (t.val % 10) = 0) (S : Fin 16 → FVec Ideal S512x512 .f32) (V : Fin 16 → Vec Ideal S1x1x80x512 .bf16)
    (hS : ∀ h (r y : Fin 512), S h (ix2 r y) = sc m c (bP t) (aP t) h y (512 * (jP t).val + r.val))
    (hV : ∀ h (r : Fin 80) (k : Fin 512), V h (ix4 0 0 r k) = va m c (bP t) h r (512 * (jP t).val + k.val)) :
    Holds m c (bP t) (aP t) (512 * jN (t.val % 10) + 512) (View.canon (build S V lmNew laNew clear).1) (View.canon (build S V lmNew laNew clear).2) := by
  intro h y
  have H := step m c hf (bP t) (aP t) (512 * jN (t.val % 10)) (S h) (V h) (fun _ => (⊥ : EReal)) (fun _ => (0 : EReal)) h y
    (fun r => hS h r y) (hV h) (by rw [hj]; exact (Softmax.top_zero _).symm) (fun r => by rw [hj]; exact (Softmax.acc_zero _ _).symm)
  exact ⟨((build_new S V h).1 y).trans H.1, fun r => ((build_new S V h).2 r y).trans (H.2 r)⟩

theorem old_holds (hf : Fin_ m c) (t : Fin (cfgA 0).N) (xa0 : Buf (Elt Ideal) ((c : Thread nD τ).loc cc0_scratch0))
    (xa1 : Buf (Elt Ideal) ((c : Thread nD τ).loc cc0_scratch1)) (S : Fin 16 → FVec Ideal S512x512 .f32) (V : Fin 16 → Vec Ideal S1x1x80x512 .bf16)
    (hx : Holds m c (bP t) (aP t) (512 * jN (t.val % 10)) (scM0_0.view.read (Elt Ideal) xa0) (scM0_1.view.read (Elt Ideal) xa1))
    (hS : ∀ h (r y : Fin 512), S h (ix2 r y) = sc m c (bP t) (aP t) h y (512 * (jP t).val + r.val))
    (hV : ∀ h (r : Fin 80) (k : Fin 512), V h (ix4 0 0 r k) = va m c (bP t) h r (512 * (jP t).val + k.val)) :
    Holds m c (bP t) (aP t) (512 * jN (t.val % 10) + 512) (View.canon (build S V (lmOld c xa0) (laOld c xa1) ([], [])).1)
      (View.canon (build S V (lmOld c xa0) (laOld c xa1) ([], [])).2) := by
  intro h y
  have H := step m c hf (bP t) (aP t) (512 * jN (t.val % 10)) (S h) (V h) (lmOld c xa0 [] h) (laOld c xa1 [] h) h y
    (fun r => hS h r y) (hV h) ((lmOld_apply c xa0 h y).trans (hx h y).1) (fun r => (laOld_apply c xa1 h r y).trans ((hx h y).2 r))
  exact ⟨((build_old c xa0 xa1 S V h).1 y).trans H.1, fun r => ((build_old c xa0 xa1 S V h).2 r y).trans (H.2 r)⟩

/-- A step leaves what its keys add, if a later key block found what the block before left. -/
theorem step_holds (hf : Fin_ m c) (t : Fin (cfgA 0).N) (prev : St c)
    (hp : jN (t.val % 10) ≠ 0 → Holds m c (bP t) (aP t) (512 * jN (t.val % 10)) (scM0_0.view.read (Elt Ideal) prev.2.1) (scM0_1.view.read (Elt Ideal) prev.2.2)) :
    Holds m c (bP t) (aP t) (512 * jN (t.val % 10) + 512) (scM0_0.view.read (Elt Ideal) (step0 0 m ρ c t prev).2.1)
      (scM0_1.view.read (Elt Ideal) (step0 0 m ρ c t prev).2.2)
    ∧ (jN (t.val % 10) = iN (t.val % 10) → ∀ (y : Fin 512) (z : Fin 1024), (step0 0 m ρ c t prev).1 (ix3 0 y z)
      = Ideal.div (Softmax.acc (sc m c (bP t) (aP t) ⟨z.val / 64, by omega⟩ y) (va m c (bP t) ⟨z.val / 64, by omega⟩ ⟨z.val % 64, by omega⟩) (512 * jN (t.val % 10) + 512))
          (Softmax.acc (sc m c (bP t) (aP t) ⟨z.val / 64, by omega⟩ y) (va m c (bP t) ⟨z.val / 64, by omega⟩ 64) (512 * jN (t.val % 10) + 512))) := by
  have hat := at_ t
  have h0 := hat.2.2.2.2.2.2.2.1
  have h1 := hat.2.2.2.2.2.2.2.2.1
  have hle := (steps ⟨t.val % 10, by omega⟩).2.1
  change jN (t.val % 10) ≤ iN (t.val % 10) at hle
  by_cases q0 : P0_0 0 t
  · by_cases q1 : P0_1 0 t
    · have H := new_holds m c hf t (h0.1 q0) _ _ (score_full m ρ c t (h1.1 q1)) (val_point m ρ c t)
      have hlt := h1.1 q1
      rw [stepB_m m ρ c t prev q0 q1, stepB_a m ρ c t prev q0 q1]
      exact ⟨H, fun e => absurd e (by omega)⟩
    · have H := new_holds m c hf t (h0.1 q0) _ _ (score_masked m ρ c t) (val_point m ρ c t)
      rw [stepA_m m ρ c t prev q0 q1, stepA_a m ρ c t prev q0 q1, stepA_o m ρ c t prev q0 q1]
      refine ⟨H, fun _ y z => ?_⟩
      rw [outs_read]
      exact congrArg₂ Ideal.div ((H _ _).2 _) ((H _ _).2 _)
  · have hj : jN (t.val % 10) ≠ 0 := fun e => q0 (h0.2 e)
    by_cases q1 : P0_1 0 t
    · have H := old_holds m c hf t prev.2.1 prev.2.2 _ _ (hp hj) (score_full m ρ c t (h1.1 q1)) (val_point m ρ c t)
      have hlt := h1.1 q1
      rw [stepD_m m ρ c t prev q0 q1, stepD_a m ρ c t prev q0 q1]
      exact ⟨H, fun e => absurd e (by omega)⟩
    · have H := old_holds m c hf t prev.2.1 prev.2.2 _ _ (hp hj) (score_masked m ρ c t) (val_point m ρ c t)
      rw [stepC_m m ρ c t prev q0 q1, stepC_a m ρ c t prev q0 q1, stepC_o m ρ c t prev q0 q1]
      refine ⟨H, fun _ y z => ?_⟩
      rw [outs_read]
      exact congrArg₂ Ideal.div ((H _ _).2 _) ((H _ _).2 _)

/-- The scratch buffers after every point. -/
theorem traj_holds (hf : Fin_ m c) : ∀ (n : ℕ) (hn : n < (cfgA 0).N),
    Holds m c (bP ⟨n, hn⟩) (aP ⟨n, hn⟩) (512 * jN (n % 10) + 512) (scM0_0.view.read (Elt Ideal) (traj0 0 m ρ c n hn).2.1)
      (scM0_1.view.read (Elt Ideal) (traj0 0 m ρ c n hn).2.2)
  | 0, hn => (step_holds m ρ c hf ⟨0, hn⟩ (default, default, default) (fun h => absurd rfl h)).1
  | n + 1, hn => by
    refine (step_holds m ρ c hf ⟨n + 1, hn⟩ (traj0 0 m ρ c n (Nat.lt_of_succ_lt hn)) (fun h => ?_)).1
    have ih := traj_holds hf n (Nat.lt_of_succ_lt hn)
    have hs := (steps ⟨(n + 1) % 10, by omega⟩).2.2 h
    obtain ⟨h0, hi, hj⟩ := hs
    dsimp only at h0 hi hj
    have em : (n + 1) % 10 - 1 = n % 10 := by omega
    rw [em] at hi hj
    have eb : bP ⟨n, Nat.lt_of_succ_lt hn⟩ = bP ⟨n + 1, hn⟩ := Fin.ext (by show n / 10 = (n + 1) / 10; omega)
    have ea : aP ⟨n, Nat.lt_of_succ_lt hn⟩ = aP ⟨n + 1, hn⟩ := Fin.ext hi
    have en : 512 * jN (n % 10) + 512 = 512 * jN ((n + 1) % 10) := by omega
    rw [eb, ea, en] at ih
    exact ih

/-- The output block after the last point of a query block. -/
theorem traj_out (hf : Fin_ m c) (t : Fin (cfgA 0).N) (ht : jN (t.val % 10) = iN (t.val % 10)) (y : Fin 512) (z : Fin 1024) :
    (traj0 0 m ρ c t.val t.isLt).1 (ix3 0 y z)
      = Ideal.div (Softmax.acc (sc m c (bP t) (aP t) ⟨z.val / 64, by omega⟩ y) (va m c (bP t) ⟨z.val / 64, by omega⟩ ⟨z.val % 64, by omega⟩) (512 * (aP t).val + 512))
          (Softmax.acc (sc m c (bP t) (aP t) ⟨z.val / 64, by omega⟩ y) (va m c (bP t) ⟨z.val / 64, by omega⟩ 64) (512 * (aP t).val + 512)) := by
  rw [traj0_eq]
  have H := (step_holds m ρ c hf t (prev0 0 m ρ c t) (fun h => ?_)).2 ht y z
  · rw [H]
    have : (aP t).val = jN (t.val % 10) := ht.symm
    rw [this]
  · have hs := (steps ⟨t.val % 10, by omega⟩).2.2 h
    obtain ⟨h0, hi, hj⟩ := hs
    dsimp only at h0 hi hj
    have hz : t.val ≠ 0 := by omega
    have ih := traj_holds m ρ c hf (t.val - 1) (by have := t.isLt; omega)
    have em : t.val % 10 - 1 = (t.val - 1) % 10 := by omega
    rw [em] at hi hj
    have eb : bP ⟨t.val - 1, by have := t.isLt; omega⟩ = bP t := Fin.ext (by show (t.val - 1) / 10 = t.val / 10; omega)
    have ea : aP ⟨t.val - 1, by have := t.isLt; omega⟩ = aP t := Fin.ext hi
    have en : 512 * jN ((t.val - 1) % 10) + 512 = 512 * jN (t.val % 10) := by omega
    rw [eb, ea, en] at ih
    unfold prev0
    rw [dif_neg hz]
    exact ih

/-! ## The result array -/

/-- What the kernel computes. -/
def resultK (b : Fin 32) (q : Fin 2048) (z : Fin 1024) : EReal :=
  Ideal.div (Softmax.acc (sc m c b ⟨q.val / 512, by omega⟩ ⟨z.val / 64, by omega⟩ ⟨q.val % 512, by omega⟩) (va m c b ⟨z.val / 64, by omega⟩ ⟨z.val % 64, by omega⟩) (512 * (q.val / 512) + 512))
    (Softmax.acc (sc m c b ⟨q.val / 512, by omega⟩ ⟨z.val / 64, by omega⟩ ⟨q.val % 512, by omega⟩) (va m c b ⟨z.val / 64, by omega⟩ 64) (512 * (q.val / 512) + 512))

theorem final (hf : Fin_ m c) : (dats 0 m ρ 0 c).arrAt (4 : Fin 5) (cfgA 0).N = fun i : S32x2048x1024.Idx => resultK m c (i 0) (i 1) (i 2) := by
  refine (dats 0 m ρ 0 c).arrAt_eq_of_covers (4 : Fin 5) _ covers fun t hft y => ?_
  have hat := at_ t
  have ht := hat.2.2.2.2.2.2.2.2.2.1 hft
  have hi := hat.2.2.2.2.1
  obtain ⟨y', z', hy⟩ : ∃ (y' : Fin 512) (z' : Fin 1024), (y : S1x512x1024.Idx) = ix3 0 y' z' := by
    refine ⟨y 1, y 2, (eq_ix3 (y : S1x512x1024.Idx)).trans ?_⟩
    congr 1
    exact Subsingleton.elim (α := Fin 1) _ _
  have he : (((cfgA 0).win (4 : Fin 5)).blk t).view.emb y = ix3 (bP t) (krow (aP t) y') z' := by
    subst hy
    funext a; apply Fin.ext
    match a with
    | ⟨0, _⟩ => show ((cfgA 0).win (4 : Fin 5)).index t 0 * 1 + 1 * 0 = t.val / 10; rw [hi]; show t.val / 10 * 1 + 1 * 0 = _; omega
    | ⟨1, _⟩ => show ((cfgA 0).win (4 : Fin 5)).index t 1 * 512 + 1 * y'.val = 512 * iN (t.val % 10) + y'.val; rw [hi]; show iN (t.val % 10) * 512 + 1 * y'.val = _; omega
    | ⟨2, _⟩ => show ((cfgA 0).win (4 : Fin 5)).index t 2 * 1024 + 1 * z'.val = z'.val; rw [hi]; show 0 * 1024 + 1 * z'.val = _; omega
  rw [he]
  show (traj0 0 m ρ c t.val t.isLt).1 y = resultK m c (bP t) (krow (aP t) y') z'
  have hy' : y = (ix3 0 y' z' : S1x512x1024.Idx) := hy
  rw [hy']
  refine (traj_out m ρ c hf t ht y' z').trans ?_
  have e1 : (krow (aP t) y').val / 512 = (aP t).val := by show (512 * (aP t).val + y'.val) / 512 = _; omega
  have e2 : (krow (aP t) y').val % 512 = y'.val := by show (512 * (aP t).val + y'.val) % 512 = _; omega
  unfold resultK
  simp only [e1, e2]

end Cert.KernelIdeal.Traj
end
end
-- ==== Proof.Ref.lean ====
module

public import proofs.«01_k».proof.Proof.Softmax
public import proofs.«01_k».proof.Proof.Gen.ReferenceIdeal.Read
public import Idealize.ShloMosaic.Lib.Pointwise

@[expose] public section

/-! # The reference at an index

What the plain attention of the reference leaves at an index: the softmax average of the values over the keys. -/

set_option maxRecDepth 65536
set_option Elab.async false

noncomputable section

namespace Cert.ReferenceIdeal.At

open Cert.ReferenceIdeal Cert.ReferenceIdeal.Gen Cert.ReferenceIdeal.Read
open Idealize.ShloMosaic
open Idealize.SL Idealize.SL.Sem

variable (q : S32x4x2048x512.Idx → EReal) (k : S32x2048x1024.Idx → EReal) (v : S32x4x1280x512.Idx → EReal) (g : S32x2048x128.Idx → EReal)

/-- Feature `e` of the slab of head `h`, query `t`. -/
def slab (b : Fin 32) (t : Fin 2048) (h : Fin 16) (e : Fin 128) : EReal :=
  q (ix4 b (⟨t.val / 512, by omega⟩ : Fin 4) (⟨128 * h.val + e.val, by omega⟩ : Fin 2048) (⟨t.val % 512, by omega⟩ : Fin 512))

theorem slab_apply (b : Fin 32) (t : Fin 2048) (h : Fin 16) (e : Fin 128) :
    val_main_v3 (F := Ideal) q (ix4 b t h e) = slab q b t h e := by
  rw [val_main_v3_apply, show idx_main_v3 (ix4 b t h e) = ix5 b (⟨t.val / 512, by omega⟩ : Fin 4) (⟨t.val % 512, by omega⟩ : Fin 512) h e from by
      funext a; apply Fin.ext
      match a with
      | ⟨0, _⟩ => show (((b.val * 2048 + t.val) * 16 + h.val) * 128 + e.val) / 4194304 = b.val; omega
      | ⟨1, _⟩ => show (((b.val * 2048 + t.val) * 16 + h.val) * 128 + e.val) / 1048576 % 4 = t.val / 512; omega
      | ⟨2, _⟩ => show (((b.val * 2048 + t.val) * 16 + h.val) * 128 + e.val) / 2048 % 512 = t.val % 512; omega
      | ⟨3, _⟩ => show (((b.val * 2048 + t.val) * 16 + h.val) * 128 + e.val) / 128 % 16 = h.val; omega
      | ⟨4, _⟩ => show (((b.val * 2048 + t.val) * 16 + h.val) * 128 + e.val) % 128 = e.val; omega,
    val_main_v2_apply, val_main_v1_apply, val_main_v0_apply]
  show q _ = q _
  congr 1
  funext a; apply Fin.ext
  have hy : t.val % 512 < 512 := by omega
  have ha : t.val / 512 < 4 := by omega
  match a with
  | ⟨0, _⟩ => show ((((b.val * 4 + t.val / 512) * 16 + h.val) * 128 + e.val) * 512 + t.val % 512) / 4194304 = b.val; generalize t.val % 512 = y at hy ⊢; generalize t.val / 512 = w at ha ⊢; omega
  | ⟨1, _⟩ => show ((((b.val * 4 + t.val / 512) * 16 + h.val) * 128 + e.val) * 512 + t.val % 512) / 1048576 % 4 = t.val / 512; generalize t.val % 512 = y at hy ⊢; generalize t.val / 512 = w at ha ⊢; omega
  | ⟨2, _⟩ => show ((((b.val * 4 + t.val / 512) * 16 + h.val) * 128 + e.val) * 512 + t.val % 512) / 512 % 2048 = 128 * h.val + e.val; generalize t.val % 512 = y at hy ⊢; generalize t.val / 512 = w at ha ⊢; omega
  | ⟨3, _⟩ => show ((((b.val * 4 + t.val / 512) * 16 + h.val) * 128 + e.val) * 512 + t.val % 512) % 512 = t.val % 512; generalize t.val % 512 = y at hy ⊢; generalize t.val / 512 = w at ha ⊢; omega

/-- Feature `d` of head `h`, query `t`: the lower half of an even head's slab, the upper half of an odd head's. -/
def qry (b : Fin 32) (t : Fin 2048) (h : Fin 16) (d : Fin 64) : EReal :=
  slab q b t h (⟨64 * (h.val % 2) + d.val, by omega⟩ : Fin 128)

theorem even_bit (h : Fin 16) : IntOp.cmpi .eq (IntOp.andi (BitVec.ofNat 32 h.val) 1#32) 0#32 = if h.val % 2 = 0 then 1#1 else 0#1 := by
  revert h; decide

theorem qry_apply (b : Fin 32) (t : Fin 2048) (h : Fin 16) (d : Fin 64) :
    val_main_v11 (F := Ideal) q (ix4 b t h d) = qry q b t h d := by
  rw [val_main_v11_apply, val_main_v8_apply, val_main_v6_apply, val_main_v4_apply, val_main_v5_apply, val_main_c_apply,
    val_main_v7_apply, val_main_c_0_apply, val_main_v9_apply, val_main_v10_apply]
  have e1 : idx_main_v9 (ix4 b t h d) = ix4 b t h (⟨d.val, by omega⟩ : Fin 128) := by
    funext a; apply Fin.ext
    match a with
    | ⟨0, _⟩ => rfl
    | ⟨1, _⟩ => rfl
    | ⟨2, _⟩ => rfl
    | ⟨3, _⟩ => rfl
  have e2 : idx_main_v10 (ix4 b t h d) = ix4 b t h (⟨64 + d.val, by omega⟩ : Fin 128) := by
    funext a; apply Fin.ext
    match a with
    | ⟨0, _⟩ => rfl
    | ⟨1, _⟩ => rfl
    | ⟨2, _⟩ => rfl
    | ⟨3, _⟩ => rfl
  rw [e1, e2, slab_apply, slab_apply]
  show Scalar.select (IntOp.cmpi .eq (IntOp.andi (BitVec.ofNat 32 h.val) 1#32) 0#32) _ _ = _
  rw [even_bit]
  unfold qry
  rcases Nat.mod_two_eq_zero_or_one h.val with hh | hh
  · rw [if_pos hh]
    show slab q b t h _ = slab q b t h _
    congr 1; apply Fin.ext; show d.val = 64 * (h.val % 2) + d.val; omega
  · rw [if_neg (by omega)]
    show slab q b t h _ = slab q b t h _
    congr 1; apply Fin.ext; show 64 + d.val = 64 * (h.val % 2) + d.val; omega

/-- Feature `d` of head `h`, key `t`. -/
def key (b : Fin 32) (t : Fin 2048) (h : Fin 16) (d : Fin 64) : EReal := k (ix3 b t (⟨64 * h.val + d.val, by omega⟩ : Fin 1024))

theorem key_apply (b : Fin 32) (t : Fin 2048) (h : Fin 16) (d : Fin 64) :
    val_main_v13 (F := Ideal) k (ix4 b t h d) = key k b t h d := by
  rw [val_main_v13_apply, val_main_v12_apply]
  show k _ = k _
  congr 1
  funext a; apply Fin.ext
  match a with
  | ⟨0, _⟩ => show (((b.val * 2048 + t.val) * 16 + h.val) * 64 + d.val) / 2097152 = b.val; omega
  | ⟨1, _⟩ => show (((b.val * 2048 + t.val) * 16 + h.val) * 64 + d.val) / 1024 % 2048 = t.val; omega
  | ⟨2, _⟩ => show (((b.val * 2048 + t.val) * 16 + h.val) * 64 + d.val) % 1024 = 64 * h.val + d.val; omega

/-- Feature `d` of head `h`, value `t`. -/
def vlu (b : Fin 32) (t : Fin 2048) (h : Fin 16) (d : Fin 64) : EReal :=
  v (ix4 b (⟨t.val / 512, by omega⟩ : Fin 4) (⟨80 * h.val + d.val, by omega⟩ : Fin 1280) (⟨t.val % 512, by omega⟩ : Fin 512))

theorem vlu_apply (b : Fin 32) (t : Fin 2048) (h : Fin 16) (d : Fin 64) :
    val_main_v18 (F := Ideal) v (ix4 b t h d) = vlu v b t h d := by
  rw [val_main_v18_apply, show idx_main_v18 (ix4 b t h d) = ix5 b (⟨t.val / 512, by omega⟩ : Fin 4) (⟨t.val % 512, by omega⟩ : Fin 512) h d from by
      funext a; apply Fin.ext
      match a with
      | ⟨0, _⟩ => show (((b.val * 2048 + t.val) * 16 + h.val) * 64 + d.val) / 2097152 = b.val; omega
      | ⟨1, _⟩ => show (((b.val * 2048 + t.val) * 16 + h.val) * 64 + d.val) / 524288 % 4 = t.val / 512; omega
      | ⟨2, _⟩ => show (((b.val * 2048 + t.val) * 16 + h.val) * 64 + d.val) / 1024 % 512 = t.val % 512; omega
      | ⟨3, _⟩ => show (((b.val * 2048 + t.val) * 16 + h.val) * 64 + d.val) / 64 % 16 = h.val; omega
      | ⟨4, _⟩ => show (((b.val * 2048 + t.val) * 16 + h.val) * 64 + d.val) % 64 = d.val; omega,
    val_main_v17_apply, val_main_v16_apply, val_main_v15_apply, val_main_v14_apply]
  show v _ = v _
  congr 1
  funext a; apply Fin.ext
  have hy : t.val % 512 < 512 := by omega
  have ha : t.val / 512 < 4 := by omega
  match a with
  | ⟨0, _⟩ => show ((((b.val * 4 + t.val / 512) * 16 + h.val) * 80 + d.val) * 512 + t.val % 512) / 2621440 = b.val; generalize t.val % 512 = y at hy ⊢; generalize t.val / 512 = w at ha ⊢; omega
  | ⟨1, _⟩ => show ((((b.val * 4 + t.val / 512) * 16 + h.val) * 80 + d.val) * 512 + t.val % 512) / 655360 % 4 = t.val / 512; generalize t.val % 512 = y at hy ⊢; generalize t.val / 512 = w at ha ⊢; omega
  | ⟨2, _⟩ => show ((((b.val * 4 + t.val / 512) * 16 + h.val) * 80 + d.val) * 512 + t.val % 512) / 512 % 1280 = 80 * h.val + d.val; generalize t.val % 512 = y at hy ⊢; generalize t.val / 512 = w at ha ⊢; omega
  | ⟨3, _⟩ => show ((((b.val * 4 + t.val / 512) * 16 + h.val) * 80 + d.val) * 512 + t.val % 512) % 512 = t.val % 512; generalize t.val % 512 = y at hy ⊢; generalize t.val / 512 = w at ha ⊢; omega

/-- The accumulated gate of head `h` at `t`. -/
def gate (b : Fin 32) (h : Fin 16) (t : Fin 2048) : EReal := g (ix3 b t (⟨h.val, by omega⟩ : Fin 128))

theorem gate_apply (b : Fin 32) (h : Fin 16) (t : Fin 2048) : val_main_v20 (F := Ideal) g (ix3 b h t) = gate g b h t := by
  rw [val_main_v20_apply, val_main_v19_apply]
  show g _ = g _
  congr 1
  funext a; apply Fin.ext
  match a with
  | ⟨0, _⟩ => rfl
  | ⟨1, _⟩ => rfl
  | ⟨2, _⟩ => rfl

/-- The score of key `j` for query `t`. -/
def score (b : Fin 32) (h : Fin 16) (t j : Fin 2048) : EReal :=
  (∑ d : Fin 64, qry q b t h d * key k b j h d) * ((Real.log 2 : ℝ) : EReal) + gate g b h t - gate g b h j

theorem two_eq : Ideal.ofBits .f32 0x40000000#32 = ((2 : ℝ) : EReal) := by
  simp [Ideal.ofBits, Ideal.ieee, -EReal.coe_mul]; norm_num

theorem score_apply (b : Fin 32) (h : Fin 16) (t j : Fin 2048) :
    val_main_v30 (F := Ideal) q k g (ix4 b h t j) = score q k g b h t j := by
  rw [val_main_v30_apply, val_main_v27_apply, val_main_v24_apply, val_main_v21_apply, val_main_v23_apply, val_main_v22_apply,
    val_main_cst_apply, val_main_v26_apply, val_main_v25_apply, val_main_v29_apply, val_main_v28_apply]
  show (∑ d : Fin 64, val_main_v11 (F := Ideal) q (lidx_main_v21 (ix4 b h t j) d) * val_main_v13 (F := Ideal) k (ridx_main_v21 (ix4 b h t j) d))
      * Ideal.log (Ideal.ofBits .f32 0x40000000#32) + val_main_v20 (F := Ideal) g _ - val_main_v20 (F := Ideal) g _ = _
  unfold score
  have e1 : idx_main_v25 (idx_main_v26 (ix4 b h t j)) = ix3 b h t := by
    funext a; apply Fin.ext
    match a with
    | ⟨0, _⟩ => rfl
    | ⟨1, _⟩ => rfl
    | ⟨2, _⟩ => rfl
  have e2 : idx_main_v28 (idx_main_v29 (ix4 b h t j)) = ix3 b h j := by
    funext a; apply Fin.ext
    match a with
    | ⟨0, _⟩ => rfl
    | ⟨1, _⟩ => rfl
    | ⟨2, _⟩ => rfl
  rw [e1, e2, gate_apply, gate_apply, two_eq, Ideal.log_coe, if_neg (by norm_num)]
  congr 3
  refine Finset.sum_congr rfl fun d _ => congrArg₂ (fun x y : EReal => x * y) ?_ ?_
  · rw [← qry_apply]; congr 1
    funext a; apply Fin.ext
    match a with
    | ⟨0, _⟩ => rfl
    | ⟨1, _⟩ => rfl
    | ⟨2, _⟩ => rfl
    | ⟨3, _⟩ => rfl
  · rw [← key_apply]; congr 1
    funext a; apply Fin.ext
    match a with
    | ⟨0, _⟩ => rfl
    | ⟨1, _⟩ => rfl
    | ⟨2, _⟩ => rfl
    | ⟨3, _⟩ => rfl

/-- The same, causal: `⊥` beyond the query. -/
def sr (b : Fin 32) (h : Fin 16) (t : Fin 2048) (j : ℕ) : EReal :=
  if hj : j < 2048 ∧ j ≤ t.val then score q k g b h t ⟨j, hj.1⟩ else ⊥

theorem ninf_eq : Ideal.ofBits .f32 0xFF800000#32 = ⊥ := by
  rw [Ideal.ofBits]; rfl

theorem causal_bit (t j : Fin 2048) :
    IntOp.cmpi .sle (BitVec.ofNat 32 j.val) (BitVec.ofNat 32 t.val) = if j.val ≤ t.val then 1#1 else 0#1 := by
  have ea : (BitVec.ofNat 32 j.val).toInt = j.val := by
    rw [BitVec.toInt_eq_toNat_of_lt] <;> rw [BitVec.toNat_ofNat, Nat.mod_eq_of_lt (by omega)]
    omega
  have eb : (BitVec.ofNat 32 t.val).toInt = t.val := by
    rw [BitVec.toInt_eq_toNat_of_lt] <;> rw [BitVec.toNat_ofNat, Nat.mod_eq_of_lt (by omega)]
    omega
  simp only [IntOp.cmpi, BitVec.sle, ea, eb, Nat.cast_le]
  split <;> simp [*]

theorem sr_apply (b : Fin 32) (h : Fin 16) (t j : Fin 2048) :
    val_main_v34 (F := Ideal) q k g (ix4 b h t j) = sr q k g b h t j.val := by
  rw [val_main_v34_apply, val_main_call1_v1_apply, val_main_v33_apply, val_main_v32_apply, val_main_v31_apply,
    val_main_call1_v2_apply, val_main_call1_v0_apply, val_main_cst_1_apply, score_apply]
  show Scalar.select (IntOp.cmpi .sle (BitVec.ofNat 32 j.val) (BitVec.ofNat 32 t.val)) _ (Ideal.ofBits .f32 0xFF800000#32) = _
  rw [causal_bit, ninf_eq]
  unfold sr
  rcases Nat.lt_or_ge t.val j.val with hh | hh
  · rw [if_neg (by omega), dif_neg (by omega)]; rfl
  · rw [if_pos hh, dif_pos ⟨j.isLt, hh⟩]; rfl

theorem top_apply (b : Fin 32) (h : Fin 16) (t : Fin 2048) :
    val_main_v37 (F := Ideal) q k g (ix3 b h t) = Softmax.top (sr q k g b h t) 2048 := by
  rw [val_main_v37_apply, val_main_v36_apply, val_main_cst_3_apply]
  show max (Ideal.ofBits .f32 0xFF800000#32) (val_main_v35 (F := Ideal) q k g (ix3 b h t)) = _
  rw [ninf_eq, max_eq_right bot_le]
  unfold val_main_v35
  simp only [pointwise]
  rw [val_main_cst_2_apply]
  show Finset.univ.fold max (Ideal.ofBits .f32 0xFF800000#32) (fun j : Fin 2048 => val_main_v34 (F := Ideal) q k g (ix4 b h t j)) = _
  rw [ninf_eq]
  simp only [sr_apply]
  exact Softmax.fold_max_fin 2048 _

theorem exp_apply (b : Fin 32) (h : Fin 16) (t j : Fin 2048) :
    val_main_v41 (F := Ideal) q k g (ix4 b h t j) = Ideal.exp (sr q k g b h t j.val - Softmax.top (sr q k g b h t) 2048) := by
  rw [val_main_v41_apply, val_main_v40_apply, val_main_v39_apply, val_main_v38_apply, sr_apply]
  rw [show idx_main_v38 (idx_main_v39 (ix4 b h t j)) = ix3 b h t from by
    funext a; apply Fin.ext
    match a with
    | ⟨0, _⟩ => rfl
    | ⟨1, _⟩ => rfl
    | ⟨2, _⟩ => rfl, top_apply]
  rfl

theorem zero_eq : Ideal.ofBits .f32 0x00000000#32 = 0 := by
  simp [Ideal.ofBits, Ideal.ieee]

theorem prob_apply (b : Fin 32) (h : Fin 16) (t j : Fin 2048) :
    val_main_v45 (F := Ideal) q k g (ix4 b h t j) = Ideal.div (Ideal.exp (sr q k g b h t j.val - Softmax.top (sr q k g b h t) 2048))
      (∑ i : Fin 2048, Ideal.exp (sr q k g b h t i.val - Softmax.top (sr q k g b h t) 2048)) := by
  rw [val_main_v45_apply, val_main_v44_apply, val_main_v43_apply, val_main_v42_apply, val_main_cst_4_apply, exp_apply]
  show Ideal.div _ (Ideal.ofBits .f32 0x00000000#32 + _) = _
  rw [zero_eq, zero_add]
  congr 1
  refine Finset.sum_congr rfl fun i _ => ?_
  rw [← exp_apply]
  congr 1
  funext a; apply Fin.ext
  match a with
  | ⟨0, _⟩ => rfl
  | ⟨1, _⟩ => rfl
  | ⟨2, _⟩ => rfl
  | ⟨3, _⟩ => rfl

/-- The result: the softmax average of the values of a head. -/
theorem result_apply (b : Fin 32) (t : Fin 2048) (z : Fin 1024) :
    val_main_v49 (F := Ideal) q k v g (ix3 b t z)
      = ∑ j : Fin 2048, vlu v b j (⟨z.val / 64, by omega⟩ : Fin 16) (⟨z.val % 64, by omega⟩ : Fin 64)
        * Ideal.div (Ideal.exp (sr q k g b (⟨z.val / 64, by omega⟩ : Fin 16) t j.val - Softmax.top (sr q k g b (⟨z.val / 64, by omega⟩ : Fin 16) t) 2048))
          (∑ i : Fin 2048, Ideal.exp (sr q k g b (⟨z.val / 64, by omega⟩ : Fin 16) t i.val - Softmax.top (sr q k g b (⟨z.val / 64, by omega⟩ : Fin 16) t) 2048)) := by
  rw [val_main_v49_apply, val_main_v48_apply, val_main_v47_apply, val_main_v46_apply]
  refine Finset.sum_congr rfl fun j _ => ?_
  rw [← prob_apply, ← vlu_apply]
  have e1 : lidx_main_v46 (idx_main_v47 (idx_main_v48 (ix3 b t z))) j = ix4 b j (⟨z.val / 64, by omega⟩ : Fin 16) (⟨z.val % 64, by omega⟩ : Fin 64) := by
    funext a; apply Fin.ext
    match a with
    | ⟨0, _⟩ => show ((b.val * 2048 + t.val) * 1024 + z.val) / 2097152 = b.val; omega
    | ⟨1, _⟩ => rfl
    | ⟨2, _⟩ => show ((b.val * 2048 + t.val) * 1024 + z.val) / 64 % 16 = z.val / 64; omega
    | ⟨3, _⟩ => show ((b.val * 2048 + t.val) * 1024 + z.val) % 64 = z.val % 64; omega
  have e2 : ridx_main_v46 (idx_main_v47 (idx_main_v48 (ix3 b t z))) j = ix4 b (⟨z.val / 64, by omega⟩ : Fin 16) t j := by
    funext a; apply Fin.ext
    match a with
    | ⟨0, _⟩ => show ((b.val * 2048 + t.val) * 1024 + z.val) / 2097152 = b.val; omega
    | ⟨1, _⟩ => show ((b.val * 2048 + t.val) * 1024 + z.val) / 64 % 16 = z.val / 64; omega
    | ⟨2, _⟩ => show ((b.val * 2048 + t.val) * 1024 + z.val) / 1024 % 2048 = t.val; omega
    | ⟨3, _⟩ => rfl
  rw [e1, e2]

end Cert.ReferenceIdeal.At

end
-- ==== Proof.Eq.lean ====
module

public import proofs.«01_k».proof.Proof.Row
public import proofs.«01_k».proof.Proof.Ref

@[expose] public section

/-! # The two results are one

For arguments of the described form the quotients of the kernel are the softmax averages of the reference. -/

set_option maxRecDepth 65536
set_option Elab.async false

noncomputable section

namespace Cert.KernelIdeal.Traj

open Cert.KernelIdeal Cert.KernelIdeal.Gen Cert.KernelIdeal.Heads
open Idealize.ShloMosaic
open Idealize.ShloMosaic.TcCoe
open Idealize.SL Idealize.SL.Sem
open Cert.ReferenceIdeal.At (qry key slab vlu gate sr)

variable (m : (ℓ : Loc nD τ sig) → Buf (Elt Ideal) ℓ) (c : Dev nD)

/-- The arguments: the unused half of each head's slab is zero, queries, keys and gates are real, row 64 of the values is ones. -/
structure Good : Prop where
  zero : ∀ (b : Fin 32) (a : Fin 4) (r : Fin 2048) (y : Fin 512), r.val / 64 % 2 ≠ r.val / 128 % 2 → qA m c (ix4 b a r y) = 0
  qreal : ∀ i, ∃ r : ℝ, qA m c i = r
  kreal : ∀ i, ∃ r : ℝ, kA m c i = r
  creal : ∀ i, ∃ r : ℝ, cA m c i = r
  ones : ∀ (b : Fin 32) (j : Fin 4) (h : Fin 16) (y : Fin 512), vA m c (ix4 b j (arow h 64) y) = 1

theorem sum_real {n : ℕ} (f g : Fin n → EReal) (hf : ∀ i, ∃ r : ℝ, f i = r) (hg : ∀ i, ∃ r : ℝ, g i = r) :
    ∃ r : ℝ, ∑ i, f i * g i = r := by
  choose u hu using hf
  choose w hw using hg
  refine Finset.sum_induction _ (fun x : EReal => ∃ r : ℝ, x = r) ?_ ⟨0, rfl⟩ fun i _ => ⟨u i * w i, ?_⟩
  · rintro _ _ ⟨r, rfl⟩ ⟨s, rfl⟩; exact ⟨r + s, (EReal.coe_add r s).symm⟩
  · rw [hu, hw, EReal.coe_mul]

theorem dot_eq (hG : Good m c) (b : Fin 32) (t : Fin 2048) (h : Fin 16) (k : Fin 2048) :
    (∑ d : Fin 128, kA m c (ix3 b k (⟨128 * (h.val / 2) + d.val, by omega⟩ : Fin 1024))
        * qA m c (ix4 b (⟨t.val / 512, by omega⟩ : Fin 4) (⟨128 * h.val + d.val, by omega⟩ : Fin 2048) (⟨t.val % 512, by omega⟩ : Fin 512)))
      = ∑ d : Fin 64, qry (qA m c) b t h d * key (kA m c) b k h d := by
  rw [show (∑ d : Fin 128, kA m c (ix3 b k (⟨128 * (h.val / 2) + d.val, by omega⟩ : Fin 1024))
        * qA m c (ix4 b (⟨t.val / 512, by omega⟩ : Fin 4) (⟨128 * h.val + d.val, by omega⟩ : Fin 2048) (⟨t.val % 512, by omega⟩ : Fin 512)))
      = (∑ d : Fin 64, kA m c (ix3 b k (⟨128 * (h.val / 2) + d.val, by omega⟩ : Fin 1024))
          * qA m c (ix4 b (⟨t.val / 512, by omega⟩ : Fin 4) (⟨128 * h.val + d.val, by omega⟩ : Fin 2048) (⟨t.val % 512, by omega⟩ : Fin 512)))
        + ∑ d : Fin 64, kA m c (ix3 b k (⟨128 * (h.val / 2) + (64 + d.val), by omega⟩ : Fin 1024))
          * qA m c (ix4 b (⟨t.val / 512, by omega⟩ : Fin 4) (⟨128 * h.val + (64 + d.val), by omega⟩ : Fin 2048) (⟨t.val % 512, by omega⟩ : Fin 512))
    from Fin.sum_univ_add (a := 64) (b := 64) _]
  rcases Nat.mod_two_eq_zero_or_one h.val with hh | hh
  · rw [Finset.sum_eq_zero (f := fun d : Fin 64 => kA m c (ix3 b k (⟨128 * (h.val / 2) + (64 + d.val), by omega⟩ : Fin 1024)) * _), add_zero]
    · refine Finset.sum_congr rfl fun d _ => ?_
      rw [mul_comm]
      unfold qry slab key
      congr 3
      · congr 1; show 128 * h.val + d.val = 128 * h.val + (64 * (h.val % 2) + d.val); omega
      · apply Fin.ext; show 128 * (h.val / 2) + d.val = 64 * h.val + d.val; omega
    · intro d _
      rw [hG.zero _ _ _ _ (by show (128 * h.val + (64 + d.val)) / 64 % 2 ≠ (128 * h.val + (64 + d.val)) / 128 % 2; omega), mul_zero]
  · rw [Finset.sum_eq_zero (f := fun d : Fin 64 => kA m c (ix3 b k (⟨128 * (h.val / 2) + d.val, by omega⟩ : Fin 1024)) * _), zero_add]
    · refine Finset.sum_congr rfl fun d _ => ?_
      rw [mul_comm]
      unfold qry slab key
      congr 3
      · congr 1; show 128 * h.val + (64 + d.val) = 128 * h.val + (64 * (h.val % 2) + d.val); omega
      · apply Fin.ext; show 128 * (h.val / 2) + (64 + d.val) = 64 * h.val + d.val; omega
    · intro d _
      rw [hG.zero _ _ _ _ (by show (128 * h.val + d.val) / 64 % 2 ≠ (128 * h.val + d.val) / 128 % 2; omega), mul_zero]

theorem good_fin (hG : Good m c) : Fin_ m c := by
  intro b a h y k
  obtain ⟨s, hs⟩ := sum_real (fun d : Fin 128 => kA m c (ix3 b k (⟨128 * (h.val / 2) + d.val, by omega⟩ : Fin 1024)))
    (fun d : Fin 128 => qA m c (ix4 b a (⟨128 * h.val + d.val, by omega⟩ : Fin 2048) y)) (fun _ => hG.kreal _) (fun _ => hG.qreal _)
  obtain ⟨g, hg⟩ := hG.creal (ix3 b k (⟨h.val, by omega⟩ : Fin 128))
  refine ⟨s - g * (Real.log 2)⁻¹, ?_⟩
  unfold raw
  rw [hg]
  refine (congrArg (fun x : EReal => x - _) hs).trans ?_
  rw [← EReal.coe_mul, ← EReal.coe_sub]

/-- The score of the kernel is the reference's in another unit, without the query's own gate. -/
theorem score_eq (hG : Good m c) (b : Fin 32) (t : Fin 2048) (h : Fin 16) (k : Fin 2048) (g : ℝ) (hg : gate (cA m c) b h t = (g : EReal)) :
    ∃ r : ℝ, raw m c b ⟨t.val / 512, by omega⟩ h ⟨t.val % 512, by omega⟩ k = r
      ∧ Cert.ReferenceIdeal.At.score (qA m c) (kA m c) (cA m c) b h t k = ((r * Real.log 2 + g : ℝ) : EReal) := by
  obtain ⟨s, hs⟩ := sum_real (fun d : Fin 64 => qry (qA m c) b t h d) (fun d : Fin 64 => key (kA m c) b k h d) (fun _ => hG.qreal _) (fun _ => hG.kreal _)
  obtain ⟨e, he⟩ := hG.creal (ix3 b k (⟨h.val, by omega⟩ : Fin 128))
  have hlog : Real.log 2 ≠ 0 := (Real.log_pos one_lt_two).ne'
  refine ⟨s - e * (Real.log 2)⁻¹, ?_, ?_⟩
  · unfold raw
    rw [he]
    refine (congrArg (fun x : EReal => x - _) ((dot_eq m c hG b t h k).trans hs)).trans ?_
    rw [← EReal.coe_mul, ← EReal.coe_sub]
  · unfold Cert.ReferenceIdeal.At.score
    rw [hg, show gate (cA m c) b h k = (e : EReal) from he]
    refine (congrArg (fun x : EReal => x * ((Real.log 2 : ℝ) : EReal) + (g : EReal) - (e : EReal)) hs).trans ?_
    rw [← EReal.coe_mul, ← EReal.coe_add, ← EReal.coe_sub]
    congr 1
    field_simp
    ring

theorem result_eq (hG : Good m c) (b : Fin 32) (t : Fin 2048) (z : Fin 1024) :
    resultK m c b t z = Cert.ReferenceIdeal.Read.val_main_v49 (F := Ideal) (qA m c) (kA m c) (vA m c) (cA m c) (ix3 b t z) := by
  rw [Cert.ReferenceIdeal.At.result_apply]
  unfold resultK
  have hh : z.val / 64 < 16 := by omega
  have hd : z.val % 64 < 64 := by omega
  generalize eh : (⟨z.val / 64, hh⟩ : Fin 16) = h
  generalize ed : (⟨z.val % 64, hd⟩ : Fin 64) = d
  have edv : z.val % 64 = d.val := congrArg Fin.val ed
  have ed' : ∀ p : z.val % 64 < 80, (⟨z.val % 64, p⟩ : Fin 80) = ⟨d.val, by omega⟩ := fun p => Fin.ext edv
  rw [ed']
  have hmask : ∀ k, 512 * (t.val / 512) + 512 ≤ k → k < 512 * (t.val / 512) + 512 + (2048 - (512 * (t.val / 512) + 512))
      → sc m c b ⟨t.val / 512, by omega⟩ h ⟨t.val % 512, by omega⟩ k = ⊥ := by
    intro k hk _
    unfold sc
    rw [dif_neg]
    rintro ⟨_, hk'⟩
    have hk'' : k ≤ 512 * (t.val / 512) + t.val % 512 := hk'
    omega
  have hn : 512 * (t.val / 512) + 512 + (2048 - (512 * (t.val / 512) + 512)) = 2048 := by omega
  rw [← Softmax.acc_masked _ _ _ _ hmask, ← Softmax.acc_masked _ (va m c b h 64) _ _ hmask, hn]
  have hones : Softmax.acc (sc m c b ⟨t.val / 512, by omega⟩ h ⟨t.val % 512, by omega⟩) (va m c b h 64) 2048
      = Softmax.acc (sc m c b ⟨t.val / 512, by omega⟩ h ⟨t.val % 512, by omega⟩) (fun _ => 1) 2048 := by
    unfold Softmax.acc
    refine Finset.sum_congr rfl fun k hk => ?_
    have hk := Finset.mem_range.1 hk
    unfold va
    rw [dif_pos hk, hG.ones]
  rw [hones]
  obtain ⟨g, hg⟩ := hG.creal (ix3 b t (⟨h.val, by omega⟩ : Fin 128))
  rw [Softmax.acc_div _ (sr (qA m c) (kA m c) (cA m c) b h t) _ 2048 (by omega) g ?_ (sc_zero m c (good_fin m c hG) _ _ _ _)]
  · refine Finset.sum_congr rfl fun k _ => ?_
    congr 1
    unfold va
    rw [dif_pos k.isLt]
    rfl
  · intro k hk
    by_cases hc : k ≤ t.val
    · obtain ⟨r, h1, h2⟩ := score_eq m c hG b t h ⟨k, hk⟩ g hg
      refine Or.inr ⟨r, ?_, ?_⟩
      · unfold sc
        rw [dif_pos ⟨hk, by show k ≤ 512 * (t.val / 512) + t.val % 512; omega⟩]; exact h1
      · unfold sr
        rw [dif_pos ⟨hk, hc⟩]; exact h2
    · refine Or.inl ⟨?_, ?_⟩
      · unfold sc
        rw [dif_neg]
        rintro ⟨_, hk'⟩
        have hk'' : k ≤ 512 * (t.val / 512) + t.val % 512 := hk'
        omega
      · unfold sr
        rw [dif_neg]
        rintro ⟨_, hk'⟩
        exact hc hk'

end Cert.KernelIdeal.Traj

end
-- ==== Proof.Swiglu.lean ====
module

public import Idealize.ShloMosaic.Lib.Pipeline.Value
public import Idealize.ShloMosaic.Lib.ValueIdx
public import Idealize.ShloMosaic.PureOps.Ideal.Laws

@[expose] public section

/-! # The gated feed-forward half of a layer, over the extended reals

The normalised row, the gated activation, and the row plus half of the projection back; and that the sum over the hidden
units is the sum of the eleven chunks' sums. -/

noncomputable section

namespace Cert.Swiglu

open Idealize.ShloMosaic

/-- The number of features of a row, and the number under the root, as they are written. -/
def width : EReal := Ideal.ofBits .f32 0x44800000#32
def eps : EReal := Ideal.ofBits .f32 0x358637BD#32
def one : EReal := Ideal.ofBits .f32 0x3F800000#32
def half : EReal := Ideal.ofBits .f32 0x3F000000#32

theorem one_eq : one = 1 := by
  have h : one = ((1 : ℝ) : EReal) := by
    unfold one
    simp [Ideal.ofBits, Ideal.ieee, -EReal.coe_mul]; norm_num
  rw [h, EReal.coe_one]

/-- A row divided by the root of its mean square, times the gains. -/
def norm (x g : Fin 1024 → EReal) (k : Fin 1024) : EReal :=
  x k * Ideal.rsqrt (Ideal.div (∑ j : Fin 1024, x j * x j) width + eps) * g k

/-- A projection of a row. -/
def proj {n : ℕ} (h : Fin 1024 → EReal) (w : Fin 1024 → Fin n → EReal) (f : Fin n) : EReal := ∑ k : Fin 1024, h k * w k f

/-- The gated activation: `v / (1 + exp (-v))`, times `u`. -/
def act (v u : EReal) : EReal := Ideal.div v (1 + Ideal.exp (0 - v)) * u

/-- What one hidden unit adds to feature `d`. -/
def unit (h : Fin 1024 → EReal) (w : Fin 1024 → Fin 5632 → EReal) (wo : Fin 2816 → Fin 1024 → EReal) (d : Fin 1024) (f : Fin 2816) : EReal :=
  act (proj h w ⟨2816 + f.val, by omega⟩) (proj h w ⟨f.val, by omega⟩) * wo f d

/-- The row plus half of its feed-forward part. -/
def step (x g : Fin 1024 → EReal) (w : Fin 1024 → Fin 5632 → EReal) (wo : Fin 2816 → Fin 1024 → EReal) (d : Fin 1024) : EReal :=
  x d + half * ∑ f : Fin 2816, unit (norm x g) w wo d f

/-- A row plus the output projection of the mixer. -/
def mix (x o : Fin 1024 → EReal) (w : Fin 1024 → Fin 1024 → EReal) (d : Fin 1024) : EReal := x d + proj o w d

theorem exp_nonneg (v : EReal) : 0 ≤ Ideal.exp v := by
  unfold Ideal.exp
  induction v using EReal.rec with
  | bot => exact le_refl _
  | top => exact le_top
  | coe r => show (0 : EReal) ≤ ((Real.exp r : ℝ) : EReal); exact EReal.coe_nonneg.mpr (Real.exp_pos r).le

theorem den_ne (v : EReal) : 1 + Ideal.exp v ≠ 0 := by
  have h1 : (0 : EReal) < 1 + Ideal.exp v := by
    exact lt_of_lt_of_le (by norm_num : (0 : EReal) < 1) (le_add_of_nonneg_right (exp_nonneg v))
  exact h1.ne'

/-- The activation with the reciprocal taken first. -/
theorem act_eq (v u : EReal) : v * Ideal.div one (one + Ideal.exp (-v)) * u = act v u := by
  unfold act
  rw [zero_sub]
  unfold Ideal.div
  rw [one_eq, if_neg (den_ne _), if_neg (den_ne _), one_mul]

/-- The hidden units of one chunk. -/
def chunk (t : Fin 2816 → EReal) (c : Fin 11) : EReal := ∑ f : Fin 256, t ⟨256 * c.val + f.val, by omega⟩

theorem sum_chunks (t : Fin 2816 → EReal) : ∑ f : Fin 2816, t f
    = chunk t 0 + chunk t 1 + chunk t 2 + chunk t 3 + chunk t 4 + chunk t 5 + chunk t 6 + chunk t 7 + chunk t 8 + chunk t 9 + chunk t 10 := by
  have e : ∑ f : Fin 2816, t f = ∑ c : Fin 11, chunk t c := by
    unfold chunk
    rw [← Fintype.sum_prod_type']
    refine (Fintype.sum_equiv (finProdFinEquiv (m := 11) (n := 256)) _ _ fun p => ?_).symm
    refine congrArg t (Fin.ext ?_)
    show 256 * p.1.val + p.2.val = p.2.val + 256 * p.1.val
    omega
  rw [e]
  simp only [Fin.sum_univ_succ, Fin.sum_univ_zero, add_zero]
  simp only [← add_assoc]
  rfl

end Cert.Swiglu
end
end
-- ==== Proof.Body2.lean ====
module

public import proofs.«01_k».proof.Proof.Gen.Kernel2Ideal.Value
public import proofs.«01_k».proof.Proof.Swiglu
public import Idealize.ShloMosaic.Lib.Pointwise

@[expose] public section

/-! # One point of the feed-forward kernel

What a point stores, at an index of its block, from the blocks it loads. -/

set_option maxRecDepth 65536

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.Sem

/-- A chunk of hidden units before the activation. -/
def pre (h : FVec Ideal S512x1024 .bf16) (w : Vec Ideal S1024x256 .bf16) : FVec Ideal S512x256 .f32 :=
  matmul (φ₂ := .bf16) dot_S512x1024_S1024x256_S512x256_1_0_0_1_n_n none h w (constant S512x256 .f32 0x00000000#32)

/-- What a chunk of hidden units adds to the block. -/
def part (h : FVec Ideal S512x1024 .bf16) (wu wg : Vec Ideal S1024x256 .bf16) (wo : Vec Ideal S256x1024 .bf16) : FVec Ideal S512x1024 .f32 :=
  matmul (φ₂ := .bf16) dot_S512x256_S256x1024_S512x1024_1_0_0_1_n_n none
    (truncf .bf16 (mulf (divf (pre h wg) (addf (broadcast S512x256 (Scalar.ofBits .f32 0x3F800000#32))
      (exp (subf (broadcast S512x256 (Scalar.ofBits .f32 0x00000000#32)) (pre h wg))))) (pre h wu)) bitsLt_bf16_f32)
    wo (constant S512x1024 .f32 0x00000000#32)

theorem hid_apply (x : Vec Ideal S512x1024 .f32) (g : Vec Ideal S1x1024 .f32) (r : Fin 512) (k : Fin 1024) :
    k0_pay2 (F := Ideal) x g (ix2 r k) = Swiglu.norm (fun k => x (ix2 r k)) (fun k => g (ix2 0 k)) k := by
  pointwise [k0_pay2]
  rfl

theorem pre_apply (h : FVec Ideal S512x1024 .bf16) (w : Vec Ideal S1024x256 .bf16) (r : Fin 512) (f : Fin 256) :
    pre h w (ix2 r f) = Swiglu.proj (fun k => h (ix2 r k)) (fun k f => w (ix2 k f)) f := by
  pointwise [pre]
  rfl

theorem part_apply (h : FVec Ideal S512x1024 .bf16) (wu wg : Vec Ideal S1024x256 .bf16) (wo : Vec Ideal S256x1024 .bf16) (r : Fin 512) (d : Fin 1024) :
    part h wu wg wo (ix2 r d) = ∑ f : Fin 256, Swiglu.act (pre h wg (ix2 r f)) (pre h wu (ix2 r f)) * wo (ix2 f d) := by
  pointwise [part]
  rfl

theorem inbU (c : Fin 11) : ∀ a : Fin 2, (![0, 256 * c.val] : Fin 2 → ℕ) a + S1024x256.size a ≤ S1024x5632.size a := by
  intro a; fin_cases a
  · show 0 + 1024 ≤ 1024; omega
  · show 256 * c.val + 256 ≤ 5632; omega

theorem inbG (c : Fin 11) : ∀ a : Fin 2, (![0, 2816 + 256 * c.val] : Fin 2 → ℕ) a + S1024x256.size a ≤ S1024x5632.size a := by
  intro a; fin_cases a
  · show 0 + 1024 ≤ 1024; omega
  · show 2816 + 256 * c.val + 256 ≤ 5632; omega

theorem inbO (c : Fin 11) : ∀ a : Fin 2, (![256 * c.val, 0] : Fin 2 → ℕ) a + S256x1024.size a ≤ S2816x1024.size a := by
  intro a; fin_cases a
  · show 256 * c.val + 256 ≤ 2816; omega
  · show 0 + 1024 ≤ 1024; omega

/-- The columns of chunk `c` in the first half of the weights, in the second, and its rows in the weights back. -/
def colU (c : Fin 11) : Rect S1024x5632 := Rect.unit (s := S1024x5632) ![0, 256 * c.val] S1024x256.size (inbU c)
def colG (c : Fin 11) : Rect S1024x5632 := Rect.unit (s := S1024x5632) ![0, 2816 + 256 * c.val] S1024x256.size (inbG c)
def rowO (c : Fin 11) : Rect S2816x1024 := Rect.unit (s := S2816x1024) ![256 * c.val, 0] S256x1024.size (inbO c)

/-- What chunk `c` adds to the block. -/
def partC (h : FVec Ideal S512x1024 .bf16) (w : Vec Ideal S1024x5632 .bf16) (wo : Vec Ideal S2816x1024 .bf16) (c : Fin 11) : FVec Ideal S512x1024 .f32 :=
  part h (View.ld w (colU c)) (View.ld w (colG c)) (View.ld wo (rowO c))

theorem partC_apply (h : FVec Ideal S512x1024 .bf16) (w : Vec Ideal S1024x5632 .bf16) (wo : Vec Ideal S2816x1024 .bf16) (c : Fin 11) (r : Fin 512) (d : Fin 1024) :
    partC h w wo c (ix2 r d) = Swiglu.chunk (Swiglu.unit (fun k => h (ix2 r k)) (fun k f => w (ix2 k f)) (fun f d => wo (ix2 f d)) d) c := by
  refine (part_apply _ _ _ _ r d).trans (Finset.sum_congr rfl fun f _ => ?_)
  have eU (k : Fin 1024) : View.ld w (colU c) (ix2 k f) = w (ix2 k (⟨256 * c.val + f.val, by omega⟩ : Fin 5632)) := by
    refine congrArg w ?_
    funext a; apply Fin.ext
    match a with
    | ⟨0, _⟩ => show 0 + 1 * k.val = k.val; omega
    | ⟨1, _⟩ => show 256 * c.val + 1 * f.val = 256 * c.val + f.val; omega
  have eG (k : Fin 1024) : View.ld w (colG c) (ix2 k f) = w (ix2 k (⟨2816 + (256 * c.val + f.val), by omega⟩ : Fin 5632)) := by
    refine congrArg w ?_
    funext a; apply Fin.ext
    match a with
    | ⟨0, _⟩ => show 0 + 1 * k.val = k.val; omega
    | ⟨1, _⟩ => show 2816 + 256 * c.val + 1 * f.val = 2816 + (256 * c.val + f.val); omega
  have eO : View.ld wo (rowO c) (ix2 f d) = wo (ix2 (⟨256 * c.val + f.val, by omega⟩ : Fin 2816) d) := by
    refine congrArg wo ?_
    funext a; apply Fin.ext
    match a with
    | ⟨0, _⟩ => show 256 * c.val + 1 * f.val = 256 * c.val + f.val; omega
    | ⟨1, _⟩ => show 0 + 1 * d.val = d.val; omega
  unfold Swiglu.unit Swiglu.proj
  exact congrArg₂ (fun a b : EReal => a * b)
    (congrArg₂ Swiglu.act ((pre_apply _ _ r f).trans <| Finset.sum_congr rfl fun k _ => congrArg (fun a : EReal => h (ix2 r k) * a) (eG k))
      ((pre_apply _ _ r f).trans <| Finset.sum_congr rfl fun k _ => congrArg (fun a : EReal => h (ix2 r k) * a) (eU k))) eO

/-- The eleven chunks, added from the left. -/
def chunks (h : FVec Ideal S512x1024 .bf16) (w : Vec Ideal S1024x5632 .bf16) (wo : Vec Ideal S2816x1024 .bf16) : FVec Ideal S512x1024 .f32 :=
  addf (addf (addf (addf (addf (addf (addf (addf (addf (addf (partC h w wo 0) (partC h w wo 1)) (partC h w wo 2)) (partC h w wo 3)) (partC h w wo 4))
    (partC h w wo 5)) (partC h w wo 6)) (partC h w wo 7)) (partC h w wo 8)) (partC h w wo 9)) (partC h w wo 10)

theorem chunks_apply (h : FVec Ideal S512x1024 .bf16) (w : Vec Ideal S1024x5632 .bf16) (wo : Vec Ideal S2816x1024 .bf16) (r : Fin 512) (d : Fin 1024) :
    chunks h w wo (ix2 r d) = ∑ f : Fin 2816, Swiglu.unit (fun k => h (ix2 r k)) (fun k f => w (ix2 k f)) (fun f d => wo (ix2 f d)) d f := by
  rw [Swiglu.sum_chunks]
  simp only [← partC_apply]
  rfl

/-- The block plus half of its feed-forward part. -/
def body (x : FVec Ideal S512x1024 .f32) (h : FVec Ideal S512x1024 .bf16) (w : Vec Ideal S1024x5632 .bf16) (wo : Vec Ideal S2816x1024 .bf16) : FVec Ideal S512x1024 .f32 :=
  addf x (mulf (broadcast S512x1024 (Scalar.ofBits .f32 0x3F000000#32)) (chunks h w wo))

theorem out_eq (x : Vec Ideal S512x1024 .f32) (g : Vec Ideal S1x1024 .f32) (w : Vec Ideal S1024x5632 .bf16) (wo : Vec Ideal S2816x1024 .bf16) :
    out0_4 (F := Ideal) x g w wo = body x (k0_pay2 x g) w wo := by
  unfold out0_4
  rw [View.canon_unit_zero (by funext a; fin_cases a <;> rfl)]
  unfold k0_pay24
  rw [View.ld_unit_zero (S := S512x1024) (by funext a; fin_cases a <;> rfl), View.ld_unit_zero (S := S1x1024) (by funext a; fin_cases a <;> rfl)]
  rfl

theorem out_apply (x : Vec Ideal S512x1024 .f32) (g : Vec Ideal S1x1024 .f32) (w : Vec Ideal S1024x5632 .bf16) (wo : Vec Ideal S2816x1024 .bf16)
    (r : Fin 512) (d : Fin 1024) :
    out0_4 (F := Ideal) x g w wo (ix2 r d)
      = Swiglu.step (fun k => x (ix2 r k)) (fun k => g (ix2 0 k)) (fun k f => w (ix2 k f)) (fun f d => wo (ix2 f d)) d := by
  rw [out_eq]
  show x (ix2 r d) + Swiglu.half * chunks (k0_pay2 x g) w wo (ix2 r d) = _
  rw [chunks_apply]
  unfold Swiglu.step
  simp only [hid_apply]

end Cert.Kernel2Ideal.Ffn
end
end
-- ==== Proof.Array2.lean ====
module

public import proofs.«01_k».proof.Proof.Body2
public import Idealize.ShloMosaic.Lib.Pipeline.ValueKit

@[expose] public section

/-! # The result array of the feed-forward kernel -/

set_option maxRecDepth 65536
set_option Elab.async false

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.Sem

/-- Where the blocks of a point lie. -/
abbrev At (t : Fin cfg0.N) : Prop :=
  (cfg0.win (0 : Fin 5)).index t = ![t.val, 0]
  ∧ (cfg0.win (1 : Fin 5)).index t = ![0, 0]
  ∧ (cfg0.win (2 : Fin 5)).index t = ![0, 0]
  ∧ (cfg0.win (3 : Fin 5)).index t = ![0, 0]
  ∧ (cfg0.win (4 : Fin 5)).index t = ![t.val, 0]

theorem at_ : ∀ t : Fin cfg0.N, At t := by decide +kernel

theorem covers : (cfg0.win (4 : Fin 5)).Covers := by decide +kernel

theorem lt128 (t : Fin cfg0.N) : t.val < 128 := Nat.lt_of_lt_of_eq t.isLt (by decide +kernel)

/-- The row of the array at row `r` of the block of point `t`. -/
def row (t : Fin cfg0.N) (r : Fin 512) : Fin 65536 := ⟨512 * t.val + r.val, by have := lt128 t; omega⟩

variable (m : (ℓ : Loc nD τ sig) → Buf (Elt Ideal) ℓ) (c : Dev nD)

theorem iblk_x (t : Fin cfg0.N) (r : Fin 512) (k : Fin 1024) :
    iblk m c (0 : Fin 5) t (ix2 r k : S512x1024.Idx) = m ((c : Thread nD τ).loc main_arg0) (ix2 (row t r) k : S65536x1024.Idx) := by
  have hat := at_ t
  have hi := hat.1
  refine Eq.trans ?_ (congrFun (V_main_arg0 m c) _)
  unfold iblk
  rw [View.read_apply]
  show V m c main_arg0 _ = V m c main_arg0 _
  congr 1
  funext a; apply Fin.ext
  match a with
  | ⟨0, _⟩ => show (cfg0.win (0 : Fin 5)).index t 0 * 512 + 1 * r.val = 512 * t.val + r.val; rw [hi]; show t.val * 512 + 1 * r.val = _; omega
  | ⟨1, _⟩ => show (cfg0.win (0 : Fin 5)).index t 1 * 1024 + 1 * k.val = k.val; rw [hi]; show 0 * 1024 + 1 * k.val = _; omega

theorem host_g (k : Fin 1024) : V m c main_v0 (ix2 0 k : S1x1024.Idx) = m ((c : Thread nD τ).loc main_arg1) (ix1 k : S1024.Idx) := by
  show StableHlo.after hostOps0 (fun b => m (c, b)) (Proc.devRef .tc main_v0) _ = _
  rw [StableHlo.after_cons, StableHlo.after_nil, StableHlo.reshape_result]
  refine shapeCast_apply _ _ _ _ ?_
  show (S1024.rowMajor (ix1 k)).val = (S1x1024.rowMajor (ix2 0 k)).val
  rw [Shape.rowMajor_val_two, Shape.rowMajor_val_one]
  show k.val = 0 * 1024 + k.val
  omega

theorem iblk_g (t : Fin cfg0.N) (k : Fin 1024) :
    iblk m c (1 : Fin 5) t (ix2 0 k : S1x1024.Idx) = m ((c : Thread nD τ).loc main_arg1) (ix1 k : S1024.Idx) := by
  have hat := at_ t
  have hi := hat.2.1
  refine Eq.trans ?_ (host_g m c k)
  unfold iblk
  rw [View.read_apply]
  show V m c main_v0 _ = V m c main_v0 _
  congr 1
  funext a; apply Fin.ext
  match a with
  | ⟨0, _⟩ => show (cfg0.win (1 : Fin 5)).index t 0 * 1 + 1 * 0 = 0; rw [hi]; rfl
  | ⟨1, _⟩ => show (cfg0.win (1 : Fin 5)).index t 1 * 1024 + 1 * k.val = k.val; rw [hi]; show 0 * 1024 + 1 * k.val = _; omega

theorem iblk_w (t : Fin cfg0.N) (r : Fin 1024) (k : Fin 5632) :
    iblk m c (2 : Fin 5) t (ix2 r k : S1024x5632.Idx) = m ((c : Thread nD τ).loc main_arg2) (ix2 (r) k : S1024x5632.Idx) := by
  have hat := at_ t
  have hi := hat.2.2.1
  refine Eq.trans ?_ (congrFun (V_main_arg2 m c) _)
  unfold iblk
  rw [View.read_apply]
  show V m c main_arg2 _ = V m c main_arg2 _
  congr 1
  funext a; apply Fin.ext
  match a with
  | ⟨0, _⟩ => show (cfg0.win (2 : Fin 5)).index t 0 * 1024 + 1 * r.val = r.val; rw [hi]; show 0 * 1024 + 1 * r.val = _; omega
  | ⟨1, _⟩ => show (cfg0.win (2 : Fin 5)).index t 1 * 5632 + 1 * k.val = k.val; rw [hi]; show 0 * 5632 + 1 * k.val = _; omega

theorem iblk_wo (t : Fin cfg0.N) (r : Fin 2816) (k : Fin 1024) :
    iblk m c (3 : Fin 5) t (ix2 r k : S2816x1024.Idx) = m ((c : Thread nD τ).loc main_arg3) (ix2 (r) k : S2816x1024.Idx) := by
  have hat := at_ t
  have hi := hat.2.2.2.1
  refine Eq.trans ?_ (congrFun (V_main_arg3 m c) _)
  unfold iblk
  rw [View.read_apply]
  show V m c main_arg3 _ = V m c main_arg3 _
  congr 1
  funext a; apply Fin.ext
  match a with
  | ⟨0, _⟩ => show (cfg0.win (3 : Fin 5)).index t 0 * 2816 + 1 * r.val = r.val; rw [hi]; show 0 * 2816 + 1 * r.val = _; omega
  | ⟨1, _⟩ => show (cfg0.win (3 : Fin 5)).index t 1 * 1024 + 1 * k.val = k.val; rw [hi]; show 0 * 1024 + 1 * k.val = _; omega

/-- What the kernel computes. -/
def resultK (r : Fin 65536) (d : Fin 1024) : EReal :=
  Swiglu.step (fun k => m ((c : Thread nD τ).loc main_arg0) (ix2 r k : S65536x1024.Idx)) (fun k => m ((c : Thread nD τ).loc main_arg1) (ix1 k : S1024.Idx)) (fun k f => m ((c : Thread nD τ).loc main_arg2) (ix2 k f : S1024x5632.Idx)) (fun f d => m ((c : Thread nD τ).loc main_arg3) (ix2 f d : S2816x1024.Idx)) d

theorem final : (dats m 0 c).arrAt (4 : Fin 5) cfg0.N = fun i : S65536x1024.Idx => resultK m c (i 0) (i 1) := by
  refine (dats m 0 c).arrAt_eq_of_covers (4 : Fin 5) _ covers fun t hft y => ?_
  have hat := at_ t
  have hi := hat.2.2.2.2
  obtain ⟨y', z', hy⟩ : ∃ (y' : Fin 512) (z' : Fin 1024), (y : S512x1024.Idx) = ix2 y' z' := ⟨y 0, y 1, eq_ix2 (y : S512x1024.Idx)⟩
  have he : ((cfg0.win (4 : Fin 5)).blk t).view.emb y = ix2 (row t y') z' := by
    subst hy
    funext a; apply Fin.ext
    match a with
    | ⟨0, _⟩ => show (cfg0.win (4 : Fin 5)).index t 0 * 512 + 1 * y'.val = 512 * t.val + y'.val; rw [hi]; show t.val * 512 + 1 * y'.val = _; omega
    | ⟨1, _⟩ => show (cfg0.win (4 : Fin 5)).index t 1 * 1024 + 1 * z'.val = z'.val; rw [hi]; show 0 * 1024 + 1 * z'.val = _; omega
  rw [he]
  refine (congrFun (Value.flushed4 m c t) y).trans ?_
  show out0_4 (iblk m c 0 t) (iblk m c 1 t) (iblk m c 2 t) (iblk m c 3 t) y = resultK m c (row t y') z'
  have hy' : y = (ix2 y' z' : S512x1024.Idx) := hy
  rw [hy']
  refine (out_apply _ _ _ _ y' z').trans ?_
  simp only [iblk_x, iblk_g, iblk_w, iblk_wo]
  rfl

end Cert.Kernel2Ideal.Ffn
end
end
-- ==== Proof.Ref2.lean ====
module

public import proofs.«01_k».proof.Proof.Gen.Reference2Ideal.Read
public import proofs.«01_k».proof.Proof.Swiglu

@[expose] public section

/-! # The reference of the feed-forward part, at an index -/

set_option maxRecDepth 65536

noncomputable section

namespace Cert.Reference2Ideal.At

open Cert.Reference2Ideal Cert.Reference2Ideal.Read
open Idealize.ShloMosaic Idealize.ShloMosaic.ValueIdx
open Idealize.ShloMosaic.TcCoe
open Idealize.SL Idealize.SL.Sem

/-! ## Indices -/

theorem idx_main_v1_eq (r : Fin 65536) (k : Fin 1024) : idx_main_v1 (ix1 r) k = (ix2 r k : S65536x1024.Idx) := by
  funext a
  match a with
  | ⟨0, _⟩ => rfl
  | ⟨1, _⟩ => rfl

theorem idx_main_v2_eq (r : Fin 65536) (z : Fin 1) : idx_main_v2 (ix2 r z) = (ix1 r : S65536.Idx) := by
  funext a
  match a with
  | ⟨0, _⟩ => rfl

theorem idx_main_v8_eq (r : Fin 65536) (k : Fin 1024) : idx_main_v8 (ix2 r k) = (ix2 r 0 : S65536x1.Idx) := by
  funext a
  match a with
  | ⟨0, _⟩ => rfl
  | ⟨1, _⟩ => rfl

theorem idx_main_v10_eq (z : Fin 1) (k : Fin 1024) : idx_main_v10 (ix2 z k) = (ix1 k : S1024.Idx) := by
  funext a
  match a with
  | ⟨0, _⟩ => rfl

theorem idx_main_v11_eq (r : Fin 65536) (k : Fin 1024) : idx_main_v11 (ix2 r k) = (ix2 0 k : S1x1024.Idx) := by
  funext a
  match a with
  | ⟨0, _⟩ => rfl
  | ⟨1, _⟩ => rfl

theorem lidx_main_v14_eq (r : Fin 65536) (f : Fin 5632) (k : Fin 1024) : lidx_main_v14 (ix2 r f) k = (ix2 r k : S65536x1024.Idx) := by
  funext a
  match a with
  | ⟨0, _⟩ => rfl
  | ⟨1, _⟩ => rfl

theorem ridx_main_v14_eq (r : Fin 65536) (f : Fin 5632) (k : Fin 1024) : ridx_main_v14 (ix2 r f) k = (ix2 k f : S1024x5632.Idx) := by
  funext a
  match a with
  | ⟨0, _⟩ => rfl
  | ⟨1, _⟩ => rfl

theorem idx_main_v15_eq (r : Fin 65536) (f : Fin 2816) : idx_main_v15 (ix2 r f) = (ix2 r (⟨f.val, by omega⟩ : Fin 5632) : S65536x5632.Idx) := by
  funext a
  match a with
  | ⟨0, _⟩ => apply Fin.ext; first | rfl | (show 0 + r.val = r.val; omega)
  | ⟨1, _⟩ => apply Fin.ext; first | rfl | (show 0 + f.val = f.val; omega)

theorem idx_main_v16_eq (r : Fin 65536) (f : Fin 2816) : idx_main_v16 (ix2 r f) = (ix2 r (⟨2816 + f.val, by omega⟩ : Fin 5632) : S65536x5632.Idx) := by
  funext a
  match a with
  | ⟨0, _⟩ => apply Fin.ext; first | rfl | (show 0 + r.val = r.val; omega)
  | ⟨1, _⟩ => apply Fin.ext; first | rfl | (show f.val + 2816 = 2816 + f.val; omega)

theorem lidx_main_v20_eq (r : Fin 65536) (d : Fin 1024) (f : Fin 2816) : lidx_main_v20 (ix2 r d) f = (ix2 r f : S65536x2816.Idx) := by
  funext a
  match a with
  | ⟨0, _⟩ => rfl
  | ⟨1, _⟩ => rfl

theorem ridx_main_v20_eq (r : Fin 65536) (d : Fin 1024) (f : Fin 2816) : ridx_main_v20 (ix2 r d) f = (ix2 f d : S2816x1024.Idx) := by
  funext a
  match a with
  | ⟨0, _⟩ => rfl
  | ⟨1, _⟩ => rfl

/-! ## The stages -/

theorem zero_lit : Ideal.ofBits .f32 0x00000000#32 = 0 := by
  simp [Ideal.ofBits, Ideal.ieee]

theorem hid_at (x0 : (⟨S65536x1024, .f32⟩ : BufTy).Contents (Elt Ideal)) (x1 : (⟨S1024, .f32⟩ : BufTy).Contents (Elt Ideal)) (r : Fin 65536) (k : Fin 1024) :
    val_main_v12 (F := Ideal) x0 x1 (ix2 r k) = Swiglu.norm (fun k => x0 (ix2 r k)) (fun k => x1 (ix1 k)) k := by
  simp only [val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply,
    idx_main_v1_eq, idx_main_v2_eq, idx_main_v8_eq, idx_main_v10_eq, idx_main_v11_eq]
  show _ * Ideal.rsqrt (Ideal.div (Ideal.ofBits .f32 0x00000000#32 + _) _ + _) * _ = _
  rw [zero_lit, zero_add]
  rfl

theorem up_at (x0 : (⟨S65536x1024, .f32⟩ : BufTy).Contents (Elt Ideal)) (x1 : (⟨S1024, .f32⟩ : BufTy).Contents (Elt Ideal)) (x2 : (⟨S1024x5632, .bf16⟩ : BufTy).Contents (Elt Ideal)) (r : Fin 65536) (f : Fin 5632) :
    val_main_v14 (F := Ideal) x0 x1 x2 (ix2 r f) = Swiglu.proj (Swiglu.norm (fun k => x0 (ix2 r k)) (fun k => x1 (ix1 k))) (fun k f => x2 (ix2 k f)) f := by
  simp only [val_main_v14_apply, val_main_v13_apply, lidx_main_v14_eq, ridx_main_v14_eq, hid_at]
  rfl

theorem act_at (x0 : (⟨S65536x1024, .f32⟩ : BufTy).Contents (Elt Ideal)) (x1 : (⟨S1024, .f32⟩ : BufTy).Contents (Elt Ideal)) (x2 : (⟨S1024x5632, .bf16⟩ : BufTy).Contents (Elt Ideal)) (r : Fin 65536) (f : Fin 2816) :
    val_main_v18 (F := Ideal) x0 x1 x2 (ix2 r f)
      = Swiglu.act (val_main_v14 (F := Ideal) x0 x1 x2 (ix2 r (⟨2816 + f.val, by omega⟩ : Fin 5632))) (val_main_v14 (F := Ideal) x0 x1 x2 (ix2 r (⟨f.val, by omega⟩ : Fin 5632))) := by
  simp only [val_main_v18_apply, val_main_v17_apply, val_main_call0_v5_apply, val_main_call0_v4_apply, val_main_call0_v3_apply, val_main_call0_v2_apply,
    val_main_call0_v1_apply, val_main_call0_v0_apply, val_main_call0_cst_apply, val_main_call0_cst_0_apply, val_main_v16_apply, val_main_v15_apply,
    idx_main_v15_eq, idx_main_v16_eq]
  exact Swiglu.act_eq _ _

theorem result_at (x0 : (⟨S65536x1024, .f32⟩ : BufTy).Contents (Elt Ideal)) (x1 : (⟨S1024, .f32⟩ : BufTy).Contents (Elt Ideal)) (x2 : (⟨S1024x5632, .bf16⟩ : BufTy).Contents (Elt Ideal)) (x3 : (⟨S2816x1024, .bf16⟩ : BufTy).Contents (Elt Ideal)) (r : Fin 65536) (d : Fin 1024) :
    val_main_v23 (F := Ideal) x0 x1 x2 x3 (ix2 r d)
      = Swiglu.step (fun k => x0 (ix2 r k)) (fun k => x1 (ix1 k)) (fun k f => x2 (ix2 k f)) (fun f d => x3 (ix2 f d)) d := by
  simp only [val_main_v23_apply, val_main_v22_apply, val_main_v21_apply, val_main_v20_apply, val_main_v19_apply, val_main_cst_2_apply, lidx_main_v20_eq, ridx_main_v20_eq, act_at, up_at]
  rfl

end Cert.Reference2Ideal.At
end
end
-- ==== Proof.Body3.lean ====
module

public import proofs.«01_k».proof.Proof.Gen.Kernel3Ideal.Value
public import proofs.«01_k».proof.Proof.Swiglu
public import Idealize.ShloMosaic.Lib.Pointwise

@[expose] public section

/-! # One point of the feed-forward kernel

What a point stores, at an index of its block, from the blocks it loads. -/

set_option maxRecDepth 65536

noncomputable section

namespace Cert.Kernel3Ideal.Ffn

open Cert.Kernel3Ideal Cert.Kernel3Ideal.Gen
open Idealize.ShloMosaic
open Idealize.ShloMosaic.TcCoe Idealize.ShloMosaic.Tactic
open Idealize.SL Idealize.SL.Sem

/-- A chunk of hidden units before the activation. -/
def pre (h : FVec Ideal S512x1024 .bf16) (w : Vec Ideal S1024x256 .bf16) : FVec Ideal S512x256 .f32 :=
  matmul (φ₂ := .bf16) dot_S512x1024_S1024x256_S512x256_1_0_0_1_n_n none h w (constant S512x256 .f32 0x00000000#32)

/-- What a chunk of hidden units adds to the block. -/
def part (h : FVec Ideal S512x1024 .bf16) (wu wg : Vec Ideal S1024x256 .bf16) (wo : Vec Ideal S256x1024 .bf16) : FVec Ideal S512x1024 .f32 :=
  matmul (φ₂ := .bf16) dot_S512x256_S256x1024_S512x1024_1_0_0_1_n_n none
    (truncf .bf16 (mulf (divf (pre h wg) (addf (broadcast S512x256 (Scalar.ofBits .f32 0x3F800000#32))
      (exp (subf (broadcast S512x256 (Scalar.ofBits .f32 0x00000000#32)) (pre h wg))))) (pre h wu)) bitsLt_bf16_f32)
    wo (constant S512x1024 .f32 0x00000000#32)

theorem mixed_apply (x : Vec Ideal S512x1024 .f32) (o : Vec Ideal S512x1024 .bf16) (wm : Vec Ideal S1024x1024 .bf16) (r : Fin 512) (d : Fin 1024) :
    k0_pay2 (F := Ideal) x o wm (ix2 r d) = Swiglu.mix (fun k => x (ix2 r k)) (fun k => o (ix2 r k)) (fun k d => wm (ix2 k d)) d := by
  pointwise [k0_pay2]
  rfl

/-- The normalised rows, from the mixed rows. -/
def hid (y : FVec Ideal S512x1024 .f32) (g : Vec Ideal S1x1024 .f32) : FVec Ideal S512x1024 .f32 :=
  mulf (mulf y (broadcastTo S512x1024 (rsqrt (addf (divf (shapeCast S512x1 (multiReduction .add [1] S512 (mulf y y) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

theorem hid_apply (y : FVec Ideal S512x1024 .f32) (g : Vec Ideal S1x1024 .f32) (r : Fin 512) (k : Fin 1024) :
    hid y g (ix2 r k) = Swiglu.norm (fun k => y (ix2 r k)) (fun k => g (ix2 0 k)) k := by
  pointwise [hid]
  rfl

theorem pre_apply (h : FVec Ideal S512x1024 .bf16) (w : Vec Ideal S1024x256 .bf16) (r : Fin 512) (f : Fin 256) :
    pre h w (ix2 r f) = Swiglu.proj (fun k => h (ix2 r k)) (fun k f => w (ix2 k f)) f := by
  pointwise [pre]
  rfl

theorem part_apply (h : FVec Ideal S512x1024 .bf16) (wu wg : Vec Ideal S1024x256 .bf16) (wo : Vec Ideal S256x1024 .bf16) (r : Fin 512) (d : Fin 1024) :
    part h wu wg wo (ix2 r d) = ∑ f : Fin 256, Swiglu.act (pre h wg (ix2 r f)) (pre h wu (ix2 r f)) * wo (ix2 f d) := by
  pointwise [part]
  rfl

theorem inbU (c : Fin 11) : ∀ a : Fin 2, (![0, 256 * c.val] : Fin 2 → ℕ) a + S1024x256.size a ≤ S1024x5632.size a := by
  intro a; fin_cases a
  · show 0 + 1024 ≤ 1024; omega
  · show 256 * c.val + 256 ≤ 5632; omega

theorem inbG (c : Fin 11) : ∀ a : Fin 2, (![0, 2816 + 256 * c.val] : Fin 2 → ℕ) a + S1024x256.size a ≤ S1024x5632.size a := by
  intro a; fin_cases a
  · show 0 + 1024 ≤ 1024; omega
  · show 2816 + 256 * c.val + 256 ≤ 5632; omega

theorem inbO (c : Fin 11) : ∀ a : Fin 2, (![256 * c.val, 0] : Fin 2 → ℕ) a + S256x1024.size a ≤ S2816x1024.size a := by
  intro a; fin_cases a
  · show 256 * c.val + 256 ≤ 2816; omega
  · show 0 + 1024 ≤ 1024; omega

/-- The columns of chunk `c` in the first half of the weights, in the second, and its rows in the weights back. -/
def colU (c : Fin 11) : Rect S1024x5632 := Rect.unit (s := S1024x5632) ![0, 256 * c.val] S1024x256.size (inbU c)
def colG (c : Fin 11) : Rect S1024x5632 := Rect.unit (s := S1024x5632) ![0, 2816 + 256 * c.val] S1024x256.size (inbG c)
def rowO (c : Fin 11) : Rect S2816x1024 := Rect.unit (s := S2816x1024) ![256 * c.val, 0] S256x1024.size (inbO c)

/-- What chunk `c` adds to the block. -/
def partC (h : FVec Ideal S512x1024 .bf16) (w : Vec Ideal S1024x5632 .bf16) (wo : Vec Ideal S2816x1024 .bf16) (c : Fin 11) : FVec Ideal S512x1024 .f32 :=
  part h (View.ld w (colU c)) (View.ld w (colG c)) (View.ld wo (rowO c))

theorem partC_apply (h : FVec Ideal S512x1024 .bf16) (w : Vec Ideal S1024x5632 .bf16) (wo : Vec Ideal S2816x1024 .bf16) (c : Fin 11) (r : Fin 512) (d : Fin 1024) :
    partC h w wo c (ix2 r d) = Swiglu.chunk (Swiglu.unit (fun k => h (ix2 r k)) (fun k f => w (ix2 k f)) (fun f d => wo (ix2 f d)) d) c := by
  refine (part_apply _ _ _ _ r d).trans (Finset.sum_congr rfl fun f _ => ?_)
  have eU (k : Fin 1024) : View.ld w (colU c) (ix2 k f) = w (ix2 k (⟨256 * c.val + f.val, by omega⟩ : Fin 5632)) := by
    refine congrArg w ?_
    funext a; apply Fin.ext
    match a with
    | ⟨0, _⟩ => show 0 + 1 * k.val = k.val; omega
    | ⟨1, _⟩ => show 256 * c.val + 1 * f.val = 256 * c.val + f.val; omega
  have eG (k : Fin 1024) : View.ld w (colG c) (ix2 k f) = w (ix2 k (⟨2816 + (256 * c.val + f.val), by omega⟩ : Fin 5632)) := by
    refine congrArg w ?_
    funext a; apply Fin.ext
    match a with
    | ⟨0, _⟩ => show 0 + 1 * k.val = k.val; omega
    | ⟨1, _⟩ => show 2816 + 256 * c.val + 1 * f.val = 2816 + (256 * c.val + f.val); omega
  have eO : View.ld wo (rowO c) (ix2 f d) = wo (ix2 (⟨256 * c.val + f.val, by omega⟩ : Fin 2816) d) := by
    refine congrArg wo ?_
    funext a; apply Fin.ext
    match a with
    | ⟨0, _⟩ => show 256 * c.val + 1 * f.val = 256 * c.val + f.val; omega
    | ⟨1, _⟩ => show 0 + 1 * d.val = d.val; omega
  unfold Swiglu.unit Swiglu.proj
  exact congrArg₂ (fun a b : EReal => a * b)
    (congrArg₂ Swiglu.act ((pre_apply _ _ r f).trans <| Finset.sum_congr rfl fun k _ => congrArg (fun a : EReal => h (ix2 r k) * a) (eG k))
      ((pre_apply _ _ r f).trans <| Finset.sum_congr rfl fun k _ => congrArg (fun a : EReal => h (ix2 r k) * a) (eU k))) eO

/-- The eleven chunks, added from the left. -/
def chunks (h : FVec Ideal S512x1024 .bf16) (w : Vec Ideal S1024x5632 .bf16) (wo : Vec Ideal S2816x1024 .bf16) : FVec Ideal S512x1024 .f32 :=
  addf (addf (addf (addf (addf (addf (addf (addf (addf (addf (partC h w wo 0) (partC h w wo 1)) (partC h w wo 2)) (partC h w wo 3)) (partC h w wo 4))
    (partC h w wo 5)) (partC h w wo 6)) (partC h w wo 7)) (partC h w wo 8)) (partC h w wo 9)) (partC h w wo 10)

theorem chunks_apply (h : FVec Ideal S512x1024 .bf16) (w : Vec Ideal S1024x5632 .bf16) (wo : Vec Ideal S2816x1024 .bf16) (r : Fin 512) (d : Fin 1024) :
    chunks h w wo (ix2 r d) = ∑ f : Fin 2816, Swiglu.unit (fun k => h (ix2 r k)) (fun k f => w (ix2 k f)) (fun f d => wo (ix2 f d)) d f := by
  rw [Swiglu.sum_chunks]
  simp only [← partC_apply]
  rfl

/-- The block plus half of its feed-forward part. -/
def body (x : FVec Ideal S512x1024 .f32) (h : FVec Ideal S512x1024 .bf16) (w : Vec Ideal S1024x5632 .bf16) (wo : Vec Ideal S2816x1024 .bf16) : FVec Ideal S512x1024 .f32 :=
  addf x (mulf (broadcast S512x1024 (Scalar.ofBits .f32 0x3F000000#32)) (chunks h w wo))

theorem body_apply (y : FVec Ideal S512x1024 .f32) (g : Vec Ideal S1x1024 .f32) (w : Vec Ideal S1024x5632 .bf16) (wo : Vec Ideal S2816x1024 .bf16)
    (r : Fin 512) (d : Fin 1024) :
    body y (truncf .bf16 (hid y g) bitsLt_bf16_f32) w wo (ix2 r d)
      = Swiglu.step (fun k => y (ix2 r k)) (fun k => g (ix2 0 k)) (fun k f => w (ix2 k f)) (fun f d => wo (ix2 f d)) d := by
  show y (ix2 r d) + Swiglu.half * chunks (truncf .bf16 (hid y g) bitsLt_bf16_f32) w wo (ix2 r d) = _
  rw [chunks_apply]
  have e : (fun k => truncf .bf16 (hid y g) bitsLt_bf16_f32 (ix2 r k)) = Swiglu.norm (fun k => y (ix2 r k)) (fun k => g (ix2 0 k)) :=
    funext fun k => hid_apply y g r k
  unfold Swiglu.step
  rw [e]

theorem out_eq (x : Vec Ideal S512x1024 .f32) (o : Vec Ideal S512x1024 .bf16) (wm : Vec Ideal S1024x1024 .bf16) (g : Vec Ideal S1x1024 .f32) (w : Vec Ideal S1024x5632 .bf16) (wo : Vec Ideal S2816x1024 .bf16) :
    out0_6 (F := Ideal) x o wm g w wo = body (k0_pay2 x o wm) (truncf .bf16 (hid (k0_pay2 x o wm) g) bitsLt_bf16_f32) w wo := by
  unfold out0_6
  rw [View.canon_unit_zero (by funext a; fin_cases a <;> rfl)]
  unfold k0_pay27
  rw [View.ld_unit_zero (S := S512x1024) (by funext a; fin_cases a <;> rfl), View.ld_unit_zero (S := S512x1024) (by funext a; fin_cases a <;> rfl), View.ld_unit_zero (S := S1024x1024) (by funext a; fin_cases a <;> rfl), View.ld_unit_zero (S := S1x1024) (by funext a; fin_cases a <;> rfl)]
  rfl

theorem out_apply (x : Vec Ideal S512x1024 .f32) (o : Vec Ideal S512x1024 .bf16) (wm : Vec Ideal S1024x1024 .bf16) (g : Vec Ideal S1x1024 .f32) (w : Vec Ideal S1024x5632 .bf16) (wo : Vec Ideal S2816x1024 .bf16)
    (r : Fin 512) (d : Fin 1024) :
    out0_6 (F := Ideal) x o wm g w wo (ix2 r d)
      = Swiglu.step (Swiglu.mix (fun k => x (ix2 r k)) (fun k => o (ix2 r k)) (fun k d => wm (ix2 k d))) (fun k => g (ix2 0 k)) (fun k f => w (ix2 k f)) (fun f d => wo (ix2 f d)) d := by
  rw [out_eq, body_apply]
  simp only [mixed_apply]

end Cert.Kernel3Ideal.Ffn
end
end
-- ==== Proof.Array3.lean ====
module

public import proofs.«01_k».proof.Proof.Body3
public import Idealize.ShloMosaic.Lib.Pipeline.ValueKit

@[expose] public section

/-! # The result array of the feed-forward kernel with the mixer -/

set_option maxRecDepth 65536
set_option Elab.async false

noncomputable section

namespace Cert.Kernel3Ideal.Ffn

open Cert.Kernel3Ideal Cert.Kernel3Ideal.Gen
open Idealize.ShloMosaic
open Idealize.ShloMosaic.TcCoe Idealize.ShloMosaic.Tactic
open Idealize.SL Idealize.SL.Sem

/-- Where the blocks of a point lie. -/
abbrev At (t : Fin cfg0.N) : Prop :=
  (cfg0.win (0 : Fin 7)).index t = ![t.val, 0]
  ∧ (cfg0.win (1 : Fin 7)).index t = ![t.val, 0]
  ∧ (cfg0.win (2 : Fin 7)).index t = ![0, 0]
  ∧ (cfg0.win (3 : Fin 7)).index t = ![0, 0]
  ∧ (cfg0.win (4 : Fin 7)).index t = ![0, 0]
  ∧ (cfg0.win (5 : Fin 7)).index t = ![0, 0]
  ∧ (cfg0.win (6 : Fin 7)).index t = ![t.val, 0]

theorem at_ : ∀ t : Fin cfg0.N, At t := by decide +kernel

theorem covers : (cfg0.win (6 : Fin 7)).Covers := by decide +kernel

theorem lt128 (t : Fin cfg0.N) : t.val < 128 := Nat.lt_of_lt_of_eq t.isLt (by decide +kernel)

/-- The row of the array at row `r` of the block of point `t`. -/
def row (t : Fin cfg0.N) (r : Fin 512) : Fin 65536 := ⟨512 * t.val + r.val, by have := lt128 t; omega⟩

variable (m : (ℓ : Loc nD τ sig) → Buf (Elt Ideal) ℓ) (c : Dev nD)

theorem iblk_x (t : Fin cfg0.N) (r : Fin 512) (k : Fin 1024) :
    iblk m c (0 : Fin 7) t (ix2 r k : S512x1024.Idx) = m ((c : Thread nD τ).loc main_arg0) (ix2 (row t r) k : S65536x1024.Idx) := by
  have hat := at_ t
  have hi := hat.1
  refine Eq.trans ?_ (congrFun (V_main_arg0 m c) _)
  unfold iblk
  rw [View.read_apply]
  show V m c main_arg0 _ = V m c main_arg0 _
  congr 1
  funext a; apply Fin.ext
  match a with
  | ⟨0, _⟩ => show (cfg0.win (0 : Fin 7)).index t 0 * 512 + 1 * r.val = 512 * t.val + r.val; rw [hi]; show t.val * 512 + 1 * r.val = _; omega
  | ⟨1, _⟩ => show (cfg0.win (0 : Fin 7)).index t 1 * 1024 + 1 * k.val = k.val; rw [hi]; show 0 * 1024 + 1 * k.val = _; omega

theorem iblk_o (t : Fin cfg0.N) (r : Fin 512) (k : Fin 1024) :
    iblk m c (1 : Fin 7) t (ix2 r k : S512x1024.Idx) = m ((c : Thread nD τ).loc main_arg4) (ix2 (row t r) k : S65536x1024.Idx) := by
  have hat := at_ t
  have hi := hat.2.1
  refine Eq.trans ?_ (congrFun (V_main_arg4 m c) _)
  unfold iblk
  rw [View.read_apply]
  show V m c main_arg4 _ = V m c main_arg4 _
  congr 1
  funext a; apply Fin.ext
  match a with
  | ⟨0, _⟩ => show (cfg0.win (1 : Fin 7)).index t 0 * 512 + 1 * r.val = 512 * t.val + r.val; rw [hi]; show t.val * 512 + 1 * r.val = _; omega
  | ⟨1, _⟩ => show (cfg0.win (1 : Fin 7)).index t 1 * 1024 + 1 * k.val = k.val; rw [hi]; show 0 * 1024 + 1 * k.val = _; omega

theorem iblk_wm (t : Fin cfg0.N) (r : Fin 1024) (k : Fin 1024) :
    iblk m c (2 : Fin 7) t (ix2 r k : S1024x1024.Idx) = m ((c : Thread nD τ).loc main_arg5) (ix2 (r) k : S1024x1024.Idx) := by
  have hat := at_ t
  have hi := hat.2.2.1
  refine Eq.trans ?_ (congrFun (V_main_arg5 m c) _)
  unfold iblk
  rw [View.read_apply]
  show V m c main_arg5 _ = V m c main_arg5 _
  congr 1
  funext a; apply Fin.ext
  match a with
  | ⟨0, _⟩ => show (cfg0.win (2 : Fin 7)).index t 0 * 1024 + 1 * r.val = r.val; rw [hi]; show 0 * 1024 + 1 * r.val = _; omega
  | ⟨1, _⟩ => show (cfg0.win (2 : Fin 7)).index t 1 * 1024 + 1 * k.val = k.val; rw [hi]; show 0 * 1024 + 1 * k.val = _; omega

theorem host_g (k : Fin 1024) : V m c main_v0 (ix2 0 k : S1x1024.Idx) = m ((c : Thread nD τ).loc main_arg1) (ix1 k : S1024.Idx) := by
  show StableHlo.after hostOps0 (fun b => m (c, b)) (Proc.devRef .tc main_v0) _ = _
  rw [StableHlo.after_cons, StableHlo.after_nil, StableHlo.reshape_result]
  refine shapeCast_apply _ _ _ _ ?_
  show (S1024.rowMajor (ix1 k)).val = (S1x1024.rowMajor (ix2 0 k)).val
  rw [Shape.rowMajor_val_two, Shape.rowMajor_val_one]
  show k.val = 0 * 1024 + k.val
  omega

theorem iblk_g (t : Fin cfg0.N) (k : Fin 1024) :
    iblk m c (3 : Fin 7) t (ix2 0 k : S1x1024.Idx) = m ((c : Thread nD τ).loc main_arg1) (ix1 k : S1024.Idx) := by
  have hat := at_ t
  have hi := hat.2.2.2.1
  refine Eq.trans ?_ (host_g m c k)
  unfold iblk
  rw [View.read_apply]
  show V m c main_v0 _ = V m c main_v0 _
  congr 1
  funext a; apply Fin.ext
  match a with
  | ⟨0, _⟩ => show (cfg0.win (3 : Fin 7)).index t 0 * 1 + 1 * 0 = 0; rw [hi]; rfl
  | ⟨1, _⟩ => show (cfg0.win (3 : Fin 7)).index t 1 * 1024 + 1 * k.val = k.val; rw [hi]; show 0 * 1024 + 1 * k.val = _; omega

theorem iblk_w (t : Fin cfg0.N) (r : Fin 1024) (k : Fin 5632) :
    iblk m c (4 : Fin 7) t (ix2 r k : S1024x5632.Idx) = m ((c : Thread nD τ).loc main_arg2) (ix2 (r) k : S1024x5632.Idx) := by
  have hat := at_ t
  have hi := hat.2.2.2.2.1
  refine Eq.trans ?_ (congrFun (V_main_arg2 m c) _)
  unfold iblk
  rw [View.read_apply]
  show V m c main_arg2 _ = V m c main_arg2 _
  congr 1
  funext a; apply Fin.ext
  match a with
  | ⟨0, _⟩ => show (cfg0.win (4 : Fin 7)).index t 0 * 1024 + 1 * r.val = r.val; rw [hi]; show 0 * 1024 + 1 * r.val = _; omega
  | ⟨1, _⟩ => show (cfg0.win (4 : Fin 7)).index t 1 * 5632 + 1 * k.val = k.val; rw [hi]; show 0 * 5632 + 1 * k.val = _; omega

theorem iblk_wo (t : Fin cfg0.N) (r : Fin 2816) (k : Fin 1024) :
    iblk m c (5 : Fin 7) t (ix2 r k : S2816x1024.Idx) = m ((c : Thread nD τ).loc main_arg3) (ix2 (r) k : S2816x1024.Idx) := by
  have hat := at_ t
  have hi := hat.2.2.2.2.2.1
  refine Eq.trans ?_ (congrFun (V_main_arg3 m c) _)
  unfold iblk
  rw [View.read_apply]
  show V m c main_arg3 _ = V m c main_arg3 _
  congr 1
  funext a; apply Fin.ext
  match a with
  | ⟨0, _⟩ => show (cfg0.win (5 : Fin 7)).index t 0 * 2816 + 1 * r.val = r.val; rw [hi]; show 0 * 2816 + 1 * r.val = _; omega
  | ⟨1, _⟩ => show (cfg0.win (5 : Fin 7)).index t 1 * 1024 + 1 * k.val = k.val; rw [hi]; show 0 * 1024 + 1 * k.val = _; omega

/-- What the kernel computes. -/
def resultK (r : Fin 65536) (d : Fin 1024) : EReal :=
  Swiglu.step (Swiglu.mix (fun k => m ((c : Thread nD τ).loc main_arg0) (ix2 r k : S65536x1024.Idx)) (fun k => m ((c : Thread nD τ).loc main_arg4) (ix2 r k : S65536x1024.Idx)) (fun k d => m ((c : Thread nD τ).loc main_arg5) (ix2 k d : S1024x1024.Idx))) (fun k => m ((c : Thread nD τ).loc main_arg1) (ix1 k : S1024.Idx)) (fun k f => m ((c : Thread nD τ).loc main_arg2) (ix2 k f : S1024x5632.Idx)) (fun f d => m ((c : Thread nD τ).loc main_arg3) (ix2 f d : S2816x1024.Idx)) d

theorem final : (dats m 0 c).arrAt (6 : Fin 7) cfg0.N = fun i : S65536x1024.Idx => resultK m c (i 0) (i 1) := by
  refine (dats m 0 c).arrAt_eq_of_covers (6 : Fin 7) _ covers fun t hft y => ?_
  have hat := at_ t
  have hi := hat.2.2.2.2.2.2
  obtain ⟨y', z', hy⟩ : ∃ (y' : Fin 512) (z' : Fin 1024), (y : S512x1024.Idx) = ix2 y' z' := ⟨y 0, y 1, eq_ix2 (y : S512x1024.Idx)⟩
  have he : ((cfg0.win (6 : Fin 7)).blk t).view.emb y = ix2 (row t y') z' := by
    subst hy
    funext a; apply Fin.ext
    match a with
    | ⟨0, _⟩ => show (cfg0.win (6 : Fin 7)).index t 0 * 512 + 1 * y'.val = 512 * t.val + y'.val; rw [hi]; show t.val * 512 + 1 * y'.val = _; omega
    | ⟨1, _⟩ => show (cfg0.win (6 : Fin 7)).index t 1 * 1024 + 1 * z'.val = z'.val; rw [hi]; show 0 * 1024 + 1 * z'.val = _; omega
  rw [he]
  refine (congrFun (Value.flushed6 m c t) y).trans ?_
  show out0_6 (iblk m c 0 t) (iblk m c 1 t) (iblk m c 2 t) (iblk m c 3 t) (iblk m c 4 t) (iblk m c 5 t) y = resultK m c (row t y') z'
  have hy' : y = (ix2 y' z' : S512x1024.Idx) := hy
  rw [hy']
  refine (out_apply _ _ _ _ _ _ y' z').trans ?_
  simp only [iblk_x, iblk_o, iblk_wm, iblk_g, iblk_w, iblk_wo]
  rfl

end Cert.Kernel3Ideal.Ffn
end
end
-- ==== Proof.Ref3.lean ====
module

public import proofs.«01_k».proof.Proof.Gen.Reference3Ideal.Read
public import proofs.«01_k».proof.Proof.Swiglu

@[expose] public section

/-! # The reference with the output projection of the mixer, at an index -/

set_option maxRecDepth 65536

noncomputable section

namespace Cert.Reference3Ideal.At

open Cert.Reference3Ideal Cert.Reference3Ideal.Read
open Idealize.ShloMosaic Idealize.ShloMosaic.ValueIdx
open Idealize.ShloMosaic.TcCoe
open Idealize.SL Idealize.SL.Sem

/-! ## Indices -/

theorem idx_main_v5_eq (r : Fin 65536) (k : Fin 1024) : idx_main_v5 (ix1 r) k = (ix2 r k : S65536x1024.Idx) := by
  funext a
  match a with
  | ⟨0, _⟩ => rfl
  | ⟨1, _⟩ => rfl

theorem idx_main_v6_eq (r : Fin 65536) (z : Fin 1) : idx_main_v6 (ix2 r z) = (ix1 r : S65536.Idx) := by
  funext a
  match a with
  | ⟨0, _⟩ => rfl

theorem idx_main_v12_eq (r : Fin 65536) (k : Fin 1024) : idx_main_v12 (ix2 r k) = (ix2 r 0 : S65536x1.Idx) := by
  funext a
  match a with
  | ⟨0, _⟩ => rfl
  | ⟨1, _⟩ => rfl

theorem idx_main_v14_eq (z : Fin 1) (k : Fin 1024) : idx_main_v14 (ix2 z k) = (ix1 k : S1024.Idx) := by
  funext a
  match a with
  | ⟨0, _⟩ => rfl

theorem idx_main_v15_eq (r : Fin 65536) (k : Fin 1024) : idx_main_v15 (ix2 r k) = (ix2 0 k : S1x1024.Idx) := by
  funext a
  match a with
  | ⟨0, _⟩ => rfl
  | ⟨1, _⟩ => rfl

theorem lidx_main_v18_eq (r : Fin 65536) (f : Fin 5632) (k : Fin 1024) : lidx_main_v18 (ix2 r f) k = (ix2 r k : S65536x1024.Idx) := by
  funext a
  match a with
  | ⟨0, _⟩ => rfl
  | ⟨1, _⟩ => rfl

theorem ridx_main_v18_eq (r : Fin 65536) (f : Fin 5632) (k : Fin 1024) : ridx_main_v18 (ix2 r f) k = (ix2 k f : S1024x5632.Idx) := by
  funext a
  match a with
  | ⟨0, _⟩ => rfl
  | ⟨1, _⟩ => rfl

theorem idx_main_v19_eq (r : Fin 65536) (f : Fin 2816) : idx_main_v19 (ix2 r f) = (ix2 r (⟨f.val, by omega⟩ : Fin 5632) : S65536x5632.Idx) := by
  funext a
  match a with
  | ⟨0, _⟩ => apply Fin.ext; first | rfl | (show 0 + r.val = r.val; omega)
  | ⟨1, _⟩ => apply Fin.ext; first | rfl | (show 0 + f.val = f.val; omega)

theorem idx_main_v20_eq (r : Fin 65536) (f : Fin 2816) : idx_main_v20 (ix2 r f) = (ix2 r (⟨2816 + f.val, by omega⟩ : Fin 5632) : S65536x5632.Idx) := by
  funext a
  match a with
  | ⟨0, _⟩ => apply Fin.ext; first | rfl | (show 0 + r.val = r.val; omega)
  | ⟨1, _⟩ => apply Fin.ext; first | rfl | (show f.val + 2816 = 2816 + f.val; omega)

theorem lidx_main_v24_eq (r : Fin 65536) (d : Fin 1024) (f : Fin 2816) : lidx_main_v24 (ix2 r d) f = (ix2 r f : S65536x2816.Idx) := by
  funext a
  match a with
  | ⟨0, _⟩ => rfl
  | ⟨1, _⟩ => rfl

theorem ridx_main_v24_eq (r : Fin 65536) (d : Fin 1024) (f : Fin 2816) : ridx_main_v24 (ix2 r d) f = (ix2 f d : S2816x1024.Idx) := by
  funext a
  match a with
  | ⟨0, _⟩ => rfl
  | ⟨1, _⟩ => rfl

theorem lidx_main_v2_eq (r : Fin 65536) (d : Fin 1024) (k : Fin 1024) : lidx_main_v2 (ix2 r d) k = (ix2 r k : S65536x1024.Idx) := by
  funext a
  match a with
  | ⟨0, _⟩ => rfl
  | ⟨1, _⟩ => rfl

theorem ridx_main_v2_eq (r : Fin 65536) (d : Fin 1024) (k : Fin 1024) : ridx_main_v2 (ix2 r d) k = (ix2 k d : S1024x1024.Idx) := by
  funext a
  match a with
  | ⟨0, _⟩ => rfl
  | ⟨1, _⟩ => rfl

/-! ## The stages -/

theorem zero_lit : Ideal.ofBits .f32 0x00000000#32 = 0 := by
  simp [Ideal.ofBits, Ideal.ieee]

theorem mixed_at (x0 : (⟨S65536x1024, .f32⟩ : BufTy).Contents (Elt Ideal)) (x4 : (⟨S65536x1024, .bf16⟩ : BufTy).Contents (Elt Ideal)) (x5 : (⟨S1024x1024, .bf16⟩ : BufTy).Contents (Elt Ideal)) (r : Fin 65536) (d : Fin 1024) :
    val_main_v3 (F := Ideal) x0 x4 x5 (ix2 r d) = Swiglu.mix (fun k => x0 (ix2 r k)) (fun k => x4 (ix2 r k)) (fun k d => x5 (ix2 k d)) d := by
  simp only [val_main_v3_apply, val_main_v2_apply, val_main_v1_apply, val_main_v0_apply, lidx_main_v2_eq, ridx_main_v2_eq]
  rfl

theorem hid_at (x0 : (⟨S65536x1024, .f32⟩ : BufTy).Contents (Elt Ideal)) (x1 : (⟨S1024, .f32⟩ : BufTy).Contents (Elt Ideal)) (x4 : (⟨S65536x1024, .bf16⟩ : BufTy).Contents (Elt Ideal)) (x5 : (⟨S1024x1024, .bf16⟩ : BufTy).Contents (Elt Ideal)) (r : Fin 65536) (k : Fin 1024) :
    val_main_v16 (F := Ideal) x0 x1 x4 x5 (ix2 r k) = Swiglu.norm (fun k => val_main_v3 (F := Ideal) x0 x4 x5 (ix2 r k)) (fun k => x1 (ix1 k)) k := by
  simp only [val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_cst_apply, val_main_cst_0_apply, val_main_cst_1_apply,
    idx_main_v5_eq, idx_main_v6_eq, idx_main_v12_eq, idx_main_v14_eq, idx_main_v15_eq]
  show _ * Ideal.rsqrt (Ideal.div (Ideal.ofBits .f32 0x00000000#32 + _) _ + _) * _ = _
  rw [zero_lit, zero_add]
  rfl

theorem up_at (x0 : (⟨S65536x1024, .f32⟩ : BufTy).Contents (Elt Ideal)) (x1 : (⟨S1024, .f32⟩ : BufTy).Contents (Elt Ideal)) (x2 : (⟨S1024x5632, .bf16⟩ : BufTy).Contents (Elt Ideal)) (x4 : (⟨S65536x1024, .bf16⟩ : BufTy).Contents (Elt Ideal)) (x5 : (⟨S1024x1024, .bf16⟩ : BufTy).Contents (Elt Ideal)) (r : Fin 65536) (f : Fin 5632) :
    val_main_v18 (F := Ideal) x0 x1 x2 x4 x5 (ix2 r f) = Swiglu.proj (Swiglu.norm (fun k => val_main_v3 (F := Ideal) x0 x4 x5 (ix2 r k)) (fun k => x1 (ix1 k))) (fun k f => x2 (ix2 k f)) f := by
  simp only [val_main_v18_apply, val_main_v17_apply, lidx_main_v18_eq, ridx_main_v18_eq, hid_at]
  rfl

theorem act_at (x0 : (⟨S65536x1024, .f32⟩ : BufTy).Contents (Elt Ideal)) (x1 : (⟨S1024, .f32⟩ : BufTy).Contents (Elt Ideal)) (x2 : (⟨S1024x5632, .bf16⟩ : BufTy).Contents (Elt Ideal)) (x4 : (⟨S65536x1024, .bf16⟩ : BufTy).Contents (Elt Ideal)) (x5 : (⟨S1024x1024, .bf16⟩ : BufTy).Contents (Elt Ideal)) (r : Fin 65536) (f : Fin 2816) :
    val_main_v22 (F := Ideal) x0 x1 x2 x4 x5 (ix2 r f)
      = Swiglu.act (val_main_v18 (F := Ideal) x0 x1 x2 x4 x5 (ix2 r (⟨2816 + f.val, by omega⟩ : Fin 5632))) (val_main_v18 (F := Ideal) x0 x1 x2 x4 x5 (ix2 r (⟨f.val, by omega⟩ : Fin 5632))) := by
  simp only [val_main_v22_apply, val_main_v21_apply, val_main_call0_v5_apply, val_main_call0_v4_apply, val_main_call0_v3_apply, val_main_call0_v2_apply,
    val_main_call0_v1_apply, val_main_call0_v0_apply, val_main_call0_cst_apply, val_main_call0_cst_0_apply, val_main_v20_apply, val_main_v19_apply,
    idx_main_v19_eq, idx_main_v20_eq]
  exact Swiglu.act_eq _ _

theorem result_at (x0 : (⟨S65536x1024, .f32⟩ : BufTy).Contents (Elt Ideal)) (x1 : (⟨S1024, .f32⟩ : BufTy).Contents (Elt Ideal)) (x2 : (⟨S1024x5632, .bf16⟩ : BufTy).Contents (Elt Ideal)) (x3 : (⟨S2816x1024, .bf16⟩ : BufTy).Contents (Elt Ideal)) (x4 : (⟨S65536x1024, .bf16⟩ : BufTy).Contents (Elt Ideal)) (x5 : (⟨S1024x1024, .bf16⟩ : BufTy).Contents (Elt Ideal)) (r : Fin 65536) (d : Fin 1024) :
    val_main_v27 (F := Ideal) x0 x1 x2 x3 x4 x5 (ix2 r d)
      = Swiglu.step (Swiglu.mix (fun k => x0 (ix2 r k)) (fun k => x4 (ix2 r k)) (fun k d => x5 (ix2 k d))) (fun k => x1 (ix1 k)) (fun k f => x2 (ix2 k f)) (fun f d => x3 (ix2 f d)) d := by
  simp only [val_main_v27_apply, val_main_v26_apply, val_main_v25_apply, val_main_v24_apply, val_main_v23_apply, val_main_cst_2_apply, lidx_main_v24_eq, ridx_main_v24_eq, act_at, up_at, mixed_at]
  rfl

end Cert.Reference3Ideal.At
end
end
-- ==== Proof.Body4.lean ====
module

public import proofs.«01_k».proof.Proof.Gen.Kernel4Ideal.Value
public import proofs.«01_k».proof.Proof.Swiglu
public import Idealize.ShloMosaic.Lib.Pointwise

@[expose] public section

/-! # One point of the feed-forward kernel

What a point stores, at an index of its block, from the blocks it loads. -/

set_option maxRecDepth 65536

noncomputable section

namespace Cert.Kernel4Ideal.Ffn

open Cert.Kernel4Ideal Cert.Kernel4Ideal.Gen
open Idealize.ShloMosaic
open Idealize.ShloMosaic.TcCoe Idealize.ShloMosaic.Tactic
open Idealize.SL Idealize.SL.Sem

/-- A chunk of hidden units before the activation. -/
def pre (h : FVec Ideal S512x1024 .bf16) (w : Vec Ideal S1024x256 .bf16) : FVec Ideal S512x256 .f32 :=
  matmul (φ₂ := .bf16) dot_S512x1024_S1024x256_S512x256_1_0_0_1_n_n none h w (constant S512x256 .f32 0x00000000#32)

/-- What a chunk of hidden units adds to the block. -/
def part (h : FVec Ideal S512x1024 .bf16) (wu wg : Vec Ideal S1024x256 .bf16) (wo : Vec Ideal S256x1024 .bf16) : FVec Ideal S512x1024 .f32 :=
  matmul (φ₂ := .bf16) dot_S512x256_S256x1024_S512x1024_1_0_0_1_n_n none
    (truncf .bf16 (mulf (divf (pre h wg) (addf (broadcast S512x256 (Scalar.ofBits .f32 0x3F800000#32))
      (exp (subf (broadcast S512x256 (Scalar.ofBits .f32 0x00000000#32)) (pre h wg))))) (pre h wu)) bitsLt_bf16_f32)
    wo (constant S512x1024 .f32 0x00000000#32)

theorem mixed_apply (x : Vec Ideal S512x1024 .f32) (o : Vec Ideal S512x1024 .bf16) (wm : Vec Ideal S1024x1024 .bf16) (r : Fin 512) (d : Fin 1024) :
    k0_pay2 (F := Ideal) x o wm (ix2 r d) = Swiglu.mix (fun k => x (ix2 r k)) (fun k => o (ix2 r k)) (fun k d => wm (ix2 k d)) d := by
  pointwise [k0_pay2]
  rfl

/-- The normalised rows, from the mixed rows. -/
def hid (y : FVec Ideal S512x1024 .f32) (g : Vec Ideal S1x1024 .f32) : FVec Ideal S512x1024 .f32 :=
  mulf (mulf y (broadcastTo S512x1024 (rsqrt (addf (divf (shapeCast S512x1 (multiReduction .add [1] S512 (mulf y y) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

theorem hid_apply (y : FVec Ideal S512x1024 .f32) (g : Vec Ideal S1x1024 .f32) (r : Fin 512) (k : Fin 1024) :
    hid y g (ix2 r k) = Swiglu.norm (fun k => y (ix2 r k)) (fun k => g (ix2 0 k)) k := by
  pointwise [hid]
  rfl

theorem pre_apply (h : FVec Ideal S512x1024 .bf16) (w : Vec Ideal S1024x256 .bf16) (r : Fin 512) (f : Fin 256) :
    pre h w (ix2 r f) = Swiglu.proj (fun k => h (ix2 r k)) (fun k f => w (ix2 k f)) f := by
  pointwise [pre]
  rfl

theorem part_apply (h : FVec Ideal S512x1024 .bf16) (wu wg : Vec Ideal S1024x256 .bf16) (wo : Vec Ideal S256x1024 .bf16) (r : Fin 512) (d : Fin 1024) :
    part h wu wg wo (ix2 r d) = ∑ f : Fin 256, Swiglu.act (pre h wg (ix2 r f)) (pre h wu (ix2 r f)) * wo (ix2 f d) := by
  pointwise [part]
  rfl

theorem inbU (c : Fin 11) : ∀ a : Fin 2, (![0, 256 * c.val] : Fin 2 → ℕ) a + S1024x256.size a ≤ S1024x5632.size a := by
  intro a; fin_cases a
  · show 0 + 1024 ≤ 1024; omega
  · show 256 * c.val + 256 ≤ 5632; omega

theorem inbG (c : Fin 11) : ∀ a : Fin 2, (![0, 2816 + 256 * c.val] : Fin 2 → ℕ) a + S1024x256.size a ≤ S1024x5632.size a := by
  intro a; fin_cases a
  · show 0 + 1024 ≤ 1024; omega
  · show 2816 + 256 * c.val + 256 ≤ 5632; omega

theorem inbO (c : Fin 11) : ∀ a : Fin 2, (![256 * c.val, 0] : Fin 2 → ℕ) a + S256x1024.size a ≤ S2816x1024.size a := by
  intro a; fin_cases a
  · show 256 * c.val + 256 ≤ 2816; omega
  · show 0 + 1024 ≤ 1024; omega

/-- The columns of chunk `c` in the first half of the weights, in the second, and its rows in the weights back. -/
def colU (c : Fin 11) : Rect S1024x5632 := Rect.unit (s := S1024x5632) ![0, 256 * c.val] S1024x256.size (inbU c)
def colG (c : Fin 11) : Rect S1024x5632 := Rect.unit (s := S1024x5632) ![0, 2816 + 256 * c.val] S1024x256.size (inbG c)
def rowO (c : Fin 11) : Rect S2816x1024 := Rect.unit (s := S2816x1024) ![256 * c.val, 0] S256x1024.size (inbO c)

/-- What chunk `c` adds to the block. -/
def partC (h : FVec Ideal S512x1024 .bf16) (w : Vec Ideal S1024x5632 .bf16) (wo : Vec Ideal S2816x1024 .bf16) (c : Fin 11) : FVec Ideal S512x1024 .f32 :=
  part h (View.ld w (colU c)) (View.ld w (colG c)) (View.ld wo (rowO c))

theorem partC_apply (h : FVec Ideal S512x1024 .bf16) (w : Vec Ideal S1024x5632 .bf16) (wo : Vec Ideal S2816x1024 .bf16) (c : Fin 11) (r : Fin 512) (d : Fin 1024) :
    partC h w wo c (ix2 r d) = Swiglu.chunk (Swiglu.unit (fun k => h (ix2 r k)) (fun k f => w (ix2 k f)) (fun f d => wo (ix2 f d)) d) c := by
  refine (part_apply _ _ _ _ r d).trans (Finset.sum_congr rfl fun f _ => ?_)
  have eU (k : Fin 1024) : View.ld w (colU c) (ix2 k f) = w (ix2 k (⟨256 * c.val + f.val, by omega⟩ : Fin 5632)) := by
    refine congrArg w ?_
    funext a; apply Fin.ext
    match a with
    | ⟨0, _⟩ => show 0 + 1 * k.val = k.val; omega
    | ⟨1, _⟩ => show 256 * c.val + 1 * f.val = 256 * c.val + f.val; omega
  have eG (k : Fin 1024) : View.ld w (colG c) (ix2 k f) = w (ix2 k (⟨2816 + (256 * c.val + f.val), by omega⟩ : Fin 5632)) := by
    refine congrArg w ?_
    funext a; apply Fin.ext
    match a with
    | ⟨0, _⟩ => show 0 + 1 * k.val = k.val; omega
    | ⟨1, _⟩ => show 2816 + 256 * c.val + 1 * f.val = 2816 + (256 * c.val + f.val); omega
  have eO : View.ld wo (rowO c) (ix2 f d) = wo (ix2 (⟨256 * c.val + f.val, by omega⟩ : Fin 2816) d) := by
    refine congrArg wo ?_
    funext a; apply Fin.ext
    match a with
    | ⟨0, _⟩ => show 256 * c.val + 1 * f.val = 256 * c.val + f.val; omega
    | ⟨1, _⟩ => show 0 + 1 * d.val = d.val; omega
  unfold Swiglu.unit Swiglu.proj
  exact congrArg₂ (fun a b : EReal => a * b)
    (congrArg₂ Swiglu.act ((pre_apply _ _ r f).trans <| Finset.sum_congr rfl fun k _ => congrArg (fun a : EReal => h (ix2 r k) * a) (eG k))
      ((pre_apply _ _ r f).trans <| Finset.sum_congr rfl fun k _ => congrArg (fun a : EReal => h (ix2 r k) * a) (eU k))) eO

/-- The eleven chunks, added from the left. -/
def chunks (h : FVec Ideal S512x1024 .bf16) (w : Vec Ideal S1024x5632 .bf16) (wo : Vec Ideal S2816x1024 .bf16) : FVec Ideal S512x1024 .f32 :=
  addf (addf (addf (addf (addf (addf (addf (addf (addf (addf (partC h w wo 0) (partC h w wo 1)) (partC h w wo 2)) (partC h w wo 3)) (partC h w wo 4))
    (partC h w wo 5)) (partC h w wo 6)) (partC h w wo 7)) (partC h w wo 8)) (partC h w wo 9)) (partC h w wo 10)

theorem chunks_apply (h : FVec Ideal S512x1024 .bf16) (w : Vec Ideal S1024x5632 .bf16) (wo : Vec Ideal S2816x1024 .bf16) (r : Fin 512) (d : Fin 1024) :
    chunks h w wo (ix2 r d) = ∑ f : Fin 2816, Swiglu.unit (fun k => h (ix2 r k)) (fun k f => w (ix2 k f)) (fun f d => wo (ix2 f d)) d f := by
  rw [Swiglu.sum_chunks]
  simp only [← partC_apply]
  rfl

/-- The block plus half of its feed-forward part. -/
def body (x : FVec Ideal S512x1024 .f32) (h : FVec Ideal S512x1024 .bf16) (w : Vec Ideal S1024x5632 .bf16) (wo : Vec Ideal S2816x1024 .bf16) : FVec Ideal S512x1024 .f32 :=
  addf x (mulf (broadcast S512x1024 (Scalar.ofBits .f32 0x3F000000#32)) (chunks h w wo))

theorem body_apply (y : FVec Ideal S512x1024 .f32) (g : Vec Ideal S1x1024 .f32) (w : Vec Ideal S1024x5632 .bf16) (wo : Vec Ideal S2816x1024 .bf16)
    (r : Fin 512) (d : Fin 1024) :
    body y (truncf .bf16 (hid y g) bitsLt_bf16_f32) w wo (ix2 r d)
      = Swiglu.step (fun k => y (ix2 r k)) (fun k => g (ix2 0 k)) (fun k f => w (ix2 k f)) (fun f d => wo (ix2 f d)) d := by
  show y (ix2 r d) + Swiglu.half * chunks (truncf .bf16 (hid y g) bitsLt_bf16_f32) w wo (ix2 r d) = _
  rw [chunks_apply]
  have e : (fun k => truncf .bf16 (hid y g) bitsLt_bf16_f32 (ix2 r k)) = Swiglu.norm (fun k => y (ix2 r k)) (fun k => g (ix2 0 k)) :=
    funext fun k => hid_apply y g r k
  unfold Swiglu.step
  rw [e]

theorem out_eq (x : Vec Ideal S512x1024 .f32) (o : Vec Ideal S512x1024 .bf16) (wm : Vec Ideal S1024x1024 .bf16) (g : Vec Ideal S1x1024 .f32) (w : Vec Ideal S1024x5632 .bf16) (wo : Vec Ideal S2816x1024 .bf16) (gf : Vec Ideal S1x1024 .f32) :
    out0_7 (F := Ideal) x o wm g w wo gf = hid (body (k0_pay2 x o wm) (truncf .bf16 (hid (k0_pay2 x o wm) g) bitsLt_bf16_f32) w wo) gf := by
  unfold out0_7
  rw [View.canon_unit_zero (by funext a; fin_cases a <;> rfl)]
  unfold k0_pay27
  rw [View.ld_unit_zero (S := S512x1024) (by funext a; fin_cases a <;> rfl), View.ld_unit_zero (S := S512x1024) (by funext a; fin_cases a <;> rfl), View.ld_unit_zero (S := S1024x1024) (by funext a; fin_cases a <;> rfl), View.ld_unit_zero (S := S1x1024) (by funext a; fin_cases a <;> rfl), View.ld_unit_zero (S := S1x1024) (by funext a; fin_cases a <;> rfl)]
  rfl

theorem out_apply (x : Vec Ideal S512x1024 .f32) (o : Vec Ideal S512x1024 .bf16) (wm : Vec Ideal S1024x1024 .bf16) (g : Vec Ideal S1x1024 .f32) (w : Vec Ideal S1024x5632 .bf16) (wo : Vec Ideal S2816x1024 .bf16) (gf : Vec Ideal S1x1024 .f32)
    (r : Fin 512) (d : Fin 1024) :
    out0_7 (F := Ideal) x o wm g w wo gf (ix2 r d)
      = Swiglu.norm (Swiglu.step (Swiglu.mix (fun k => x (ix2 r k)) (fun k => o (ix2 r k)) (fun k d => wm (ix2 k d))) (fun k => g (ix2 0 k)) (fun k f => w (ix2 k f)) (fun f d => wo (ix2 f d))) (fun k => gf (ix2 0 k)) d := by
  rw [out_eq, hid_apply]
  simp only [body_apply, mixed_apply]

end Cert.Kernel4Ideal.Ffn
end
end
-- ==== Proof.Array4.lean ====
module

public import proofs.«01_k».proof.Proof.Body4
public import Idealize.ShloMosaic.Lib.Pipeline.ValueKit

@[expose] public section

/-! # The result array of the last feed-forward kernel -/

set_option maxRecDepth 65536
set_option Elab.async false

noncomputable section

namespace Cert.Kernel4Ideal.Ffn

open Cert.Kernel4Ideal Cert.Kernel4Ideal.Gen
open Idealize.ShloMosaic
open Idealize.ShloMosaic.TcCoe Idealize.ShloMosaic.Tactic
open Idealize.SL Idealize.SL.Sem

/-- Where the blocks of a point lie. -/
abbrev At (t : Fin cfg0.N) : Prop :=
  (cfg0.win (0 : Fin 8)).index t = ![t.val, 0]
  ∧ (cfg0.win (1 : Fin 8)).index t = ![t.val, 0]
  ∧ (cfg0.win (2 : Fin 8)).index t = ![0, 0]
  ∧ (cfg0.win (3 : Fin 8)).index t = ![0, 0]
  ∧ (cfg0.win (4 : Fin 8)).index t = ![0, 0]
  ∧ (cfg0.win (5 : Fin 8)).index t = ![0, 0]
  ∧ (cfg0.win (6 : Fin 8)).index t = ![0, 0]
  ∧ (cfg0.win (7 : Fin 8)).index t = ![t.val, 0]

theorem at_ : ∀ t : Fin cfg0.N, At t := by decide +kernel

theorem covers : (cfg0.win (7 : Fin 8)).Covers := by decide +kernel

theorem lt128 (t : Fin cfg0.N) : t.val < 128 := Nat.lt_of_lt_of_eq t.isLt (by decide +kernel)

/-- The row of the array at row `r` of the block of point `t`. -/
def row (t : Fin cfg0.N) (r : Fin 512) : Fin 65536 := ⟨512 * t.val + r.val, by have := lt128 t; omega⟩

variable (m : (ℓ : Loc nD τ sig) → Buf (Elt Ideal) ℓ) (c : Dev nD)

theorem iblk_x (t : Fin cfg0.N) (r : Fin 512) (k : Fin 1024) :
    iblk m c (0 : Fin 8) t (ix2 r k : S512x1024.Idx) = m ((c : Thread nD τ).loc main_arg0) (ix2 (row t r) k : S65536x1024.Idx) := by
  have hat := at_ t
  have hi := hat.1
  refine Eq.trans ?_ (congrFun (V_main_arg0 m c) _)
  unfold iblk
  rw [View.read_apply]
  show V m c main_arg0 _ = V m c main_arg0 _
  congr 1
  funext a; apply Fin.ext
  match a with
  | ⟨0, _⟩ => show (cfg0.win (0 : Fin 8)).index t 0 * 512 + 1 * r.val = 512 * t.val + r.val; rw [hi]; show t.val * 512 + 1 * r.val = _; omega
  | ⟨1, _⟩ => show (cfg0.win (0 : Fin 8)).index t 1 * 1024 + 1 * k.val = k.val; rw [hi]; show 0 * 1024 + 1 * k.val = _; omega

theorem iblk_o (t : Fin cfg0.N) (r : Fin 512) (k : Fin 1024) :
    iblk m c (1 : Fin 8) t (ix2 r k : S512x1024.Idx) = m ((c : Thread nD τ).loc main_arg4) (ix2 (row t r) k : S65536x1024.Idx) := by
  have hat := at_ t
  have hi := hat.2.1
  refine Eq.trans ?_ (congrFun (V_main_arg4 m c) _)
  unfold iblk
  rw [View.read_apply]
  show V m c main_arg4 _ = V m c main_arg4 _
  congr 1
  funext a; apply Fin.ext
  match a with
  | ⟨0, _⟩ => show (cfg0.win (1 : Fin 8)).index t 0 * 512 + 1 * r.val = 512 * t.val + r.val; rw [hi]; show t.val * 512 + 1 * r.val = _; omega
  | ⟨1, _⟩ => show (cfg0.win (1 : Fin 8)).index t 1 * 1024 + 1 * k.val = k.val; rw [hi]; show 0 * 1024 + 1 * k.val = _; omega

theorem iblk_wm (t : Fin cfg0.N) (r : Fin 1024) (k : Fin 1024) :
    iblk m c (2 : Fin 8) t (ix2 r k : S1024x1024.Idx) = m ((c : Thread nD τ).loc main_arg5) (ix2 (r) k : S1024x1024.Idx) := by
  have hat := at_ t
  have hi := hat.2.2.1
  refine Eq.trans ?_ (congrFun (V_main_arg5 m c) _)
  unfold iblk
  rw [View.read_apply]
  show V m c main_arg5 _ = V m c main_arg5 _
  congr 1
  funext a; apply Fin.ext
  match a with
  | ⟨0, _⟩ => show (cfg0.win (2 : Fin 8)).index t 0 * 1024 + 1 * r.val = r.val; rw [hi]; show 0 * 1024 + 1 * r.val = _; omega
  | ⟨1, _⟩ => show (cfg0.win (2 : Fin 8)).index t 1 * 1024 + 1 * k.val = k.val; rw [hi]; show 0 * 1024 + 1 * k.val = _; omega

theorem host_g (k : Fin 1024) : V m c main_v0 (ix2 0 k : S1x1024.Idx) = m ((c : Thread nD τ).loc main_arg1) (ix1 k : S1024.Idx) := by
  show StableHlo.after hostOps0 (fun b => m (c, b)) (Proc.devRef .tc main_v0) _ = _
  rw [StableHlo.after_cons, StableHlo.after_cons, StableHlo.after_nil, HloOp.result_of_not_mem _ _ (by rw [StableHlo.reshape_writes]; decide), StableHlo.reshape_result]
  refine shapeCast_apply _ _ _ _ ?_
  show (S1024.rowMajor (ix1 k)).val = (S1x1024.rowMajor (ix2 0 k)).val
  rw [Shape.rowMajor_val_two, Shape.rowMajor_val_one]
  show k.val = 0 * 1024 + k.val
  omega

theorem iblk_g (t : Fin cfg0.N) (k : Fin 1024) :
    iblk m c (3 : Fin 8) t (ix2 0 k : S1x1024.Idx) = m ((c : Thread nD τ).loc main_arg1) (ix1 k : S1024.Idx) := by
  have hat := at_ t
  have hi := hat.2.2.2.1
  refine Eq.trans ?_ (host_g m c k)
  unfold iblk
  rw [View.read_apply]
  show V m c main_v0 _ = V m c main_v0 _
  congr 1
  funext a; apply Fin.ext
  match a with
  | ⟨0, _⟩ => show (cfg0.win (3 : Fin 8)).index t 0 * 1 + 1 * 0 = 0; rw [hi]; rfl
  | ⟨1, _⟩ => show (cfg0.win (3 : Fin 8)).index t 1 * 1024 + 1 * k.val = k.val; rw [hi]; show 0 * 1024 + 1 * k.val = _; omega

theorem iblk_w (t : Fin cfg0.N) (r : Fin 1024) (k : Fin 5632) :
    iblk m c (4 : Fin 8) t (ix2 r k : S1024x5632.Idx) = m ((c : Thread nD τ).loc main_arg2) (ix2 (r) k : S1024x5632.Idx) := by
  have hat := at_ t
  have hi := hat.2.2.2.2.1
  refine Eq.trans ?_ (congrFun (V_main_arg2 m c) _)
  unfold iblk
  rw [View.read_apply]
  show V m c main_arg2 _ = V m c main_arg2 _
  congr 1
  funext a; apply Fin.ext
  match a with
  | ⟨0, _⟩ => show (cfg0.win (4 : Fin 8)).index t 0 * 1024 + 1 * r.val = r.val; rw [hi]; show 0 * 1024 + 1 * r.val = _; omega
  | ⟨1, _⟩ => show (cfg0.win (4 : Fin 8)).index t 1 * 5632 + 1 * k.val = k.val; rw [hi]; show 0 * 5632 + 1 * k.val = _; omega

theorem iblk_wo (t : Fin cfg0.N) (r : Fin 2816) (k : Fin 1024) :
    iblk m c (5 : Fin 8) t (ix2 r k : S2816x1024.Idx) = m ((c : Thread nD τ).loc main_arg3) (ix2 (r) k : S2816x1024.Idx) := by
  have hat := at_ t
  have hi := hat.2.2.2.2.2.1
  refine Eq.trans ?_ (congrFun (V_main_arg3 m c) _)
  unfold iblk
  rw [View.read_apply]
  show V m c main_arg3 _ = V m c main_arg3 _
  congr 1
  funext a; apply Fin.ext
  match a with
  | ⟨0, _⟩ => show (cfg0.win (5 : Fin 8)).index t 0 * 2816 + 1 * r.val = r.val; rw [hi]; show 0 * 2816 + 1 * r.val = _; omega
  | ⟨1, _⟩ => show (cfg0.win (5 : Fin 8)).index t 1 * 1024 + 1 * k.val = k.val; rw [hi]; show 0 * 1024 + 1 * k.val = _; omega

theorem host_gf (k : Fin 1024) : V m c main_v1 (ix2 0 k : S1x1024.Idx) = m ((c : Thread nD τ).loc main_arg6) (ix1 k : S1024.Idx) := by
  show StableHlo.after hostOps0 (fun b => m (c, b)) (Proc.devRef .tc main_v1) _ = _
  rw [StableHlo.after_cons, StableHlo.after_cons, StableHlo.after_nil, StableHlo.reshape_result, HloOp.result_of_not_mem _ _ (by rw [StableHlo.reshape_writes]; decide)]
  refine shapeCast_apply _ _ _ _ ?_
  show (S1024.rowMajor (ix1 k)).val = (S1x1024.rowMajor (ix2 0 k)).val
  rw [Shape.rowMajor_val_two, Shape.rowMajor_val_one]
  show k.val = 0 * 1024 + k.val
  omega

theorem iblk_gf (t : Fin cfg0.N) (k : Fin 1024) :
    iblk m c (6 : Fin 8) t (ix2 0 k : S1x1024.Idx) = m ((c : Thread nD τ).loc main_arg6) (ix1 k : S1024.Idx) := by
  have hat := at_ t
  have hi := hat.2.2.2.2.2.2.1
  refine Eq.trans ?_ (host_gf m c k)
  unfold iblk
  rw [View.read_apply]
  show V m c main_v1 _ = V m c main_v1 _
  congr 1
  funext a; apply Fin.ext
  match a with
  | ⟨0, _⟩ => show (cfg0.win (6 : Fin 8)).index t 0 * 1 + 1 * 0 = 0; rw [hi]; rfl
  | ⟨1, _⟩ => show (cfg0.win (6 : Fin 8)).index t 1 * 1024 + 1 * k.val = k.val; rw [hi]; show 0 * 1024 + 1 * k.val = _; omega

/-- What the kernel computes. -/
def resultK (r : Fin 65536) (d : Fin 1024) : EReal :=
  Swiglu.norm (Swiglu.step (Swiglu.mix (fun k => m ((c : Thread nD τ).loc main_arg0) (ix2 r k : S65536x1024.Idx)) (fun k => m ((c : Thread nD τ).loc main_arg4) (ix2 r k : S65536x1024.Idx)) (fun k d => m ((c : Thread nD τ).loc main_arg5) (ix2 k d : S1024x1024.Idx))) (fun k => m ((c : Thread nD τ).loc main_arg1) (ix1 k : S1024.Idx)) (fun k f => m ((c : Thread nD τ).loc main_arg2) (ix2 k f : S1024x5632.Idx)) (fun f d => m ((c : Thread nD τ).loc main_arg3) (ix2 f d : S2816x1024.Idx))) (fun k => m ((c : Thread nD τ).loc main_arg6) (ix1 k : S1024.Idx)) d

theorem final : (dats m 0 c).arrAt (7 : Fin 8) cfg0.N = fun i : S65536x1024.Idx => resultK m c (i 0) (i 1) := by
  refine (dats m 0 c).arrAt_eq_of_covers (7 : Fin 8) _ covers fun t hft y => ?_
  have hat := at_ t
  have hi := hat.2.2.2.2.2.2.2
  obtain ⟨y', z', hy⟩ : ∃ (y' : Fin 512) (z' : Fin 1024), (y : S512x1024.Idx) = ix2 y' z' := ⟨y 0, y 1, eq_ix2 (y : S512x1024.Idx)⟩
  have he : ((cfg0.win (7 : Fin 8)).blk t).view.emb y = ix2 (row t y') z' := by
    subst hy
    funext a; apply Fin.ext
    match a with
    | ⟨0, _⟩ => show (cfg0.win (7 : Fin 8)).index t 0 * 512 + 1 * y'.val = 512 * t.val + y'.val; rw [hi]; show t.val * 512 + 1 * y'.val = _; omega
    | ⟨1, _⟩ => show (cfg0.win (7 : Fin 8)).index t 1 * 1024 + 1 * z'.val = z'.val; rw [hi]; show 0 * 1024 + 1 * z'.val = _; omega
  rw [he]
  refine (congrFun (Value.flushed7 m c t) y).trans ?_
  show out0_7 (iblk m c 0 t) (iblk m c 1 t) (iblk m c 2 t) (iblk m c 3 t) (iblk m c 4 t) (iblk m c 5 t) (iblk m c 6 t) y = resultK m c (row t y') z'
  have hy' : y = (ix2 y' z' : S512x1024.Idx) := hy
  rw [hy']
  refine (out_apply _ _ _ _ _ _ _ y' z').trans ?_
  simp only [iblk_x, iblk_o, iblk_wm, iblk_g, iblk_w, iblk_wo, iblk_gf]
  rfl

end Cert.Kernel4Ideal.Ffn
end
end
-- ==== Proof.Ref4.lean ====
module

public import proofs.«01_k».proof.Proof.Gen.Reference4Ideal.Read
public import proofs.«01_k».proof.Proof.Swiglu

@[expose] public section

/-! # The reference with the output projection of the mixer and the final norm, at an index -/

set_option maxRecDepth 65536

noncomputable section

namespace Cert.Reference4Ideal.At

open Cert.Reference4Ideal Cert.Reference4Ideal.Read
open Idealize.ShloMosaic Idealize.ShloMosaic.ValueIdx
open Idealize.ShloMosaic.TcCoe
open Idealize.SL Idealize.SL.Sem

/-! ## Indices -/

theorem idx_main_v5_eq (r : Fin 65536) (k : Fin 1024) : idx_main_v5 (ix1 r) k = (ix2 r k : S65536x1024.Idx) := by
  funext a
  match a with
  | ⟨0, _⟩ => rfl
  | ⟨1, _⟩ => rfl

theorem idx_main_v6_eq (r : Fin 65536) (z : Fin 1) : idx_main_v6 (ix2 r z) = (ix1 r : S65536.Idx) := by
  funext a
  match a with
  | ⟨0, _⟩ => rfl

theorem idx_main_v12_eq (r : Fin 65536) (k : Fin 1024) : idx_main_v12 (ix2 r k) = (ix2 r 0 : S65536x1.Idx) := by
  funext a
  match a with
  | ⟨0, _⟩ => rfl
  | ⟨1, _⟩ => rfl

theorem idx_main_v14_eq (z : Fin 1) (k : Fin 1024) : idx_main_v14 (ix2 z k) = (ix1 k : S1024.Idx) := by
  funext a
  match a with
  | ⟨0, _⟩ => rfl

theorem idx_main_v15_eq (r : Fin 65536) (k : Fin 1024) : idx_main_v15 (ix2 r k) = (ix2 0 k : S1x1024.Idx) := by
  funext a
  match a with
  | ⟨0, _⟩ => rfl
  | ⟨1, _⟩ => rfl

theorem lidx_main_v18_eq (r : Fin 65536) (f : Fin 5632) (k : Fin 1024) : lidx_main_v18 (ix2 r f) k = (ix2 r k : S65536x1024.Idx) := by
  funext a
  match a with
  | ⟨0, _⟩ => rfl
  | ⟨1, _⟩ => rfl

theorem ridx_main_v18_eq (r : Fin 65536) (f : Fin 5632) (k : Fin 1024) : ridx_main_v18 (ix2 r f) k = (ix2 k f : S1024x5632.Idx) := by
  funext a
  match a with
  | ⟨0, _⟩ => rfl
  | ⟨1, _⟩ => rfl

theorem idx_main_v19_eq (r : Fin 65536) (f : Fin 2816) : idx_main_v19 (ix2 r f) = (ix2 r (⟨f.val, by omega⟩ : Fin 5632) : S65536x5632.Idx) := by
  funext a
  match a with
  | ⟨0, _⟩ => apply Fin.ext; first | rfl | (show 0 + r.val = r.val; omega)
  | ⟨1, _⟩ => apply Fin.ext; first | rfl | (show 0 + f.val = f.val; omega)

theorem idx_main_v20_eq (r : Fin 65536) (f : Fin 2816) : idx_main_v20 (ix2 r f) = (ix2 r (⟨2816 + f.val, by omega⟩ : Fin 5632) : S65536x5632.Idx) := by
  funext a
  match a with
  | ⟨0, _⟩ => apply Fin.ext; first | rfl | (show 0 + r.val = r.val; omega)
  | ⟨1, _⟩ => apply Fin.ext; first | rfl | (show f.val + 2816 = 2816 + f.val; omega)

theorem lidx_main_v24_eq (r : Fin 65536) (d : Fin 1024) (f : Fin 2816) : lidx_main_v24 (ix2 r d) f = (ix2 r f : S65536x2816.Idx) := by
  funext a
  match a with
  | ⟨0, _⟩ => rfl
  | ⟨1, _⟩ => rfl

theorem ridx_main_v24_eq (r : Fin 65536) (d : Fin 1024) (f : Fin 2816) : ridx_main_v24 (ix2 r d) f = (ix2 f d : S2816x1024.Idx) := by
  funext a
  match a with
  | ⟨0, _⟩ => rfl
  | ⟨1, _⟩ => rfl

theorem lidx_main_v2_eq (r : Fin 65536) (d : Fin 1024) (k : Fin 1024) : lidx_main_v2 (ix2 r d) k = (ix2 r k : S65536x1024.Idx) := by
  funext a
  match a with
  | ⟨0, _⟩ => rfl
  | ⟨1, _⟩ => rfl

theorem ridx_main_v2_eq (r : Fin 65536) (d : Fin 1024) (k : Fin 1024) : ridx_main_v2 (ix2 r d) k = (ix2 k d : S1024x1024.Idx) := by
  funext a
  match a with
  | ⟨0, _⟩ => rfl
  | ⟨1, _⟩ => rfl

theorem idx_main_v29_eq (r : Fin 65536) (k : Fin 1024) : idx_main_v29 (ix1 r) k = (ix2 r k : S65536x1024.Idx) := by
  funext a
  match a with
  | ⟨0, _⟩ => rfl
  | ⟨1, _⟩ => rfl

theorem idx_main_v30_eq (r : Fin 65536) (z : Fin 1) : idx_main_v30 (ix2 r z) = (ix1 r : S65536.Idx) := by
  funext a
  match a with
  | ⟨0, _⟩ => rfl

theorem idx_main_v36_eq (r : Fin 65536) (k : Fin 1024) : idx_main_v36 (ix2 r k) = (ix2 r 0 : S65536x1.Idx) := by
  funext a
  match a with
  | ⟨0, _⟩ => rfl
  | ⟨1, _⟩ => rfl

theorem idx_main_v38_eq (z : Fin 1) (k : Fin 1024) : idx_main_v38 (ix2 z k) = (ix1 k : S1024.Idx) := by
  funext a
  match a with
  | ⟨0, _⟩ => rfl

theorem idx_main_v39_eq (r : Fin 65536) (k : Fin 1024) : idx_main_v39 (ix2 r k) = (ix2 0 k : S1x1024.Idx) := by
  funext a
  match a with
  | ⟨0, _⟩ => rfl
  | ⟨1, _⟩ => rfl

/-! ## The stages -/

theorem zero_lit : Ideal.ofBits .f32 0x00000000#32 = 0 := by
  simp [Ideal.ofBits, Ideal.ieee]

theorem mixed_at (x0 : (⟨S65536x1024, .f32⟩ : BufTy).Contents (Elt Ideal)) (x4 : (⟨S65536x1024, .bf16⟩ : BufTy).Contents (Elt Ideal)) (x5 : (⟨S1024x1024, .bf16⟩ : BufTy).Contents (Elt Ideal)) (r : Fin 65536) (d : Fin 1024) :
    val_main_v3 (F := Ideal) x0 x4 x5 (ix2 r d) = Swiglu.mix (fun k => x0 (ix2 r k)) (fun k => x4 (ix2 r k)) (fun k d => x5 (ix2 k d)) d := by
  simp only [val_main_v3_apply, val_main_v2_apply, val_main_v1_apply, val_main_v0_apply, lidx_main_v2_eq, ridx_main_v2_eq]
  rfl

theorem hid_at (x0 : (⟨S65536x1024, .f32⟩ : BufTy).Contents (Elt Ideal)) (x1 : (⟨S1024, .f32⟩ : BufTy).Contents (Elt Ideal)) (x4 : (⟨S65536x1024, .bf16⟩ : BufTy).Contents (Elt Ideal)) (x5 : (⟨S1024x1024, .bf16⟩ : BufTy).Contents (Elt Ideal)) (r : Fin 65536) (k : Fin 1024) :
    val_main_v16 (F := Ideal) x0 x1 x4 x5 (ix2 r k) = Swiglu.norm (fun k => val_main_v3 (F := Ideal) x0 x4 x5 (ix2 r k)) (fun k => x1 (ix1 k)) k := by
  simp only [val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_cst_apply, val_main_cst_0_apply, val_main_cst_1_apply,
    idx_main_v5_eq, idx_main_v6_eq, idx_main_v12_eq, idx_main_v14_eq, idx_main_v15_eq]
  show _ * Ideal.rsqrt (Ideal.div (Ideal.ofBits .f32 0x00000000#32 + _) _ + _) * _ = _
  rw [zero_lit, zero_add]
  rfl

theorem up_at (x0 : (⟨S65536x1024, .f32⟩ : BufTy).Contents (Elt Ideal)) (x1 : (⟨S1024, .f32⟩ : BufTy).Contents (Elt Ideal)) (x2 : (⟨S1024x5632, .bf16⟩ : BufTy).Contents (Elt Ideal)) (x4 : (⟨S65536x1024, .bf16⟩ : BufTy).Contents (Elt Ideal)) (x5 : (⟨S1024x1024, .bf16⟩ : BufTy).Contents (Elt Ideal)) (r : Fin 65536) (f : Fin 5632) :
    val_main_v18 (F := Ideal) x0 x1 x2 x4 x5 (ix2 r f) = Swiglu.proj (Swiglu.norm (fun k => val_main_v3 (F := Ideal) x0 x4 x5 (ix2 r k)) (fun k => x1 (ix1 k))) (fun k f => x2 (ix2 k f)) f := by
  simp only [val_main_v18_apply, val_main_v17_apply, lidx_main_v18_eq, ridx_main_v18_eq, hid_at]
  rfl

theorem act_at (x0 : (⟨S65536x1024, .f32⟩ : BufTy).Contents (Elt Ideal)) (x1 : (⟨S1024, .f32⟩ : BufTy).Contents (Elt Ideal)) (x2 : (⟨S1024x5632, .bf16⟩ : BufTy).Contents (Elt Ideal)) (x4 : (⟨S65536x1024, .bf16⟩ : BufTy).Contents (Elt Ideal)) (x5 : (⟨S1024x1024, .bf16⟩ : BufTy).Contents (Elt Ideal)) (r : Fin 65536) (f : Fin 2816) :
    val_main_v22 (F := Ideal) x0 x1 x2 x4 x5 (ix2 r f)
      = Swiglu.act (val_main_v18 (F := Ideal) x0 x1 x2 x4 x5 (ix2 r (⟨2816 + f.val, by omega⟩ : Fin 5632))) (val_main_v18 (F := Ideal) x0 x1 x2 x4 x5 (ix2 r (⟨f.val, by omega⟩ : Fin 5632))) := by
  simp only [val_main_v22_apply, val_main_v21_apply, val_main_call0_v5_apply, val_main_call0_v4_apply, val_main_call0_v3_apply, val_main_call0_v2_apply,
    val_main_call0_v1_apply, val_main_call0_v0_apply, val_main_call0_cst_apply, val_main_call0_cst_0_apply, val_main_v20_apply, val_main_v19_apply,
    idx_main_v19_eq, idx_main_v20_eq]
  exact Swiglu.act_eq _ _

theorem step_at (x0 : (⟨S65536x1024, .f32⟩ : BufTy).Contents (Elt Ideal)) (x1 : (⟨S1024, .f32⟩ : BufTy).Contents (Elt Ideal)) (x2 : (⟨S1024x5632, .bf16⟩ : BufTy).Contents (Elt Ideal)) (x3 : (⟨S2816x1024, .bf16⟩ : BufTy).Contents (Elt Ideal)) (x4 : (⟨S65536x1024, .bf16⟩ : BufTy).Contents (Elt Ideal)) (x5 : (⟨S1024x1024, .bf16⟩ : BufTy).Contents (Elt Ideal)) (r : Fin 65536) (d : Fin 1024) :
    val_main_v27 (F := Ideal) x0 x1 x2 x3 x4 x5 (ix2 r d)
      = Swiglu.step (Swiglu.mix (fun k => x0 (ix2 r k)) (fun k => x4 (ix2 r k)) (fun k d => x5 (ix2 k d))) (fun k => x1 (ix1 k)) (fun k f => x2 (ix2 k f)) (fun f d => x3 (ix2 f d)) d := by
  simp only [val_main_v27_apply, val_main_v26_apply, val_main_v25_apply, val_main_v24_apply, val_main_v23_apply, val_main_cst_2_apply, lidx_main_v24_eq, ridx_main_v24_eq, act_at, up_at, mixed_at]
  rfl

theorem final_at (x0 : (⟨S65536x1024, .f32⟩ : BufTy).Contents (Elt Ideal)) (x1 : (⟨S1024, .f32⟩ : BufTy).Contents (Elt Ideal)) (x2 : (⟨S1024x5632, .bf16⟩ : BufTy).Contents (Elt Ideal)) (x3 : (⟨S2816x1024, .bf16⟩ : BufTy).Contents (Elt Ideal)) (x4 : (⟨S65536x1024, .bf16⟩ : BufTy).Contents (Elt Ideal)) (x5 : (⟨S1024x1024, .bf16⟩ : BufTy).Contents (Elt Ideal)) (x6 : (⟨S1024, .f32⟩ : BufTy).Contents (Elt Ideal)) (r : Fin 65536) (k : Fin 1024) :
    val_main_v40 (F := Ideal) x0 x1 x2 x3 x4 x5 x6 (ix2 r k) = Swiglu.norm (fun k => val_main_v27 (F := Ideal) x0 x1 x2 x3 x4 x5 (ix2 r k)) (fun k => x6 (ix1 k)) k := by
  simp only [val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_cst_3_apply, val_main_cst_4_apply, val_main_cst_5_apply,
    idx_main_v29_eq, idx_main_v30_eq, idx_main_v36_eq, idx_main_v38_eq, idx_main_v39_eq]
  show _ * Ideal.rsqrt (Ideal.div (Ideal.ofBits .f32 0x00000000#32 + _) _ + _) * _ = _
  rw [zero_lit, zero_add]
  rfl

theorem result_at (x0 : (⟨S65536x1024, .f32⟩ : BufTy).Contents (Elt Ideal)) (x1 : (⟨S1024, .f32⟩ : BufTy).Contents (Elt Ideal)) (x2 : (⟨S1024x5632, .bf16⟩ : BufTy).Contents (Elt Ideal)) (x3 : (⟨S2816x1024, .bf16⟩ : BufTy).Contents (Elt Ideal)) (x4 : (⟨S65536x1024, .bf16⟩ : BufTy).Contents (Elt Ideal)) (x5 : (⟨S1024x1024, .bf16⟩ : BufTy).Contents (Elt Ideal)) (x6 : (⟨S1024, .f32⟩ : BufTy).Contents (Elt Ideal)) (r : Fin 65536) (d : Fin 1024) :
    val_main_v40 (F := Ideal) x0 x1 x2 x3 x4 x5 x6 (ix2 r d)
      = Swiglu.norm (Swiglu.step (Swiglu.mix (fun k => x0 (ix2 r k)) (fun k => x4 (ix2 r k)) (fun k d => x5 (ix2 k d))) (fun k => x1 (ix1 k)) (fun k f => x2 (ix2 k f)) (fun f d => x3 (ix2 f d))) (fun k => x6 (ix1 k)) d := by
  rw [final_at]
  simp only [step_at]

end Cert.Reference4Ideal.At
end
end
-- ==== Proof.Proj.lean ====
module

public import proofs.«01_k».proof.Proof.Swiglu

@[expose] public section

/-! # The projections into a mixer, over the extended reals

The features of a normalised row, and the layout of the queries: the two heads of a slab of 128 features stand in two slabs,
each in its own half, with zeros in the other half. -/

noncomputable section

namespace Cert.Proj

open Idealize.ShloMosaic

/-- The factor of the queries, as it is written. -/
def scale : EReal := Ideal.ofBits .f32 0x3E38AA3B#32

/-- Feature `f` of the projection of row `r`. -/
def feat {n : ℕ} (x : Fin 65536 → Fin 1024 → EReal) (g : Fin 1024 → EReal) (w : Fin 1024 → Fin n → EReal) (r : Fin 65536) (f : Fin n) : EReal :=
  Swiglu.proj (Swiglu.norm (x r) g) w f

/-- The row of token `r` of tile `n` of batch row `b`. -/
def row (b : Fin 32) (n : Fin 8) (r : Fin 256) : Fin 65536 := ⟨(b.val * 8 + n.val) * 256 + r.val, by omega⟩

/-- The half of the slab that row `s` of the queries lies in is the half of its head. -/
abbrev Own (s : ℕ) : Prop := s / 64 % 2 = s / 128 % 2

/-- Row `s` of the queries in slabs, from the scaled features `q`. -/
def slab (q : Fin 1024 → EReal) (s : Fin 2048) : EReal :=
  if Own s.val then q ⟨s.val / 128 * 64 + s.val % 64, by omega⟩ else 0

/-- A head's own half: `64` rows from `b`, the features from `o`. -/
theorem slab_own (q : Fin 1024 → EReal) (o b j : ℕ) (h : o / 64 = b / 128 ∧ o % 64 = 0 ∧ b % 64 = 0 ∧ Own b) (hj : j < 64) (hb : b + j < 2048) (ho : o + j < 1024) :
    slab q ⟨b + j, hb⟩ = q ⟨o + j, ho⟩ := by
  obtain ⟨h1, h2, h3, h4⟩ := h
  unfold slab Own at *
  refine (if_pos (by show (b + j) / 64 % 2 = (b + j) / 128 % 2; omega)).trans ?_
  exact congrArg q (Fin.ext (by show (b + j) / 128 * 64 + (b + j) % 64 = o + j; omega))

/-- The other half. -/
theorem slab_other (q : Fin 1024 → EReal) (b j : ℕ) (h : b % 64 = 0 ∧ ¬ Own b) (hj : j < 64) (hb : b + j < 2048) :
    slab q ⟨b + j, hb⟩ = 0 := by
  obtain ⟨h3, h4⟩ := h
  unfold slab Own at *
  exact if_neg (by show ¬ (b + j) / 64 % 2 = (b + j) / 128 % 2; omega)

theorem zero_lit : Ideal.ofBits .bf16 0x0000#16 = 0 := by
  simp [Ideal.ofBits, Ideal.ieee]

theorem zero_lit32 : Ideal.ofBits .f32 0x00000000#32 = 0 := by
  simp [Ideal.ofBits, Ideal.ieee]

end Cert.Proj
end
end
-- ==== Proof.Body5.lean ====
module

public import proofs.«01_k».proof.Proof.Gen.Kernel5Ideal.Frame
public import Idealize.ShloMosaic.Lib.Pipeline.Value
public import proofs.«01_k».proof.Proof.Proj
public import Idealize.ShloMosaic.Lib.Pointwise

@[expose] public section

/-! # One point of the projections into the stick-breaking mixer

What a point stores, at an index of its blocks, from the blocks it loads. -/

set_option maxRecDepth 65536

noncomputable section

namespace Cert.Kernel5Ideal.Qkv

open Cert.Kernel5Ideal Cert.Kernel5Ideal.Gen
open Idealize.ShloMosaic
open Idealize.ShloMosaic.TcCoe Idealize.ShloMosaic.Tactic
open Idealize.SL Idealize.SL.Sem

theorem hid_apply (x : Vec Ideal S256x1024 .f32) (g : Vec Ideal S1x1024 .f32) (r : Fin 256) (k : Fin 1024) :
    k0_pay7 (F := Ideal) x g (ix2 r k) = Swiglu.norm (fun k => x (ix2 r k)) (fun k => g (ix2 0 k)) k := by
  pointwise [k0_pay7]
  rfl

theorem k_apply (h : FVec Ideal S256x1024 .bf16) (w : Vec Ideal S1024x1024 .bf16) (r : Fin 256) (f : Fin 1024) :
    k0_pay2 (F := Ideal) h w (ix2 r f) = Swiglu.proj (fun k => h (ix2 r k)) (fun k f => w (ix2 k f)) f := by
  pointwise [k0_pay2]
  rfl

/-- A projection with the tokens last, the weights transposed. -/
def tr (h : FVec Ideal S256x1024 .bf16) (w : Vec Ideal S1024x1024 .bf16) : FVec Ideal S1024x256 .f32 :=
  matmul (φ₁ := .bf16) (φ₂ := .bf16) dot_S1024x1024_S256x1024_S1024x256_1_1_0_0_n_n none
    (shapeCast S1024x1024 w shapeCasts_S1024x1024_S1024x1024) h (constant S1024x256 .f32 0x00000000#32)

theorem tr_apply (h : FVec Ideal S256x1024 .bf16) (w : Vec Ideal S1024x1024 .bf16) (f : Fin 1024) (r : Fin 256) :
    tr h w (ix2 f r) = Swiglu.proj (fun k => h (ix2 r k)) (fun k f => w (ix2 f k)) f := by
  have e : tr h w (ix2 f r) = ∑ k : Fin 1024, w (ix2 f k) * h (ix2 r k) := by
    pointwise [tr]
  exact e.trans (Finset.sum_congr rfl fun k _ => mul_comm _ _)

/-- The scaled queries, with the tokens last. -/
theorem q_apply (x : Vec Ideal S256x1024 .f32) (g : Vec Ideal S1x1024 .f32) (w : Vec Ideal S1024x1024 .bf16) (f : Fin 1024) (r : Fin 256) :
    k0_pay8 (F := Ideal) x g w (ix2 f r) = Swiglu.proj (fun k => k0_pay7 (F := Ideal) x g (ix2 r k)) (fun k f => w (ix2 f k)) f * Proj.scale :=
  congrArg (fun a : EReal => a * Proj.scale) (tr_apply (k0_pay7 x g) w f r)

theorem head_apply (y : FVec Ideal S256x1024 .f32) (r : Fin 256) (a : Fin 16) (d : Fin 64) :
    shapeCast S256x16x64 y shapeCasts_S256x1024_S256x16x64 (ix3 r a d) = y (ix2 r ⟨a.val * 64 + d.val, by omega⟩) := by
  refine shapeCast_apply _ _ _ _ ?_
  show (S256x1024.rowMajor (ix2 r _)).val = (S256x16x64.rowMajor (ix3 r a d)).val
  rw [Shape.rowMajor_val_two, Shape.rowMajor_val_three]
  show r.val * 1024 + (a.val * 64 + d.val) = (r.val * 16 + a.val) * 64 + d.val
  omega

variable (x0 : Vec Ideal S256x1024 .f32) (x1 : Vec Ideal S1x1024 .f32) (x2 x3 x4 x5 : Vec Ideal S1024x1024 .bf16)

/-- The features of row `r` of the block under the weights `w`. -/
def blk (w : Fin 1024 → Fin 1024 → EReal) (r : Fin 256) (f : Fin 1024) : EReal :=
  Swiglu.proj (Swiglu.norm (fun k => x0 (ix2 r k)) (fun k => x1 (ix2 0 k))) w f

theorem out7_apply (r : Fin 256) (a : Fin 16) (d : Fin 64) :
    out0_7 (F := Ideal) x0 x1 x2 x3 x4 x5 (ix3 r a d) = blk x0 x1 (fun k f => x3 (ix2 k f)) r ⟨a.val * 64 + d.val, by omega⟩ := by
  unfold out0_7
  rw [View.canon_unit_zero (by funext a; fin_cases a <;> rfl)]
  unfold k0_pay42
  rw [View.ld_unit_zero (S := S256x1024) (by funext a; fin_cases a <;> rfl), View.ld_unit_zero (S := S1x1024) (by funext a; fin_cases a <;> rfl),
    View.ld_unit_zero (S := S1024x1024) (by funext a; fin_cases a <;> rfl)]
  refine (head_apply (k0_pay2 (k0_pay7 x0 x1) x3) r a d).trans ((k_apply _ _ _ _).trans ?_)
  simp only [hid_apply]
  rfl

theorem out8_apply (r : Fin 256) (f : Fin 1024) :
    out0_8 (F := Ideal) x0 x1 x2 x3 x4 x5 (ix2 r f) = blk x0 x1 (fun k f => x3 (ix2 k f)) r f := by
  unfold out0_8
  rw [View.canon_unit_zero (by funext a; fin_cases a <;> rfl)]
  unfold k0_pay42
  rw [View.ld_unit_zero (S := S256x1024) (by funext a; fin_cases a <;> rfl), View.ld_unit_zero (S := S1x1024) (by funext a; fin_cases a <;> rfl),
    View.ld_unit_zero (S := S1024x1024) (by funext a; fin_cases a <;> rfl)]
  refine (k_apply (k0_pay7 x0 x1) x3 r f).trans ?_
  simp only [hid_apply]
  rfl

theorem out9_apply (r : Fin 256) (a : Fin 16) (d : Fin 64) :
    out0_9 (F := Ideal) x0 x1 x2 x3 x4 x5 (ix3 r a d) = blk x0 x1 (fun k f => x4 (ix2 k f)) r ⟨a.val * 64 + d.val, by omega⟩ := by
  unfold out0_9
  rw [View.canon_unit_zero (by funext a; fin_cases a <;> rfl)]
  unfold k0_pay42
  rw [View.ld_unit_zero (S := S256x1024) (by funext a; fin_cases a <;> rfl), View.ld_unit_zero (S := S1x1024) (by funext a; fin_cases a <;> rfl),
    View.ld_unit_zero (S := S1024x1024) (by funext a; fin_cases a <;> rfl)]
  refine (head_apply (k0_pay2 (k0_pay7 x0 x1) x4) r a d).trans ((k_apply _ _ _ _).trans ?_)
  simp only [hid_apply]
  rfl

theorem out10_apply (z z' : Fin 1) (f : Fin 1024) (r : Fin 256) :
    out0_10 (F := Ideal) x0 x1 x2 x3 x4 x5 (ix4 z z' f r) = blk x0 x1 (fun k f => x5 (ix2 f k)) r f := by
  unfold out0_10
  rw [View.canon_unit_zero (by funext a; fin_cases a <;> rfl)]
  unfold k0_pay42
  rw [View.ld_unit_zero (S := S256x1024) (by funext a; fin_cases a <;> rfl), View.ld_unit_zero (S := S1x1024) (by funext a; fin_cases a <;> rfl),
    View.ld_unit_zero (S := S1024x1024) (by funext a; fin_cases a <;> rfl)]
  refine (shapeCast_apply _ _ _ (ix2 f r : S1024x256.Idx) ?_).trans ((tr_apply (k0_pay7 x0 x1) x5 f r).trans ?_)
  · show (S1024x256.rowMajor (ix2 f r)).val = (S1x1x1024x256.rowMajor (ix4 z z' f r)).val
    rw [Shape.rowMajor_val_two, Shape.rowMajor_val_four]
    show f.val * 256 + r.val = ((z.val * 1 + z'.val) * 1024 + f.val) * 256 + r.val
    omega
  · simp only [hid_apply]
    rfl

/-- The block of the queries, from the scaled queries. -/
def G (q : FVec Ideal S1024x256 .bf16) : Vec Ideal S1x1x2048x256 .bf16 := fun y => Proj.slab (fun f => q (ix2 f (y 3))) (y 2)

theorem piece_own (q : FVec Ideal S1024x256 .bf16) (o b : ℕ) (h : o / 64 = b / 128 ∧ o % 64 = 0 ∧ b % 64 = 0 ∧ Proj.Own b)
    (hs : S1024x256.Slices ![o, 0] S64x256) (inb : ∀ a, (![0, 0, b, 0] : Fin 4 → ℕ) a + S1x1x64x256.size a ≤ S1x1x2048x256.size a) (x : S1x1x64x256.Idx) :
    shapeCast S1x1x64x256 (extractStridedSlice S64x256 ![o, 0] q hs) shapeCasts_S64x256_S1x1x64x256 x
      = G q ((Rect.unit (s := S1x1x2048x256) ![0, 0, b, 0] S1x1x64x256.size inb).emb x) := by
  have h0 : (x 0).val < 1 := (x 0).isLt
  have h1 : (x 1).val < 1 := (x 1).isLt
  have h2 : (x 2).val < 64 := (x 2).isLt
  have hb : b + 64 ≤ 2048 := inb 2
  have ho : o + 64 ≤ 1024 := by omega
  refine (shapeCast_apply _ _ x (ix2 (x 2) (x 3) : S64x256.Idx) ?_).trans ?_
  · show (S64x256.rowMajor (ix2 (x 2) (x 3))).val = (S1x1x64x256.rowMajor x).val
    rw [Shape.rowMajor_val_two, Shape.rowMajor_val_four]
    show (x 2).val * 256 + (x 3).val = (((x 0).val * 1 + (x 1).val) * 64 + (x 2).val) * 256 + (x 3).val
    omega
  refine (extractStridedSlice_apply ![o, 0] q hs _ (ix2 (⟨o + (x 2).val, by omega⟩ : Fin 1024) (x 3) : S1024x256.Idx) (fun a => match a with
    | ⟨0, _⟩ => rfl
    | ⟨1, _⟩ => by show (x 3).val = 0 + (x 3).val; omega)).trans ?_
  refine (Proj.slab_own (fun f => q (ix2 f (x 3))) o b (x 2).val h h2 (by omega) (by omega)).symm.trans ?_
  unfold G
  refine congrArg₂ (fun (c : Fin 256) (s : Fin 2048) => Proj.slab (fun f => q (ix2 f c)) s) (Fin.ext ?_) (Fin.ext ?_)
  · show (x 3).val = 0 + 1 * (x 3).val; omega
  · show b + (x 2).val = b + 1 * (x 2).val; omega

theorem piece_other (q : FVec Ideal S1024x256 .bf16) (b : ℕ) (h : b % 64 = 0 ∧ ¬ Proj.Own b)
    (inb : ∀ a, (![0, 0, b, 0] : Fin 4 → ℕ) a + S1x1x64x256.size a ≤ S1x1x2048x256.size a) (x : S1x1x64x256.Idx) :
    shapeCast S1x1x64x256 (k0_pay9 (F := Ideal)) shapeCasts_S64x256_S1x1x64x256 x
      = G q ((Rect.unit (s := S1x1x2048x256) ![0, 0, b, 0] S1x1x64x256.size inb).emb x) := by
  have h2 : (x 2).val < 64 := (x 2).isLt
  have hb : b + 64 ≤ 2048 := inb 2
  refine Eq.trans (b := (0 : EReal)) Proj.zero_lit ?_
  refine (Proj.slab_other (fun f => q (ix2 f (x 3))) b (x 2).val h h2 (by omega)).symm.trans ?_
  unfold G
  refine congrArg₂ (fun (c : Fin 256) (s : Fin 2048) => Proj.slab (fun f => q (ix2 f c)) s) (Fin.ext ?_) (Fin.ext ?_)
  · show (x 3).val = 0 + 1 * (x 3).val; omega
  · show b + (x 2).val = b + 1 * (x 2).val; omega

theorem out6_eq (y : S1x1x2048x256.Idx) : out0_6 (F := Ideal) x0 x1 x2 x3 x4 x5 y = G (k0_pay8 x0 x1 x2) y := by
  unfold out0_6 k0_pay44 k0_pay43
  rw [View.ld_unit_zero (S := S256x1024) (by funext a; fin_cases a <;> rfl), View.ld_unit_zero (S := S1x1024) (by funext a; fin_cases a <;> rfl),
    View.ld_unit_zero (S := S1024x1024) (by funext a; fin_cases a <;> rfl)]
  refine View.canon_apply_of_pieces (G (k0_pay8 x0 x1 x2)) _ ?_ y (cover0_6 _ _ _ _ _ _ _ _ _ _ _ _ _ _ _ _ _ _ _ _ _ _ _ _ _ _ _ _ _ _ _ _ y)
  simp only [List.forall_mem_cons]
  refine ⟨piece_other (k0_pay8 x0 x1 x2) 1920 (by decide) _,
    piece_own (k0_pay8 x0 x1 x2) 960 1984 (by decide) (by decide) _,
    piece_other (k0_pay8 x0 x1 x2) 1856 (by decide) _,
    piece_own (k0_pay8 x0 x1 x2) 896 1792 (by decide) (by decide) _,
    piece_other (k0_pay8 x0 x1 x2) 1664 (by decide) _,
    piece_own (k0_pay8 x0 x1 x2) 832 1728 (by decide) (by decide) _,
    piece_other (k0_pay8 x0 x1 x2) 1600 (by decide) _,
    piece_own (k0_pay8 x0 x1 x2) 768 1536 (by decide) (by decide) _,
    piece_other (k0_pay8 x0 x1 x2) 1408 (by decide) _,
    piece_own (k0_pay8 x0 x1 x2) 704 1472 (by decide) (by decide) _,
    piece_other (k0_pay8 x0 x1 x2) 1344 (by decide) _,
    piece_own (k0_pay8 x0 x1 x2) 640 1280 (by decide) (by decide) _,
    piece_other (k0_pay8 x0 x1 x2) 1152 (by decide) _,
    piece_own (k0_pay8 x0 x1 x2) 576 1216 (by decide) (by decide) _,
    piece_other (k0_pay8 x0 x1 x2) 1088 (by decide) _,
    piece_own (k0_pay8 x0 x1 x2) 512 1024 (by decide) (by decide) _,
    piece_other (k0_pay8 x0 x1 x2) 896 (by decide) _,
    piece_own (k0_pay8 x0 x1 x2) 448 960 (by decide) (by decide) _,
    piece_other (k0_pay8 x0 x1 x2) 832 (by decide) _,
    piece_own (k0_pay8 x0 x1 x2) 384 768 (by decide) (by decide) _,
    piece_other (k0_pay8 x0 x1 x2) 640 (by decide) _,
    piece_own (k0_pay8 x0 x1 x2) 320 704 (by decide) (by decide) _,
    piece_other (k0_pay8 x0 x1 x2) 576 (by decide) _,
    piece_own (k0_pay8 x0 x1 x2) 256 512 (by decide) (by decide) _,
    piece_other (k0_pay8 x0 x1 x2) 384 (by decide) _,
    piece_own (k0_pay8 x0 x1 x2) 192 448 (by decide) (by decide) _,
    piece_other (k0_pay8 x0 x1 x2) 320 (by decide) _,
    piece_own (k0_pay8 x0 x1 x2) 128 256 (by decide) (by decide) _,
    piece_other (k0_pay8 x0 x1 x2) 128 (by decide) _,
    piece_own (k0_pay8 x0 x1 x2) 64 192 (by decide) (by decide) _,
    piece_other (k0_pay8 x0 x1 x2) 64 (by decide) _,
    piece_own (k0_pay8 x0 x1 x2) 0 0 (by decide) (by decide) _, fun _ h => nomatch h⟩

theorem out6_apply (z z' : Fin 1) (s : Fin 2048) (r : Fin 256) :
    out0_6 (F := Ideal) x0 x1 x2 x3 x4 x5 (ix4 z z' s r)
      = Proj.slab (fun f => blk x0 x1 (fun k f => x2 (ix2 f k)) r f * Proj.scale) s := by
  refine (out6_eq x0 x1 x2 x3 x4 x5 _).trans ?_
  show Proj.slab (fun f => k0_pay8 x0 x1 x2 (ix2 f r)) s = _
  simp only [q_apply, hid_apply]
  rfl

end Cert.Kernel5Ideal.Qkv
end
end
-- ==== Proof.Array5.lean ====
module

public import proofs.«01_k».proof.Proof.Body5
public import Idealize.ShloMosaic.Lib.Pipeline.ValueKit

@[expose] public section

/-! # The result arrays of the projections into the stick-breaking mixer -/

set_option maxRecDepth 65536
set_option Elab.async false

noncomputable section

namespace Cert.Kernel5Ideal.Qkv

open Cert.Kernel5Ideal Cert.Kernel5Ideal.Gen
open Idealize.ShloMosaic
open Idealize.ShloMosaic.TcCoe Idealize.ShloMosaic.Tactic
open Idealize.SL Idealize.SL.Sem

/-- Where the blocks of a point lie. -/
abbrev At (t : Fin cfg0.N) : Prop :=
  (cfg0.win (0 : Fin 11)).index t = ![t.val, 0]
  ∧ (cfg0.win (1 : Fin 11)).index t = ![0, 0]
  ∧ (cfg0.win (2 : Fin 11)).index t = ![0, 0]
  ∧ (cfg0.win (3 : Fin 11)).index t = ![0, 0]
  ∧ (cfg0.win (4 : Fin 11)).index t = ![0, 0]
  ∧ (cfg0.win (5 : Fin 11)).index t = ![0, 0]
  ∧ (cfg0.win (6 : Fin 11)).index t = ![t.val / 8, t.val % 8, 0, 0]
  ∧ (cfg0.win (7 : Fin 11)).index t = ![t.val, 0, 0]
  ∧ (cfg0.win (8 : Fin 11)).index t = ![t.val, 0]
  ∧ (cfg0.win (9 : Fin 11)).index t = ![t.val, 0, 0]
  ∧ (cfg0.win (10 : Fin 11)).index t = ![t.val / 8, t.val % 8, 0, 0]

theorem at_ : ∀ t : Fin cfg0.N, At t := by decide +kernel

theorem covers6 : (cfg0.win (6 : Fin 11)).Covers := by decide +kernel
theorem covers7 : (cfg0.win (7 : Fin 11)).Covers := by decide +kernel
theorem covers8 : (cfg0.win (8 : Fin 11)).Covers := by decide +kernel
theorem covers9 : (cfg0.win (9 : Fin 11)).Covers := by decide +kernel
theorem covers10 : (cfg0.win (10 : Fin 11)).Covers := by decide +kernel

theorem lt256 (t : Fin cfg0.N) : t.val < 256 := Nat.lt_of_lt_of_eq t.isLt (by decide +kernel)

/-- The row of the array at row `r` of the block of point `t`. -/
def row (t : Fin cfg0.N) (r : Fin 256) : Fin 65536 := ⟨256 * t.val + r.val, by have := lt256 t; omega⟩

variable (m : (ℓ : Loc nD τ sig) → Buf (Elt Ideal) ℓ) (c : Dev nD)

/-- The weights, as launched. -/
abbrev W : FVec Ideal S1024x3072 .f32 := m ((c : Thread nD τ).loc main_arg2)

/-- The part of the weights from column `o`, at an index. -/
theorem part_apply (o : ℕ) (hs : S1024x3072.Slices ![0, o] S1024x1024) (w : FVec Ideal S1024x3072 .f32) (k f : Fin 1024) (ho : o + 1024 ≤ 3072) :
    extractStridedSlice S1024x1024 ![0, o] (truncf .bf16 w bitsLt_bf16_f32) hs (ix2 k f) = w (ix2 k (⟨o + f.val, by omega⟩ : Fin 3072)) :=
  extractStridedSlice_apply ![0, o] _ hs _ (ix2 k (⟨o + f.val, by omega⟩ : Fin 3072) : S1024x3072.Idx) (fun a => match a with
    | ⟨0, _⟩ => by show k.val = 0 + k.val; omega
    | ⟨1, _⟩ => rfl)

theorem swap_apply (y : FVec Ideal S1024x1024 .bf16) (f k : Fin 1024) :
    transpose S1024x1024 [1, 0] y transposes_S1024x1024_S1024x1024_1_0 (ix2 f k) = y (ix2 k f) :=
  transpose_apply [1, 0] y _ _ (ix2 k f : S1024x1024.Idx) (fun b => match b with
    | ⟨0, _⟩ => rfl
    | ⟨1, _⟩ => rfl)

theorem host_g (k : Fin 1024) : V m c main_v7 (ix2 0 k : S1x1024.Idx) = m ((c : Thread nD τ).loc main_arg1) (ix1 k : S1024.Idx) := by
  show StableHlo.after hostOps0 (fun b => m (c, b)) (Proc.devRef .tc main_v7) _ = _
  after_results
  refine shapeCast_apply _ _ _ _ ?_
  show (S1024.rowMajor (ix1 k)).val = (S1x1024.rowMajor (ix2 0 k)).val
  rw [Shape.rowMajor_val_two, Shape.rowMajor_val_one]
  show k.val = 0 * 1024 + k.val
  omega

theorem host_wq (f k : Fin 1024) : V m c main_v2 (ix2 f k : S1024x1024.Idx) = W m c (ix2 k (⟨0 + f.val, by omega⟩ : Fin 3072)) := by
  show StableHlo.after hostOps0 (fun b => m (c, b)) (Proc.devRef .tc main_v2) _ = _
  after_results
  exact (swap_apply _ f k).trans (part_apply 0 _ _ k f (by omega))

theorem host_wk (k f : Fin 1024) : V m c main_v3 (ix2 k f : S1024x1024.Idx) = W m c (ix2 k (⟨1024 + f.val, by omega⟩ : Fin 3072)) := by
  show StableHlo.after hostOps0 (fun b => m (c, b)) (Proc.devRef .tc main_v3) _ = _
  after_results
  exact part_apply 1024 _ _ k f (by omega)

theorem host_wv (k f : Fin 1024) : V m c main_v4 (ix2 k f : S1024x1024.Idx) = W m c (ix2 k (⟨2048 + f.val, by omega⟩ : Fin 3072)) := by
  show StableHlo.after hostOps0 (fun b => m (c, b)) (Proc.devRef .tc main_v4) _ = _
  after_results
  exact part_apply 2048 _ _ k f (by omega)

theorem host_wvt (f k : Fin 1024) : V m c main_v6 (ix2 f k : S1024x1024.Idx) = W m c (ix2 k (⟨2048 + f.val, by omega⟩ : Fin 3072)) := by
  show StableHlo.after hostOps0 (fun b => m (c, b)) (Proc.devRef .tc main_v6) _ = _
  after_results
  exact (swap_apply _ f k).trans (part_apply 2048 _ _ k f (by omega))

theorem iblk_x (t : Fin cfg0.N) (r : Fin 256) (k : Fin 1024) :
    iblk m c (0 : Fin 11) t (ix2 r k : S256x1024.Idx) = m ((c : Thread nD τ).loc main_arg0) (ix2 (row t r) k : S65536x1024.Idx) := by
  have hi := (at_ t).1
  refine Eq.trans ?_ (congrFun (V_main_arg0 m c) _)
  unfold iblk
  rw [View.read_apply]
  show V m c main_arg0 _ = V m c main_arg0 _
  congr 1
  funext a; apply Fin.ext
  match a with
  | ⟨0, _⟩ => show (cfg0.win (0 : Fin 11)).index t 0 * 256 + 1 * r.val = 256 * t.val + r.val; rw [hi]; show t.val * 256 + 1 * r.val = _; omega
  | ⟨1, _⟩ => show (cfg0.win (0 : Fin 11)).index t 1 * 1024 + 1 * k.val = k.val; rw [hi]; show 0 * 1024 + 1 * k.val = _; omega

theorem iblk_g (t : Fin cfg0.N) (k : Fin 1024) :
    iblk m c (1 : Fin 11) t (ix2 0 k : S1x1024.Idx) = m ((c : Thread nD τ).loc main_arg1) (ix1 k : S1024.Idx) := by
  have hi := (at_ t).2.1
  refine Eq.trans ?_ (host_g m c k)
  unfold iblk
  rw [View.read_apply]
  show V m c main_v7 _ = V m c main_v7 _
  congr 1
  funext a; apply Fin.ext
  match a with
  | ⟨0, _⟩ => show (cfg0.win (1 : Fin 11)).index t 0 * 1 + 1 * 0 = 0; rw [hi]; rfl
  | ⟨1, _⟩ => show (cfg0.win (1 : Fin 11)).index t 1 * 1024 + 1 * k.val = k.val; rw [hi]; show 0 * 1024 + 1 * k.val = _; omega

theorem iblk_wq (t : Fin cfg0.N) (a b : Fin 1024) : iblk m c (2 : Fin 11) t (ix2 a b : S1024x1024.Idx) = V m c main_v2 (ix2 a b : S1024x1024.Idx) := by
  have hi := (at_ t).2.2.1
  unfold iblk
  rw [View.read_apply]
  show V m c main_v2 _ = V m c main_v2 _
  congr 1
  funext d; apply Fin.ext
  match d with
  | ⟨0, _⟩ => show (cfg0.win (2 : Fin 11)).index t 0 * 1024 + 1 * a.val = a.val; rw [hi]; show 0 * 1024 + 1 * a.val = _; omega
  | ⟨1, _⟩ => show (cfg0.win (2 : Fin 11)).index t 1 * 1024 + 1 * b.val = b.val; rw [hi]; show 0 * 1024 + 1 * b.val = _; omega

theorem iblk_wk (t : Fin cfg0.N) (a b : Fin 1024) : iblk m c (3 : Fin 11) t (ix2 a b : S1024x1024.Idx) = V m c main_v3 (ix2 a b : S1024x1024.Idx) := by
  have hi := (at_ t).2.2.2.1
  unfold iblk
  rw [View.read_apply]
  show V m c main_v3 _ = V m c main_v3 _
  congr 1
  funext d; apply Fin.ext
  match d with
  | ⟨0, _⟩ => show (cfg0.win (3 : Fin 11)).index t 0 * 1024 + 1 * a.val = a.val; rw [hi]; show 0 * 1024 + 1 * a.val = _; omega
  | ⟨1, _⟩ => show (cfg0.win (3 : Fin 11)).index t 1 * 1024 + 1 * b.val = b.val; rw [hi]; show 0 * 1024 + 1 * b.val = _; omega

theorem iblk_wv (t : Fin cfg0.N) (a b : Fin 1024) : iblk m c (4 : Fin 11) t (ix2 a b : S1024x1024.Idx) = V m c main_v4 (ix2 a b : S1024x1024.Idx) := by
  have hi := (at_ t).2.2.2.2.1
  unfold iblk
  rw [View.read_apply]
  show V m c main_v4 _ = V m c main_v4 _
  congr 1
  funext d; apply Fin.ext
  match d with
  | ⟨0, _⟩ => show (cfg0.win (4 : Fin 11)).index t 0 * 1024 + 1 * a.val = a.val; rw [hi]; show 0 * 1024 + 1 * a.val = _; omega
  | ⟨1, _⟩ => show (cfg0.win (4 : Fin 11)).index t 1 * 1024 + 1 * b.val = b.val; rw [hi]; show 0 * 1024 + 1 * b.val = _; omega

theorem iblk_wvt (t : Fin cfg0.N) (a b : Fin 1024) : iblk m c (5 : Fin 11) t (ix2 a b : S1024x1024.Idx) = V m c main_v6 (ix2 a b : S1024x1024.Idx) := by
  have hi := (at_ t).2.2.2.2.2.1
  unfold iblk
  rw [View.read_apply]
  show V m c main_v6 _ = V m c main_v6 _
  congr 1
  funext d; apply Fin.ext
  match d with
  | ⟨0, _⟩ => show (cfg0.win (5 : Fin 11)).index t 0 * 1024 + 1 * a.val = a.val; rw [hi]; show 0 * 1024 + 1 * a.val = _; omega
  | ⟨1, _⟩ => show (cfg0.win (5 : Fin 11)).index t 1 * 1024 + 1 * b.val = b.val; rw [hi]; show 0 * 1024 + 1 * b.val = _; omega

/-- Feature `f` of the part from column `o` of the projection of row `r`. -/
def featK (o : ℕ) (ho : o + 1024 ≤ 3072) (r : Fin 65536) (f : Fin 1024) : EReal :=
  Proj.feat (fun r k => m ((c : Thread nD τ).loc main_arg0) (ix2 r k : S65536x1024.Idx)) (fun k => m ((c : Thread nD τ).loc main_arg1) (ix1 k : S1024.Idx))
    (fun k f => W m c (ix2 k f)) r (⟨o + f.val, by omega⟩ : Fin 3072)

/-- The features of a row of the block, under weights that are the part from column `o`. -/
theorem blk_eq (o : ℕ) (ho : o + 1024 ≤ 3072) (w : Fin 1024 → Fin 1024 → EReal) (hw : ∀ k f, w k f = W m c (ix2 k (⟨o + f.val, by omega⟩ : Fin 3072)))
    (t : Fin cfg0.N) (r : Fin 256) (f : Fin 1024) :
    blk (iblk m c 0 t) (iblk m c 1 t) w r f = featK m c o ho (row t r) f := by
  unfold blk featK Proj.feat
  simp only [iblk_x, iblk_g]
  exact Finset.sum_congr rfl fun k _ => congrArg (fun a : EReal => _ * a) (hw k f)

theorem row_eq (t : Fin cfg0.N) (r : Fin 256) (b : Fin 32) (n : Fin 8) (hb : b.val = t.val / 8) (hn : n.val = t.val % 8) : row t r = Proj.row b n r :=
  Fin.ext (by show 256 * t.val + r.val = (b.val * 8 + n.val) * 256 + r.val; omega)

/-- What the call leaves in its five results. -/
def keysK (i : S65536x16x64.Idx) : EReal := featK m c 1024 (by omega) (i 0) ⟨(i 1).val * 64 + (i 2).val, by have h1 : (i 1).val < 16 := (i 1).isLt; have h2 : (i 2).val < 64 := (i 2).isLt; omega⟩
def rowsK (i : S65536x1024.Idx) : EReal := featK m c 1024 (by omega) (i 0) (i 1)
def valsK (i : S65536x16x64.Idx) : EReal := featK m c 2048 (by omega) (i 0) ⟨(i 1).val * 64 + (i 2).val, by have h1 : (i 1).val < 16 := (i 1).isLt; have h2 : (i 2).val < 64 := (i 2).isLt; omega⟩
def queriesK (i : S32x8x2048x256.Idx) : EReal := Proj.slab (fun f => featK m c 0 (by omega) (Proj.row (i 0) (i 1) (i 3)) f * Proj.scale) (i 2)
def tilesK (i : S32x8x1024x256.Idx) : EReal := featK m c 2048 (by omega) (Proj.row (i 0) (i 1) (i 3)) (i 2)

theorem final6 : (dats m 0 c).arrAt (6 : Fin 11) cfg0.N = queriesK m c := by
  refine (dats m 0 c).arrAt_eq_of_covers (6 : Fin 11) _ covers6 fun t hft y => ?_
  have hi := (at_ t).2.2.2.2.2.2.1
  have hlt := lt256 t
  obtain ⟨z, z', s, r, hy⟩ : ∃ (z z' : Fin 1) (s : Fin 2048) (r : Fin 256), (y : S1x1x2048x256.Idx) = ix4 z z' s r := ⟨y 0, y 1, y 2, y 3, eq_ix4 (y : S1x1x2048x256.Idx)⟩
  have he : ((cfg0.win (6 : Fin 11)).blk t).view.emb y = ix4 (⟨t.val / 8, by omega⟩ : Fin 32) (⟨t.val % 8, by omega⟩ : Fin 8) s r := by
    subst hy
    funext e; apply Fin.ext
    match e with
    | ⟨0, _⟩ => show (cfg0.win (6 : Fin 11)).index t 0 * 1 + 1 * z.val = t.val / 8; rw [hi]; show t.val / 8 * 1 + 1 * z.val = _; omega
    | ⟨1, _⟩ => show (cfg0.win (6 : Fin 11)).index t 1 * 1 + 1 * z'.val = t.val % 8; rw [hi]; show t.val % 8 * 1 + 1 * z'.val = _; omega
    | ⟨2, _⟩ => show (cfg0.win (6 : Fin 11)).index t 2 * 2048 + 1 * s.val = s.val; rw [hi]; show 0 * 2048 + 1 * s.val = _; omega
    | ⟨3, _⟩ => show (cfg0.win (6 : Fin 11)).index t 3 * 256 + 1 * r.val = r.val; rw [hi]; show 0 * 256 + 1 * r.val = _; omega
  rw [he]
  refine (congrFun (after0_6 m c t) y).trans ?_
  have hy' : y = (ix4 z z' s r : S1x1x2048x256.Idx) := hy
  rw [hy']
  refine (out6_apply _ _ _ _ _ _ z z' s r).trans ?_
  have hr := row_eq t r ⟨t.val / 8, by omega⟩ ⟨t.val % 8, by omega⟩ rfl rfl
  show _ = Proj.slab (fun f => featK m c 0 (by omega) (Proj.row ⟨t.val / 8, by omega⟩ ⟨t.val % 8, by omega⟩ r) f * Proj.scale) s
  rw [← hr]
  refine congrArg (fun q => Proj.slab q s) (funext fun f => congrArg (fun a : EReal => a * Proj.scale) ?_)
  exact blk_eq m c 0 (by omega) _ (fun k f => (iblk_wq m c t f k).trans (host_wq m c f k)) t r f

theorem final7 : (dats m 0 c).arrAt (7 : Fin 11) cfg0.N = keysK m c := by
  refine (dats m 0 c).arrAt_eq_of_covers (7 : Fin 11) _ covers7 fun t hft y => ?_
  have hi := (at_ t).2.2.2.2.2.2.2.1
  obtain ⟨r, a, d, hy⟩ : ∃ (r : Fin 256) (a : Fin 16) (d : Fin 64), (y : S256x16x64.Idx) = ix3 r a d := ⟨y 0, y 1, y 2, eq_ix3 (y : S256x16x64.Idx)⟩
  have he : ((cfg0.win (7 : Fin 11)).blk t).view.emb y = ix3 (row t r) a d := by
    subst hy
    funext e; apply Fin.ext
    match e with
    | ⟨0, _⟩ => show (cfg0.win (7 : Fin 11)).index t 0 * 256 + 1 * r.val = 256 * t.val + r.val; rw [hi]; show t.val * 256 + 1 * r.val = _; omega
    | ⟨1, _⟩ => show (cfg0.win (7 : Fin 11)).index t 1 * 16 + 1 * a.val = a.val; rw [hi]; show 0 * 16 + 1 * a.val = _; omega
    | ⟨2, _⟩ => show (cfg0.win (7 : Fin 11)).index t 2 * 64 + 1 * d.val = d.val; rw [hi]; show 0 * 64 + 1 * d.val = _; omega
  rw [he]
  refine (congrFun (after0_7 m c t) y).trans ?_
  have hy' : y = (ix3 r a d : S256x16x64.Idx) := hy
  rw [hy']
  refine (out7_apply _ _ _ _ _ _ r a d).trans ?_
  exact blk_eq m c 1024 (by omega) _ (fun k f => (iblk_wk m c t k f).trans (host_wk m c k f)) t r _

theorem final8 : (dats m 0 c).arrAt (8 : Fin 11) cfg0.N = rowsK m c := by
  refine (dats m 0 c).arrAt_eq_of_covers (8 : Fin 11) _ covers8 fun t hft y => ?_
  have hi := (at_ t).2.2.2.2.2.2.2.2.1
  obtain ⟨r, f, hy⟩ : ∃ (r : Fin 256) (f : Fin 1024), (y : S256x1024.Idx) = ix2 r f := ⟨y 0, y 1, eq_ix2 (y : S256x1024.Idx)⟩
  have he : ((cfg0.win (8 : Fin 11)).blk t).view.emb y = ix2 (row t r) f := by
    subst hy
    funext e; apply Fin.ext
    match e with
    | ⟨0, _⟩ => show (cfg0.win (8 : Fin 11)).index t 0 * 256 + 1 * r.val = 256 * t.val + r.val; rw [hi]; show t.val * 256 + 1 * r.val = _; omega
    | ⟨1, _⟩ => show (cfg0.win (8 : Fin 11)).index t 1 * 1024 + 1 * f.val = f.val; rw [hi]; show 0 * 1024 + 1 * f.val = _; omega
  rw [he]
  refine (congrFun (after0_8 m c t) y).trans ?_
  have hy' : y = (ix2 r f : S256x1024.Idx) := hy
  rw [hy']
  refine (out8_apply _ _ _ _ _ _ r f).trans ?_
  exact blk_eq m c 1024 (by omega) _ (fun k f => (iblk_wk m c t k f).trans (host_wk m c k f)) t r f

theorem final9 : (dats m 0 c).arrAt (9 : Fin 11) cfg0.N = valsK m c := by
  refine (dats m 0 c).arrAt_eq_of_covers (9 : Fin 11) _ covers9 fun t hft y => ?_
  have hi := (at_ t).2.2.2.2.2.2.2.2.2.1
  obtain ⟨r, a, d, hy⟩ : ∃ (r : Fin 256) (a : Fin 16) (d : Fin 64), (y : S256x16x64.Idx) = ix3 r a d := ⟨y 0, y 1, y 2, eq_ix3 (y : S256x16x64.Idx)⟩
  have he : ((cfg0.win (9 : Fin 11)).blk t).view.emb y = ix3 (row t r) a d := by
    subst hy
    funext e; apply Fin.ext
    match e with
    | ⟨0, _⟩ => show (cfg0.win (9 : Fin 11)).index t 0 * 256 + 1 * r.val = 256 * t.val + r.val; rw [hi]; show t.val * 256 + 1 * r.val = _; omega
    | ⟨1, _⟩ => show (cfg0.win (9 : Fin 11)).index t 1 * 16 + 1 * a.val = a.val; rw [hi]; show 0 * 16 + 1 * a.val = _; omega
    | ⟨2, _⟩ => show (cfg0.win (9 : Fin 11)).index t 2 * 64 + 1 * d.val = d.val; rw [hi]; show 0 * 64 + 1 * d.val = _; omega
  rw [he]
  refine (congrFun (after0_9 m c t) y).trans ?_
  have hy' : y = (ix3 r a d : S256x16x64.Idx) := hy
  rw [hy']
  refine (out9_apply _ _ _ _ _ _ r a d).trans ?_
  exact blk_eq m c 2048 (by omega) _ (fun k f => (iblk_wv m c t k f).trans (host_wv m c k f)) t r _

theorem final10 : (dats m 0 c).arrAt (10 : Fin 11) cfg0.N = tilesK m c := by
  refine (dats m 0 c).arrAt_eq_of_covers (10 : Fin 11) _ covers10 fun t hft y => ?_
  have hi := (at_ t).2.2.2.2.2.2.2.2.2.2
  have hlt := lt256 t
  obtain ⟨z, z', s, r, hy⟩ : ∃ (z z' : Fin 1) (s : Fin 1024) (r : Fin 256), (y : S1x1x1024x256.Idx) = ix4 z z' s r := ⟨y 0, y 1, y 2, y 3, eq_ix4 (y : S1x1x1024x256.Idx)⟩
  have he : ((cfg0.win (10 : Fin 11)).blk t).view.emb y = ix4 (⟨t.val / 8, by omega⟩ : Fin 32) (⟨t.val % 8, by omega⟩ : Fin 8) s r := by
    subst hy
    funext e; apply Fin.ext
    match e with
    | ⟨0, _⟩ => show (cfg0.win (10 : Fin 11)).index t 0 * 1 + 1 * z.val = t.val / 8; rw [hi]; show t.val / 8 * 1 + 1 * z.val = _; omega
    | ⟨1, _⟩ => show (cfg0.win (10 : Fin 11)).index t 1 * 1 + 1 * z'.val = t.val % 8; rw [hi]; show t.val % 8 * 1 + 1 * z'.val = _; omega
    | ⟨2, _⟩ => show (cfg0.win (10 : Fin 11)).index t 2 * 1024 + 1 * s.val = s.val; rw [hi]; show 0 * 1024 + 1 * s.val = _; omega
    | ⟨3, _⟩ => show (cfg0.win (10 : Fin 11)).index t 3 * 256 + 1 * r.val = r.val; rw [hi]; show 0 * 256 + 1 * r.val = _; omega
  rw [he]
  refine (congrFun (after0_10 m c t) y).trans ?_
  have hy' : y = (ix4 z z' s r : S1x1x1024x256.Idx) := hy
  rw [hy']
  refine (out10_apply _ _ _ _ _ _ z z' s r).trans ?_
  have hr := row_eq t r ⟨t.val / 8, by omega⟩ ⟨t.val % 8, by omega⟩ rfl rfl
  show _ = featK m c 2048 (by omega) (Proj.row ⟨t.val / 8, by omega⟩ ⟨t.val % 8, by omega⟩ r) s
  rw [← hr]
  exact blk_eq m c 2048 (by omega) _ (fun k f => (iblk_wvt m c t f k).trans (host_wvt m c f k)) t r s

/-- The run of the call: its results and its arguments. -/
theorem run (ρ : Dev nD → PrngReg) : θ_run defs (onTc (τ := τ) (main (F := Ideal))) ⟨m, fun _ => 0, ρ⟩ fun r => ∀ c : Dev nD,
    r.2.mem ((c : Thread nD τ).loc main_v8_0) = queriesK m c
    ∧ r.2.mem ((c : Thread nD τ).loc main_v8_1) = keysK m c
    ∧ r.2.mem ((c : Thread nD τ).loc main_v8_2) = rowsK m c
    ∧ r.2.mem ((c : Thread nD τ).loc main_v8_3) = valsK m c
    ∧ r.2.mem ((c : Thread nD τ).loc main_v8_4) = tilesK m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨((h c).1 6).trans (final6 m c), ((h c).1 7).trans (final7 m c), ((h c).1 8).trans (final8 m c),
      ((h c).1 9).trans (final9 m c), ((h c).1 10).trans (final10 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Kernel5Ideal.Qkv
end
end
-- ==== Proof.Fox.lean ====
module

public import proofs.«01_k».proof.Proof.Proj

@[expose] public section

/-! # The projections into the forgetting mixer, over the extended reals

The layout of the values, a one and fifteen zeros below the 64 values of each head, and the logarithm of the gate. -/

noncomputable section

namespace Cert.Fox

open Idealize.ShloMosaic

/-- The row of token `r` of tile `n` of batch row `b`. -/
def row (b : Fin 32) (n : Fin 4) (r : Fin 512) : Fin 65536 := ⟨(b.val * 4 + n.val) * 512 + r.val, by omega⟩

/-- What stands below a head's values, at row `j` below them. -/
def extra (j : ℕ) : EReal := if j = 0 then 1 else 0

/-- Row `s` of the values in the layout, from the features `v`. -/
def aug (v : Fin 1024 → EReal) (s : Fin 1280) : EReal :=
  if s.val % 80 < 64 then v ⟨s.val / 80 * 64 + s.val % 80 % 64, by omega⟩ else extra (s.val % 80 - 64)

/-- A head's values. -/
theorem aug_own (v : Fin 1024 → EReal) (a : Fin 16) (j : ℕ) (hj : j < 64) (hs : 80 * a.val + j < 1280) (hf : 64 * a.val + j < 1024) :
    aug v ⟨80 * a.val + j, hs⟩ = v ⟨64 * a.val + j, hf⟩ := by
  unfold aug
  refine (if_pos (by show (80 * a.val + j) % 80 < 64; omega)).trans ?_
  exact congrArg v (Fin.ext (by show (80 * a.val + j) / 80 * 64 + (80 * a.val + j) % 80 % 64 = 64 * a.val + j; omega))

/-- The rows below them. -/
theorem aug_extra (v : Fin 1024 → EReal) (a : Fin 16) (j : ℕ) (hj : j < 16) (hs : 80 * a.val + 64 + j < 1280) :
    aug v ⟨80 * a.val + 64 + j, hs⟩ = extra j := by
  unfold aug
  refine (if_neg (by show ¬ (80 * a.val + 64 + j) % 80 < 64; omega)).trans ?_
  exact congrArg extra (by show (80 * a.val + 64 + j) % 80 - 64 = j; omega)

/-- The logarithm of the gate. -/
def gate (z : EReal) : EReal := min z 0 - Ideal.log (1 + Ideal.exp (0 - max z (-z)))

theorem log_ne_bot (e : EReal) (h : 0 ≤ e) : Ideal.log (1 + e) ≠ ⊥ := by
  induction e using EReal.rec with
  | bot => exact absurd h (by decide)
  | top =>
    rw [EReal.add_top_of_ne_bot (by decide)]
    exact fun h => nomatch h
  | coe r =>
    have hr : 0 ≤ r := EReal.coe_nonneg.mp h
    have e1 : (1 : EReal) + (r : EReal) = ((1 + r : ℝ) : EReal) := by rw [EReal.coe_add, EReal.coe_one]
    rw [e1]
    show (if (1 + r : ℝ) ≤ 0 then (⊥ : EReal) else ((Real.log (1 + r) : ℝ) : EReal)) ≠ ⊥
    rw [if_neg (by linarith)]
    exact EReal.coe_ne_bot _

theorem neg_max' (z : EReal) : -max (-z) 0 = min z 0 := by
  rcases le_total z 0 with h | h
  · rw [max_eq_left (EReal.le_neg.mpr (by rwa [neg_zero])), min_eq_left h, neg_neg]
  · rw [max_eq_right (EReal.neg_le.mpr (by rwa [neg_zero])), min_eq_right h, neg_zero]

/-- The negated softplus of the negated argument is the gate's logarithm. -/
theorem neg_softplus (z : EReal) : -(max (-z) 0 + Ideal.log (1 + Ideal.exp (-(max (-z - 0) (-(-z - 0)))))) = gate z := by
  unfold gate
  rw [EReal.neg_add (.inl (ne_of_gt (lt_of_lt_of_le EReal.bot_lt_zero (le_max_right _ _)))) (.inr (log_ne_bot _ (Swiglu.exp_nonneg _))),
    neg_max', sub_zero, neg_neg, zero_sub, max_comm (-z) z]

end Cert.Fox
end
end
-- ==== Proof.Body6.lean ====
module

public import proofs.«01_k».proof.Proof.Gen.Kernel6Ideal.Frame
public import Idealize.ShloMosaic.Lib.Pipeline.Value
public import proofs.«01_k».proof.Proof.Fox
public import Idealize.ShloMosaic.Lib.Pointwise

@[expose] public section

/-! # One point of the projections into the forgetting mixer

What a point stores, at an index of its blocks, from the blocks it loads. -/

set_option maxRecDepth 65536
set_option Elab.async false
set_option maxHeartbeats 2000000

noncomputable section

namespace Cert.Kernel6Ideal.Qkv

open Cert.Kernel6Ideal Cert.Kernel6Ideal.Gen
open Idealize.ShloMosaic
open Idealize.ShloMosaic.TcCoe Idealize.ShloMosaic.Tactic
open Idealize.SL Idealize.SL.Sem

theorem hid_apply (x : Vec Ideal S512x1024 .f32) (g : Vec Ideal S1x1024 .f32) (r : Fin 512) (k : Fin 1024) :
    k0_pay2 (F := Ideal) x g (ix2 r k) = Swiglu.norm (fun k => x (ix2 r k)) (fun k => g (ix2 0 k)) k := by
  pointwise [k0_pay2]
  rfl

theorem k_apply (h : FVec Ideal S512x1024 .bf16) (w : Vec Ideal S1024x1024 .bf16) (r : Fin 512) (f : Fin 1024) :
    k0_pay38 (F := Ideal) h w (ix2 r f) = Swiglu.proj (fun k => h (ix2 r k)) (fun k f => w (ix2 k f)) f := by
  pointwise [k0_pay38]
  rfl

/-- The argument of the gate. -/
theorem f_apply (h : FVec Ideal S512x1024 .bf16) (w : Vec Ideal S1024x16 .bf16) (b : Vec Ideal S1x16 .f32) (r : Fin 512) (a : Fin 16) :
    k0_pay78 (F := Ideal) h w b (ix2 r a) = Swiglu.proj (fun k => h (ix2 r k)) (fun k a => w (ix2 k a)) a + b (ix2 0 a) := by
  pointwise [k0_pay78]
  rfl

/-- A projection with the tokens last, the weights transposed. -/
def tr (h : FVec Ideal S512x1024 .bf16) (w : Vec Ideal S1024x1024 .bf16) : FVec Ideal S1024x512 .f32 :=
  matmul (φ₁ := .bf16) (φ₂ := .bf16) dot_S1024x1024_S512x1024_S1024x512_1_1_0_0_n_n none
    (shapeCast S1024x1024 w shapeCasts_S1024x1024_S1024x1024) h (constant S1024x512 .f32 0x00000000#32)

theorem tr_apply (h : FVec Ideal S512x1024 .bf16) (w : Vec Ideal S1024x1024 .bf16) (f : Fin 1024) (r : Fin 512) :
    tr h w (ix2 f r) = Swiglu.proj (fun k => h (ix2 r k)) (fun k f => w (ix2 f k)) f := by
  have e : tr h w (ix2 f r) = ∑ k : Fin 1024, w (ix2 f k) * h (ix2 r k) := by
    pointwise [tr]
  exact e.trans (Finset.sum_congr rfl fun k _ => mul_comm _ _)

/-- The scaled queries, with the tokens last. -/
theorem q_apply (x : Vec Ideal S512x1024 .f32) (g : Vec Ideal S1x1024 .f32) (w : Vec Ideal S1024x1024 .bf16) (f : Fin 1024) (r : Fin 512) :
    k0_pay3 (F := Ideal) x g w (ix2 f r) = Swiglu.proj (fun k => k0_pay2 (F := Ideal) x g (ix2 r k)) (fun k f => w (ix2 f k)) f * Proj.scale :=
  congrArg (fun a : EReal => a * Proj.scale) (tr_apply (k0_pay2 x g) w f r)

theorem head_apply (y : FVec Ideal S512x1024 .f32) (r : Fin 512) (a : Fin 16) (d : Fin 64) :
    shapeCast S512x16x64 y shapeCasts_S512x1024_S512x16x64 (ix3 r a d) = y (ix2 r ⟨a.val * 64 + d.val, by omega⟩) := by
  refine shapeCast_apply _ _ _ _ ?_
  show (S512x1024.rowMajor (ix2 r _)).val = (S512x16x64.rowMajor (ix3 r a d)).val
  rw [Shape.rowMajor_val_two, Shape.rowMajor_val_three]
  show r.val * 1024 + (a.val * 64 + d.val) = (r.val * 16 + a.val) * 64 + d.val
  omega

/-- A block of the queries or values laid as a block of four axes. -/
theorem four_apply (y : FVec Ideal S64x512 .bf16) (x : S1x1x64x512.Idx) :
    shapeCast S1x1x64x512 y shapeCasts_S64x512_S1x1x64x512 x = y (ix2 (x 2) (x 3) : S64x512.Idx) := by
  have h0 : (x 0).val < 1 := (x 0).isLt
  have h1 : (x 1).val < 1 := (x 1).isLt
  refine shapeCast_apply _ _ x (ix2 (x 2) (x 3) : S64x512.Idx) ?_
  show (S64x512.rowMajor (ix2 (x 2) (x 3))).val = (S1x1x64x512.rowMajor x).val
  rw [Shape.rowMajor_val_two, Shape.rowMajor_val_four]
  show (x 2).val * 512 + (x 3).val = (((x 0).val * 1 + (x 1).val) * 64 + (x 2).val) * 512 + (x 3).val
  omega

/-- The heads, last first. -/
def heads : List (Fin 16) := [15, 14, 13, 12, 11, 10, 9, 8, 7, 6, 5, 4, 3, 2, 1, 0]

theorem part_slices : ∀ h : Fin 16, S1024x512.Slices ![64 * h.val, 0] S64x512 := by decide

/-- The features of head `h`. -/
def part (q : FVec Ideal S1024x512 .bf16) (h : Fin 16) : FVec Ideal S1x1x64x512 .bf16 :=
  shapeCast S1x1x64x512 (extractStridedSlice S64x512 ![64 * h.val, 0] q (part_slices h)) shapeCasts_S64x512_S1x1x64x512

theorem part_apply (q : FVec Ideal S1024x512 .bf16) (h : Fin 16) (x : S1x1x64x512.Idx) (hf : 64 * h.val + (x 2).val < 1024) :
    part q h x = q (ix2 (⟨64 * h.val + (x 2).val, hf⟩ : Fin 1024) (x 3) : S1024x512.Idx) :=
  (four_apply _ x).trans (extractStridedSlice_apply ![64 * h.val, 0] q (part_slices h) _ (ix2 (⟨64 * h.val + (x 2).val, hf⟩ : Fin 1024) (x 3) : S1024x512.Idx) (fun a => match a with
    | ⟨0, _⟩ => rfl
    | ⟨1, _⟩ => by show (x 3).val = 0 + (x 3).val; omega))

/-! ## The queries -/

def ownAt (h : Fin 16) : ℕ := 128 * h.val + 64 * (h.val % 2)
def otherAt (h : Fin 16) : ℕ := 128 * h.val + 64 * (1 - h.val % 2)

theorem own_ok : ∀ h : Fin 16, 64 * h.val / 64 = ownAt h / 128 ∧ 64 * h.val % 64 = 0 ∧ ownAt h % 64 = 0 ∧ Proj.Own (ownAt h) := by decide
theorem other_ok : ∀ h : Fin 16, otherAt h % 64 = 0 ∧ ¬ Proj.Own (otherAt h) := by decide
theorem own_inb : ∀ (h : Fin 16) (a : Fin 4), (![0, 0, ownAt h, 0] : Fin 4 → ℕ) a + S1x1x64x512.size a ≤ S1x1x2048x512.size a := by decide
theorem other_inb : ∀ (h : Fin 16) (a : Fin 4), (![0, 0, otherAt h, 0] : Fin 4 → ℕ) a + S1x1x64x512.size a ≤ S1x1x2048x512.size a := by decide

/-- The stores of the queries: each head's own half and the other half. -/
def storesQ (q : FVec Ideal S1024x512 .bf16) : List (View.Piece (Elt Ideal) S1x1x2048x512 .bf16) :=
  heads.flatMap fun h => [⟨Rect.unit (s := S1x1x2048x512) ![0, 0, otherAt h, 0] S1x1x64x512.size (other_inb h), k0_pay6 (F := Ideal)⟩,
    ⟨Rect.unit (s := S1x1x2048x512) ![0, 0, ownAt h, 0] S1x1x64x512.size (own_inb h), part q h⟩]

/-- The block of the queries, from the scaled queries. -/
def blockQ (q : FVec Ideal S1024x512 .bf16) : Vec Ideal S1x1x2048x512 .bf16 := fun y => Proj.slab (fun f => q (ix2 f (y 3))) (y 2)

theorem storesQ_ok (q : FVec Ideal S1024x512 .bf16) : ∀ p ∈ storesQ q, ∀ x : p.1.shape.Idx, p.2 x = blockQ q (p.1.emb x) := by
  intro p hp
  obtain ⟨h, -, hp⟩ := List.mem_flatMap.mp hp
  rcases List.mem_cons.mp hp with rfl | hp
  · intro (x : S1x1x64x512.Idx)
    have h2 : (x 2).val < 64 := (x 2).isLt
    have hb : otherAt h + 64 ≤ 2048 := other_inb h 2
    refine Eq.trans (b := (0 : EReal)) Proj.zero_lit ?_
    refine (Proj.slab_other (fun f => q (ix2 f (x 3))) (otherAt h) (x 2).val (other_ok h) h2 (by omega)).symm.trans ?_
    unfold blockQ
    refine congrArg₂ (fun (c : Fin 512) (s : Fin 2048) => Proj.slab (fun f => q (ix2 f c)) s) (Fin.ext ?_) (Fin.ext ?_)
    · show (x 3).val = 0 + 1 * (x 3).val; omega
    · show otherAt h + (x 2).val = otherAt h + 1 * (x 2).val; omega
  rcases List.mem_cons.mp hp with rfl | hp
  · intro (x : S1x1x64x512.Idx)
    have h2 : (x 2).val < 64 := (x 2).isLt
    have hb : ownAt h + 64 ≤ 2048 := own_inb h 2
    refine (part_apply q h x (by omega)).trans ?_
    refine (Proj.slab_own (fun f => q (ix2 f (x 3))) (64 * h.val) (ownAt h) (x 2).val (own_ok h) h2 (by omega) (by omega)).symm.trans ?_
    unfold blockQ
    refine congrArg₂ (fun (c : Fin 512) (s : Fin 2048) => Proj.slab (fun f => q (ix2 f c)) s) (Fin.ext ?_) (Fin.ext ?_)
    · show (x 3).val = 0 + 1 * (x 3).val; omega
    · show ownAt h + (x 2).val = ownAt h + 1 * (x 2).val; omega
  exact absurd hp List.not_mem_nil

/-! ## The values in tiles -/

theorem ones_inb : ∀ (h : Fin 16) (a : Fin 4), (![0, 0, 80 * h.val + 64, 0] : Fin 4 → ℕ) a + S1x1x16x512.size a ≤ S1x1x1280x512.size a := by decide
theorem vals_inb : ∀ (h : Fin 16) (a : Fin 4), (![0, 0, 80 * h.val, 0] : Fin 4 → ℕ) a + S1x1x64x512.size a ≤ S1x1x1280x512.size a := by decide

/-- The stores of the values: each head's values and the rows below them. -/
def storesV (v : FVec Ideal S1024x512 .bf16) : List (View.Piece (Elt Ideal) S1x1x1280x512 .bf16) :=
  heads.flatMap fun h => [⟨Rect.unit (s := S1x1x1280x512) ![0, 0, 80 * h.val + 64, 0] S1x1x16x512.size (ones_inb h), k0_pay46 (k0_pay43 (F := Ideal))⟩,
    ⟨Rect.unit (s := S1x1x1280x512) ![0, 0, 80 * h.val, 0] S1x1x64x512.size (vals_inb h), part v h⟩]

/-- The block of the values. -/
def blockV (v : FVec Ideal S1024x512 .bf16) : Vec Ideal S1x1x1280x512 .bf16 := fun y => Fox.aug (fun f => v (ix2 f (y 3))) (y 2)

theorem one_bit : ∀ j : Fin 16, IntOp.cmpi .eq (BitVec.ofNat 32 j.val) 0#32 = if j.val = 0 then 1#1 else 0#1 := by decide

theorem ones_apply (j : Fin 16) (r : Fin 512) : k0_pay43 (F := Ideal) (ix2 j r) = Fox.extra j.val := by
  have e : k0_pay43 (F := Ideal) (ix2 j r)
      = Scalar.select (IntOp.cmpi .eq (BitVec.ofNat 32 j.val) 0#32) (Ideal.ofBits .f32 0x3F800000#32) (Ideal.ofBits .f32 0x00000000#32) := by
    pointwise [k0_pay43]
  rw [e, one_bit, show Ideal.ofBits .f32 0x3F800000#32 = 1 from Swiglu.one_eq, Proj.zero_lit32]
  unfold Fox.extra
  by_cases h : j.val = 0
  · rw [if_pos h, if_pos h]; rfl
  · rw [if_neg h, if_neg h]; rfl

theorem ones4_apply (x : S1x1x16x512.Idx) : k0_pay46 (k0_pay43 (F := Ideal)) x = Fox.extra (x 2).val := by
  have h0 : (x 0).val < 1 := (x 0).isLt
  have h1 : (x 1).val < 1 := (x 1).isLt
  refine (shapeCast_apply _ _ x (ix2 (x 2) (x 3) : S16x512.Idx) ?_).trans (ones_apply (x 2) (x 3))
  show (S16x512.rowMajor (ix2 (x 2) (x 3))).val = (S1x1x16x512.rowMajor x).val
  rw [Shape.rowMajor_val_two, Shape.rowMajor_val_four]
  show (x 2).val * 512 + (x 3).val = (((x 0).val * 1 + (x 1).val) * 16 + (x 2).val) * 512 + (x 3).val
  omega

theorem storesV_ok (v : FVec Ideal S1024x512 .bf16) : ∀ p ∈ storesV v, ∀ x : p.1.shape.Idx, p.2 x = blockV v (p.1.emb x) := by
  intro p hp
  obtain ⟨h, -, hp⟩ := List.mem_flatMap.mp hp
  rcases List.mem_cons.mp hp with rfl | hp
  · intro (x : S1x1x16x512.Idx)
    have h2 : (x 2).val < 16 := (x 2).isLt
    refine (ones4_apply x).trans ?_
    refine (Fox.aug_extra (fun f => v (ix2 f (x 3))) h (x 2).val h2 (by omega)).symm.trans ?_
    unfold blockV
    refine congrArg₂ (fun (c : Fin 512) (s : Fin 1280) => Fox.aug (fun f => v (ix2 f c)) s) (Fin.ext ?_) (Fin.ext ?_)
    · show (x 3).val = 0 + 1 * (x 3).val; omega
    · show 80 * h.val + 64 + (x 2).val = 80 * h.val + 64 + 1 * (x 2).val; omega
  rcases List.mem_cons.mp hp with rfl | hp
  · intro (x : S1x1x64x512.Idx)
    have h2 : (x 2).val < 64 := (x 2).isLt
    refine (part_apply v h x (by omega)).trans ?_
    refine (Fox.aug_own (fun f => v (ix2 f (x 3))) h (x 2).val h2 (by omega) (by omega)).symm.trans ?_
    unfold blockV
    refine congrArg₂ (fun (c : Fin 512) (s : Fin 1280) => Fox.aug (fun f => v (ix2 f c)) s) (Fin.ext ?_) (Fin.ext ?_)
    · show (x 3).val = 0 + 1 * (x 3).val; omega
    · show 80 * h.val + (x 2).val = 80 * h.val + 1 * (x 2).val; omega
  exact absurd hp List.not_mem_nil

/-! ## What the run leaves -/

/-- A load of a whole block is what the block holds. -/
theorem load {S : Shape} {e : EltTy} {M : Memref sig .tc .vmem S e} (h : M.IsWhole) (x : S.Idx → Elt Ideal e) {off : Fin S.rank → ℕ} (h0 : off = fun _ => 0)
    (inb : ∀ a, off a + S.size a ≤ S.size a) : View.readAt (Elt Ideal) M.view (Rect.unit (s := S) off S.size inb).toLoadRect (h.unread x) = x :=
  (View.readAt_eq_ld _ _ _).trans ((congrArg (fun f => View.ld f (Rect.unit (s := S) off S.size inb)) (h.read_unread x)).trans (View.ld_unit_zero h0 inb x))

theorem zero2 : (![0, 0] : Fin 2 → ℕ) = fun _ => 0 := by funext a; fin_cases a <;> rfl
theorem zero3 : (![0, 0, 0] : Fin 3 → ℕ) = fun _ => 0 := by funext a; fin_cases a <;> rfl

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S1024x1024 .bf16) (harg3 : arg3.IsWhole)
  (arg4 : Memref sig .tc .vmem S1024x1024 .bf16) (harg4 : arg4.IsWhole)
  (arg5 : Memref sig .tc .vmem S1024x1024 .bf16) (harg5 : arg5.IsWhole)
  (arg6 : Memref sig .tc .vmem S1024x1024 .bf16) (harg6 : arg6.IsWhole)
  (arg7 : Memref sig .tc .vmem S1024x16 .bf16) (harg7 : arg7.IsWhole)
  (arg8 : Memref sig .tc .vmem S1x16 .f32) (harg8 : arg8.IsWhole)
  (arg9 : Memref sig .tc .vmem S1x1x2048x512 .bf16) (harg9 : arg9.IsWhole)
  (arg10 : Memref sig .tc .vmem S512x16x64 .f32) (harg10 : arg10.IsWhole)
  (arg11 : Memref sig .tc .vmem S512x1024 .bf16) (harg11 : arg11.IsWhole)
  (arg12 : Memref sig .tc .vmem S512x16x64 .f32) (harg12 : arg12.IsWhole)
  (arg13 : Memref sig .tc .vmem S1x1x1280x512 .bf16) (harg13 : arg13.IsWhole)
  (arg14 : Memref sig .tc .vmem S512x16 .f32) (harg14 : arg14.IsWhole)
  (x0 : Vec Ideal S512x1024 .f32) (x1 : Vec Ideal S1x1024 .f32) (x2 x3 x4 x5 : Vec Ideal S1024x1024 .bf16) (x6 : Vec Ideal S1024x16 .bf16) (x7 : Vec Ideal S1x16 .f32)

/-- The features of row `r` of the block under the weights `w`. -/
def blk {n : ℕ} (w : Fin 1024 → Fin n → EReal) (r : Fin 512) (f : Fin n) : EReal :=
  Swiglu.proj (Swiglu.norm (fun k => x0 (ix2 r k)) (fun k => x1 (ix2 0 k))) w f

theorem out8_eq (y : S1x1x2048x512.Idx) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y = blockQ (k0_pay3 x0 x1 x2) y := by
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1 = storesQ (k0_pay3 (View.readAt (Elt Ideal) arg1.view (Rect.unit (s := S512x1024) ![0, 0] S512x1024.size inb_S512x1024_S512x1024_0_0).toLoadRect (harg1.unread x0))
      (View.readAt (Elt Ideal) arg2.view (Rect.unit (s := S1x1024) ![0, 0] S1x1024.size inb_S1x1024_S1x1024_0_0).toLoadRect (harg2.unread x1))
      (View.readAt (Elt Ideal) arg3.view (Rect.unit (s := S1024x1024) ![0, 0] S1024x1024.size inb_S1024x1024_S1024x1024_0_0).toLoadRect (harg3.unread x2))) := by sl_kernel_rfl
  rw [load harg1 x0 zero2, load harg2 x1 zero2, load harg3 x2 zero2] at e
  unfold out0_A_8
  rw [View.read_writes_junk_eq_canon]
  exact View.canon_apply_of_pieces (blockQ (k0_pay3 x0 x1 x2)) _ (by rw [e]; exact storesQ_ok _) y (cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)

theorem out8_apply (z z' : Fin 1) (s : Fin 2048) (r : Fin 512) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix4 z z' s r)
      = Proj.slab (fun f => blk x0 x1 (fun k f => x2 (ix2 f k)) r f * Proj.scale) s := by
  refine (out8_eq c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _).trans ?_
  show Proj.slab (fun f => k0_pay3 x0 x1 x2 (ix2 f r)) s = _
  simp only [q_apply, hid_apply]
  rfl

theorem out9_apply (r : Fin 512) (a : Fin 16) (d : Fin 64) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix3 r a d) = blk x0 x1 (fun k f => x3 (ix2 k f)) r ⟨a.val * 64 + d.val, by omega⟩ := by
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1
      = [⟨Rect.unit (s := S512x16x64) ![0, 0, 0] S512x16x64.size inb_S512x16x64_S512x16x64_0_0_0, k0_pay39 (k0_pay2 (View.readAt (Elt Ideal) arg1.view (Rect.unit (s := S512x1024) ![0, 0] S512x1024.size inb_S512x1024_S512x1024_0_0).toLoadRect (harg1.unread x0))
      (View.readAt (Elt Ideal) arg2.view (Rect.unit (s := S1x1024) ![0, 0] S1x1024.size inb_S1x1024_S1x1024_0_0).toLoadRect (harg2.unread x1)))
      (View.readAt (Elt Ideal) arg4.view (Rect.unit (s := S1024x1024) ![0, 0] S1024x1024.size inb_S1024x1024_S1024x1024_0_0).toLoadRect (harg4.unread x3))⟩] := by sl_kernel_rfl
  rw [load harg1 x0 zero2, load harg2 x1 zero2, load harg4 x3 zero2] at e
  unfold out0_A_9
  rw [View.read_writes_junk_eq_canon, e, View.canon_unit_zero zero3]
  refine (head_apply (k0_pay38 (k0_pay2 x0 x1) x3) r a d).trans ((k_apply _ _ _ _).trans ?_)
  simp only [hid_apply]
  rfl

theorem out10_apply (r : Fin 512) (f : Fin 1024) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix2 r f) = blk x0 x1 (fun k f => x3 (ix2 k f)) r f := by
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1
      = [⟨Rect.unit (s := S512x1024) ![0, 0] S512x1024.size inb_S512x1024_S512x1024_0_0, k0_pay40 (k0_pay2 (View.readAt (Elt Ideal) arg1.view (Rect.unit (s := S512x1024) ![0, 0] S512x1024.size inb_S512x1024_S512x1024_0_0).toLoadRect (harg1.unread x0))
      (View.readAt (Elt Ideal) arg2.view (Rect.unit (s := S1x1024) ![0, 0] S1x1024.size inb_S1x1024_S1x1024_0_0).toLoadRect (harg2.unread x1)))
      (View.readAt (Elt Ideal) arg4.view (Rect.unit (s := S1024x1024) ![0, 0] S1024x1024.size inb_S1024x1024_S1024x1024_0_0).toLoadRect (harg4.unread x3))⟩] := by sl_kernel_rfl
  rw [load harg1 x0 zero2, load harg2 x1 zero2, load harg4 x3 zero2] at e
  unfold out0_A_10
  rw [View.read_writes_junk_eq_canon, e, View.canon_unit_zero zero2]
  refine (k_apply (k0_pay2 x0 x1) x3 r f).trans ?_
  simp only [hid_apply]
  rfl

theorem out11_apply (r : Fin 512) (a : Fin 16) (d : Fin 64) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix3 r a d) = blk x0 x1 (fun k f => x4 (ix2 k f)) r ⟨a.val * 64 + d.val, by omega⟩ := by
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.1
      = [⟨Rect.unit (s := S512x16x64) ![0, 0, 0] S512x16x64.size inb_S512x16x64_S512x16x64_0_0_0, k0_pay41 (k0_pay2 (View.readAt (Elt Ideal) arg1.view (Rect.unit (s := S512x1024) ![0, 0] S512x1024.size inb_S512x1024_S512x1024_0_0).toLoadRect (harg1.unread x0))
      (View.readAt (Elt Ideal) arg2.view (Rect.unit (s := S1x1024) ![0, 0] S1x1024.size inb_S1x1024_S1x1024_0_0).toLoadRect (harg2.unread x1)))
      (View.readAt (Elt Ideal) arg5.view (Rect.unit (s := S1024x1024) ![0, 0] S1024x1024.size inb_S1024x1024_S1024x1024_0_0).toLoadRect (harg5.unread x4))⟩] := by sl_kernel_rfl
  rw [load harg1 x0 zero2, load harg2 x1 zero2, load harg5 x4 zero2] at e
  unfold out0_A_11
  rw [View.read_writes_junk_eq_canon, e, View.canon_unit_zero zero3]
  refine (head_apply (k0_pay38 (k0_pay2 x0 x1) x4) r a d).trans ((k_apply _ _ _ _).trans ?_)
  simp only [hid_apply]
  rfl

theorem out12_eq (y : S1x1x1280x512.Idx) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y = blockV (k0_pay42 (k0_pay2 x0 x1) x5) y := by
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.2.1 = storesV (k0_pay42 (k0_pay2 (View.readAt (Elt Ideal) arg1.view (Rect.unit (s := S512x1024) ![0, 0] S512x1024.size inb_S512x1024_S512x1024_0_0).toLoadRect (harg1.unread x0))
      (View.readAt (Elt Ideal) arg2.view (Rect.unit (s := S1x1024) ![0, 0] S1x1024.size inb_S1x1024_S1x1024_0_0).toLoadRect (harg2.unread x1)))
      (View.readAt (Elt Ideal) arg6.view (Rect.unit (s := S1024x1024) ![0, 0] S1024x1024.size inb_S1024x1024_S1024x1024_0_0).toLoadRect (harg6.unread x5))) := by sl_kernel_rfl
  rw [load harg1 x0 zero2, load harg2 x1 zero2, load harg6 x5 zero2] at e
  unfold out0_A_12
  rw [View.read_writes_junk_eq_canon]
  exact View.canon_apply_of_pieces (blockV (k0_pay42 (k0_pay2 x0 x1) x5)) _ (by rw [e]; exact storesV_ok _) y (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)

theorem out12_apply (z z' : Fin 1) (s : Fin 1280) (r : Fin 512) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix4 z z' s r)
      = Fox.aug (fun f => blk x0 x1 (fun k f => x5 (ix2 f k)) r f) s := by
  refine (out12_eq c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _).trans ?_
  refine congrArg (fun v => Fox.aug v s) (funext fun f => ?_)
  refine (tr_apply (k0_pay2 x0 x1) x5 f r).trans ?_
  simp only [hid_apply]
  rfl

theorem out13_apply (r : Fin 512) (a : Fin 16) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix2 r a) = Fox.gate (blk x0 x1 (fun k a => x6 (ix2 k a)) r a + x7 (ix2 0 a)) := by
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.2.2.1
      = [⟨Rect.unit (s := S512x16) ![0, 0] S512x16.size inb_S512x16_S512x16_0_0, k0_pay1 (k0_pay79 (k0_pay2 (View.readAt (Elt Ideal) arg1.view (Rect.unit (s := S512x1024) ![0, 0] S512x1024.size inb_S512x1024_S512x1024_0_0).toLoadRect (harg1.unread x0))
      (View.readAt (Elt Ideal) arg2.view (Rect.unit (s := S1x1024) ![0, 0] S1x1024.size inb_S1x1024_S1x1024_0_0).toLoadRect (harg2.unread x1)))
      (View.readAt (Elt Ideal) arg7.view (Rect.unit (s := S1024x16) ![0, 0] S1024x16.size inb_S1024x16_S1024x16_0_0).toLoadRect (harg7.unread x6))
      (View.readAt (Elt Ideal) arg8.view (Rect.unit (s := S1x16) ![0, 0] S1x16.size inb_S1x16_S1x16_0_0).toLoadRect (harg8.unread x7))) (k0_pay80 (k0_pay2 (View.readAt (Elt Ideal) arg1.view (Rect.unit (s := S512x1024) ![0, 0] S512x1024.size inb_S512x1024_S512x1024_0_0).toLoadRect (harg1.unread x0))
      (View.readAt (Elt Ideal) arg2.view (Rect.unit (s := S1x1024) ![0, 0] S1x1024.size inb_S1x1024_S1x1024_0_0).toLoadRect (harg2.unread x1)))
      (View.readAt (Elt Ideal) arg7.view (Rect.unit (s := S1024x16) ![0, 0] S1024x16.size inb_S1024x16_S1024x16_0_0).toLoadRect (harg7.unread x6))
      (View.readAt (Elt Ideal) arg8.view (Rect.unit (s := S1x16) ![0, 0] S1x16.size inb_S1x16_S1x16_0_0).toLoadRect (harg8.unread x7)))⟩] := by sl_kernel_rfl
  rw [load harg1 x0 zero2, load harg2 x1 zero2, load harg7 x6 zero2, load harg8 x7 zero2] at e
  unfold out0_A_13
  rw [View.read_writes_junk_eq_canon, e, View.canon_unit_zero zero2]
  have g : k0_pay1 (k0_pay79 (k0_pay2 x0 x1) x6 x7) (k0_pay80 (k0_pay2 x0 x1) x6 x7) (ix2 r a)
      = min (k0_pay78 (k0_pay2 x0 x1) x6 x7 (ix2 r a)) (Ideal.ofBits .f32 0x00000000#32)
        - Ideal.log (Ideal.ofBits .f32 0x3F800000#32 + Ideal.exp (Ideal.ofBits .f32 0x00000000#32
          - max (k0_pay78 (k0_pay2 x0 x1) x6 x7 (ix2 r a)) (-k0_pay78 (k0_pay2 x0 x1) x6 x7 (ix2 r a)))) := rfl
  rw [g, Proj.zero_lit32, show Ideal.ofBits .f32 0x3F800000#32 = 1 from Swiglu.one_eq, f_apply]
  simp only [hid_apply]
  rfl

end Cert.Kernel6Ideal.Qkv
end
end
-- ==== Proof.Array6.lean ====
module

public import proofs.«01_k».proof.Proof.Body6
public import Idealize.ShloMosaic.Lib.Pipeline.ValueKit

@[expose] public section

/-! # The result arrays of the projections into the forgetting mixer -/

set_option maxRecDepth 65536
set_option Elab.async false

noncomputable section

namespace Cert.Kernel6Ideal.Qkv

open Cert.Kernel6Ideal Cert.Kernel6Ideal.Gen
open Idealize.ShloMosaic
open Idealize.ShloMosaic.TcCoe Idealize.ShloMosaic.Tactic
open Idealize.SL Idealize.SL.Sem

/-- Where the blocks of a point lie. -/
abbrev At (t : Fin cfg0.N) : Prop :=
  (cfg0.win (0 : Fin 14)).index t = ![t.val, 0]
  ∧ (cfg0.win (1 : Fin 14)).index t = ![0, 0]
  ∧ (cfg0.win (2 : Fin 14)).index t = ![0, 0]
  ∧ (cfg0.win (3 : Fin 14)).index t = ![0, 0]
  ∧ (cfg0.win (4 : Fin 14)).index t = ![0, 0]
  ∧ (cfg0.win (5 : Fin 14)).index t = ![0, 0]
  ∧ (cfg0.win (6 : Fin 14)).index t = ![0, 0]
  ∧ (cfg0.win (7 : Fin 14)).index t = ![0, 0]
  ∧ (cfg0.win (8 : Fin 14)).index t = ![t.val / 4, t.val % 4, 0, 0]
  ∧ (cfg0.win (9 : Fin 14)).index t = ![t.val, 0, 0]
  ∧ (cfg0.win (10 : Fin 14)).index t = ![t.val, 0]
  ∧ (cfg0.win (11 : Fin 14)).index t = ![t.val, 0, 0]
  ∧ (cfg0.win (12 : Fin 14)).index t = ![t.val / 4, t.val % 4, 0, 0]
  ∧ (cfg0.win (13 : Fin 14)).index t = ![t.val, 0]

theorem at_ : ∀ t : Fin cfg0.N, At t := by decide +kernel

theorem covers8 : (cfg0.win (8 : Fin 14)).Covers := by decide +kernel
theorem covers9 : (cfg0.win (9 : Fin 14)).Covers := by decide +kernel
theorem covers10 : (cfg0.win (10 : Fin 14)).Covers := by decide +kernel
theorem covers11 : (cfg0.win (11 : Fin 14)).Covers := by decide +kernel
theorem covers12 : (cfg0.win (12 : Fin 14)).Covers := by decide +kernel
theorem covers13 : (cfg0.win (13 : Fin 14)).Covers := by decide +kernel

theorem lt128 (t : Fin cfg0.N) : t.val < 128 := Nat.lt_of_lt_of_eq t.isLt (by decide +kernel)

/-- The row of the array at row `r` of the block of point `t`. -/
def row (t : Fin cfg0.N) (r : Fin 512) : Fin 65536 := ⟨512 * t.val + r.val, by have := lt128 t; omega⟩

variable (m : (ℓ : Loc nD τ sig) → Buf (Elt Ideal) ℓ) (c : Dev nD)

/-- The weights, as launched. -/
abbrev W : FVec Ideal S1024x3088 .f32 := m ((c : Thread nD τ).loc main_arg2)

/-- The part of the weights from column `o`, at an index. -/
theorem part_at (o : ℕ) (hs : S1024x3088.Slices ![0, o] S1024x1024) (w : FVec Ideal S1024x3088 .f32) (k f : Fin 1024) (ho : o + 1024 ≤ 3088) :
    extractStridedSlice S1024x1024 ![0, o] (truncf .bf16 w bitsLt_bf16_f32) hs (ix2 k f) = w (ix2 k (⟨o + f.val, by omega⟩ : Fin 3088)) :=
  extractStridedSlice_apply ![0, o] _ hs _ (ix2 k (⟨o + f.val, by omega⟩ : Fin 3088) : S1024x3088.Idx) (fun a => match a with
    | ⟨0, _⟩ => by show k.val = 0 + k.val; omega
    | ⟨1, _⟩ => rfl)

theorem swap_apply (y : FVec Ideal S1024x1024 .bf16) (f k : Fin 1024) :
    transpose S1024x1024 [1, 0] y transposes_S1024x1024_S1024x1024_1_0 (ix2 f k) = y (ix2 k f) :=
  transpose_apply [1, 0] y _ _ (ix2 k f : S1024x1024.Idx) (fun b => match b with
    | ⟨0, _⟩ => rfl
    | ⟨1, _⟩ => rfl)

theorem host_g (k : Fin 1024) : V m c main_v8 (ix2 0 k : S1x1024.Idx) = m ((c : Thread nD τ).loc main_arg1) (ix1 k : S1024.Idx) := by
  show StableHlo.after hostOps0 (fun b => m (c, b)) (Proc.devRef .tc main_v8) _ = _
  after_results
  refine shapeCast_apply _ _ _ _ ?_
  show (S1024.rowMajor (ix1 k)).val = (S1x1024.rowMajor (ix2 0 k)).val
  rw [Shape.rowMajor_val_two, Shape.rowMajor_val_one]
  show k.val = 0 * 1024 + k.val
  omega

theorem host_wq (f k : Fin 1024) : V m c main_v2 (ix2 f k : S1024x1024.Idx) = W m c (ix2 k (⟨0 + f.val, by omega⟩ : Fin 3088)) := by
  show StableHlo.after hostOps0 (fun b => m (c, b)) (Proc.devRef .tc main_v2) _ = _
  after_results
  exact (swap_apply _ f k).trans (part_at 0 _ _ k f (by omega))

theorem host_wk (k f : Fin 1024) : V m c main_v3 (ix2 k f : S1024x1024.Idx) = W m c (ix2 k (⟨1024 + f.val, by omega⟩ : Fin 3088)) := by
  show StableHlo.after hostOps0 (fun b => m (c, b)) (Proc.devRef .tc main_v3) _ = _
  after_results
  exact part_at 1024 _ _ k f (by omega)

theorem host_wv (k f : Fin 1024) : V m c main_v4 (ix2 k f : S1024x1024.Idx) = W m c (ix2 k (⟨2048 + f.val, by omega⟩ : Fin 3088)) := by
  show StableHlo.after hostOps0 (fun b => m (c, b)) (Proc.devRef .tc main_v4) _ = _
  after_results
  exact part_at 2048 _ _ k f (by omega)

theorem host_wvt (f k : Fin 1024) : V m c main_v6 (ix2 f k : S1024x1024.Idx) = W m c (ix2 k (⟨2048 + f.val, by omega⟩ : Fin 3088)) := by
  show StableHlo.after hostOps0 (fun b => m (c, b)) (Proc.devRef .tc main_v6) _ = _
  after_results
  exact (swap_apply _ f k).trans (part_at 2048 _ _ k f (by omega))

theorem host_wf (k : Fin 1024) (a : Fin 16) : V m c main_v7 (ix2 k a : S1024x16.Idx) = W m c (ix2 k (⟨3072 + a.val, by omega⟩ : Fin 3088)) := by
  show StableHlo.after hostOps0 (fun b => m (c, b)) (Proc.devRef .tc main_v7) _ = _
  after_results
  exact extractStridedSlice_apply ![0, 3072] _ _ _ (ix2 k (⟨3072 + a.val, by omega⟩ : Fin 3088) : S1024x3088.Idx) (fun d => match d with
    | ⟨0, _⟩ => by show k.val = 0 + k.val; omega
    | ⟨1, _⟩ => rfl)

theorem host_b (a : Fin 16) : V m c main_v9 (ix2 0 a : S1x16.Idx) = m ((c : Thread nD τ).loc main_arg3) (ix1 a : S16.Idx) := by
  show StableHlo.after hostOps0 (fun b => m (c, b)) (Proc.devRef .tc main_v9) _ = _
  after_results
  refine shapeCast_apply _ _ _ _ ?_
  show (S16.rowMajor (ix1 a)).val = (S1x16.rowMajor (ix2 0 a)).val
  rw [Shape.rowMajor_val_two, Shape.rowMajor_val_one]
  show a.val = 0 * 16 + a.val
  omega

theorem iblk_x (t : Fin cfg0.N) (r : Fin 512) (k : Fin 1024) :
    iblk m c (0 : Fin 14) t (ix2 r k : S512x1024.Idx) = m ((c : Thread nD τ).loc main_arg0) (ix2 (row t r) k : S65536x1024.Idx) := by
  have hi := (at_ t).1
  refine Eq.trans ?_ (congrFun (V_main_arg0 m c) _)
  unfold iblk
  rw [View.read_apply]
  show V m c main_arg0 _ = V m c main_arg0 _
  congr 1
  funext a; apply Fin.ext
  match a with
  | ⟨0, _⟩ => show (cfg0.win (0 : Fin 14)).index t 0 * 512 + 1 * r.val = 512 * t.val + r.val; rw [hi]; show t.val * 512 + 1 * r.val = _; omega
  | ⟨1, _⟩ => show (cfg0.win (0 : Fin 14)).index t 1 * 1024 + 1 * k.val = k.val; rw [hi]; show 0 * 1024 + 1 * k.val = _; omega

theorem iblk_g (t : Fin cfg0.N) (k : Fin 1024) :
    iblk m c (1 : Fin 14) t (ix2 0 k : S1x1024.Idx) = m ((c : Thread nD τ).loc main_arg1) (ix1 k : S1024.Idx) := by
  have hi := (at_ t).2.1
  refine Eq.trans ?_ (host_g m c k)
  unfold iblk
  rw [View.read_apply]
  show V m c main_v8 _ = V m c main_v8 _
  congr 1
  funext a; apply Fin.ext
  match a with
  | ⟨0, _⟩ => show (cfg0.win (1 : Fin 14)).index t 0 * 1 + 1 * 0 = 0; rw [hi]; rfl
  | ⟨1, _⟩ => show (cfg0.win (1 : Fin 14)).index t 1 * 1024 + 1 * k.val = k.val; rw [hi]; show 0 * 1024 + 1 * k.val = _; omega

theorem iblk_wq (t : Fin cfg0.N) (a b : Fin 1024) : iblk m c (2 : Fin 14) t (ix2 a b : S1024x1024.Idx) = V m c main_v2 (ix2 a b : S1024x1024.Idx) := by
  have hi := (at_ t).2.2.1
  unfold iblk
  rw [View.read_apply]
  show V m c main_v2 _ = V m c main_v2 _
  congr 1
  funext d; apply Fin.ext
  match d with
  | ⟨0, _⟩ => show (cfg0.win (2 : Fin 14)).index t 0 * 1024 + 1 * a.val = a.val; rw [hi]; show 0 * 1024 + 1 * a.val = _; omega
  | ⟨1, _⟩ => show (cfg0.win (2 : Fin 14)).index t 1 * 1024 + 1 * b.val = b.val; rw [hi]; show 0 * 1024 + 1 * b.val = _; omega

theorem iblk_wk (t : Fin cfg0.N) (a b : Fin 1024) : iblk m c (3 : Fin 14) t (ix2 a b : S1024x1024.Idx) = V m c main_v3 (ix2 a b : S1024x1024.Idx) := by
  have hi := (at_ t).2.2.2.1
  unfold iblk
  rw [View.read_apply]
  show V m c main_v3 _ = V m c main_v3 _
  congr 1
  funext d; apply Fin.ext
  match d with
  | ⟨0, _⟩ => show (cfg0.win (3 : Fin 14)).index t 0 * 1024 + 1 * a.val = a.val; rw [hi]; show 0 * 1024 + 1 * a.val = _; omega
  | ⟨1, _⟩ => show (cfg0.win (3 : Fin 14)).index t 1 * 1024 + 1 * b.val = b.val; rw [hi]; show 0 * 1024 + 1 * b.val = _; omega

theorem iblk_wv (t : Fin cfg0.N) (a b : Fin 1024) : iblk m c (4 : Fin 14) t (ix2 a b : S1024x1024.Idx) = V m c main_v4 (ix2 a b : S1024x1024.Idx) := by
  have hi := (at_ t).2.2.2.2.1
  unfold iblk
  rw [View.read_apply]
  show V m c main_v4 _ = V m c main_v4 _
  congr 1
  funext d; apply Fin.ext
  match d with
  | ⟨0, _⟩ => show (cfg0.win (4 : Fin 14)).index t 0 * 1024 + 1 * a.val = a.val; rw [hi]; show 0 * 1024 + 1 * a.val = _; omega
  | ⟨1, _⟩ => show (cfg0.win (4 : Fin 14)).index t 1 * 1024 + 1 * b.val = b.val; rw [hi]; show 0 * 1024 + 1 * b.val = _; omega

theorem iblk_wvt (t : Fin cfg0.N) (a b : Fin 1024) : iblk m c (5 : Fin 14) t (ix2 a b : S1024x1024.Idx) = V m c main_v6 (ix2 a b : S1024x1024.Idx) := by
  have hi := (at_ t).2.2.2.2.2.1
  unfold iblk
  rw [View.read_apply]
  show V m c main_v6 _ = V m c main_v6 _
  congr 1
  funext d; apply Fin.ext
  match d with
  | ⟨0, _⟩ => show (cfg0.win (5 : Fin 14)).index t 0 * 1024 + 1 * a.val = a.val; rw [hi]; show 0 * 1024 + 1 * a.val = _; omega
  | ⟨1, _⟩ => show (cfg0.win (5 : Fin 14)).index t 1 * 1024 + 1 * b.val = b.val; rw [hi]; show 0 * 1024 + 1 * b.val = _; omega

theorem iblk_wf (t : Fin cfg0.N) (k : Fin 1024) (a : Fin 16) : iblk m c (6 : Fin 14) t (ix2 k a : S1024x16.Idx) = V m c main_v7 (ix2 k a : S1024x16.Idx) := by
  have hi := (at_ t).2.2.2.2.2.2.1
  unfold iblk
  rw [View.read_apply]
  show V m c main_v7 _ = V m c main_v7 _
  congr 1
  funext d; apply Fin.ext
  match d with
  | ⟨0, _⟩ => show (cfg0.win (6 : Fin 14)).index t 0 * 1024 + 1 * k.val = k.val; rw [hi]; show 0 * 1024 + 1 * k.val = _; omega
  | ⟨1, _⟩ => show (cfg0.win (6 : Fin 14)).index t 1 * 16 + 1 * a.val = a.val; rw [hi]; show 0 * 16 + 1 * a.val = _; omega

theorem iblk_b (t : Fin cfg0.N) (a : Fin 16) : iblk m c (7 : Fin 14) t (ix2 0 a : S1x16.Idx) = m ((c : Thread nD τ).loc main_arg3) (ix1 a : S16.Idx) := by
  have hi := (at_ t).2.2.2.2.2.2.2.1
  refine Eq.trans ?_ (host_b m c a)
  unfold iblk
  rw [View.read_apply]
  show V m c main_v9 _ = V m c main_v9 _
  congr 1
  funext d; apply Fin.ext
  match d with
  | ⟨0, _⟩ => show (cfg0.win (7 : Fin 14)).index t 0 * 1 + 1 * 0 = 0; rw [hi]; rfl
  | ⟨1, _⟩ => show (cfg0.win (7 : Fin 14)).index t 1 * 16 + 1 * a.val = a.val; rw [hi]; show 0 * 16 + 1 * a.val = _; omega

/-- Feature `f` of the part from column `o` of the projection of row `r`. -/
def featK {n : ℕ} (o : ℕ) (ho : o + n ≤ 3088) (r : Fin 65536) (f : Fin n) : EReal :=
  Proj.feat (fun r k => m ((c : Thread nD τ).loc main_arg0) (ix2 r k : S65536x1024.Idx)) (fun k => m ((c : Thread nD τ).loc main_arg1) (ix1 k : S1024.Idx))
    (fun k f => W m c (ix2 k f)) r (⟨o + f.val, by omega⟩ : Fin 3088)

/-- The features of a row of the block, under weights that are the part from column `o`. -/
theorem blk_eq {n : ℕ} (o : ℕ) (ho : o + n ≤ 3088) (w : Fin 1024 → Fin n → EReal) (hw : ∀ k f, w k f = W m c (ix2 k (⟨o + f.val, by omega⟩ : Fin 3088)))
    (t : Fin cfg0.N) (r : Fin 512) (f : Fin n) :
    blk (iblk m c 0 t) (iblk m c 1 t) w r f = featK m c o ho (row t r) f := by
  unfold blk featK Proj.feat
  simp only [iblk_x, iblk_g]
  exact Finset.sum_congr rfl fun k _ => congrArg (fun a : EReal => _ * a) (hw k f)

theorem row_eq (t : Fin cfg0.N) (r : Fin 512) (b : Fin 32) (n : Fin 4) (hb : b.val = t.val / 4) (hn : n.val = t.val % 4) : row t r = Fox.row b n r :=
  Fin.ext (by show 512 * t.val + r.val = (b.val * 4 + n.val) * 512 + r.val; omega)

/-- What the call leaves in its six results. -/
def keysK (i : S65536x16x64.Idx) : EReal := featK (n := 1024) m c 1024 (by omega) (i 0) ⟨(i 1).val * 64 + (i 2).val, by have h1 : (i 1).val < 16 := (i 1).isLt; have h2 : (i 2).val < 64 := (i 2).isLt; omega⟩
def rowsK (i : S65536x1024.Idx) : EReal := featK (n := 1024) m c 1024 (by omega) (i 0) (i 1)
def valsK (i : S65536x16x64.Idx) : EReal := featK (n := 1024) m c 2048 (by omega) (i 0) ⟨(i 1).val * 64 + (i 2).val, by have h1 : (i 1).val < 16 := (i 1).isLt; have h2 : (i 2).val < 64 := (i 2).isLt; omega⟩
def queriesK (i : S32x4x2048x512.Idx) : EReal := Proj.slab (fun f => featK (n := 1024) m c 0 (by omega) (Fox.row (i 0) (i 1) (i 3)) f * Proj.scale) (i 2)
def augK (i : S32x4x1280x512.Idx) : EReal := Fox.aug (fun f => featK (n := 1024) m c 2048 (by omega) (Fox.row (i 0) (i 1) (i 3)) f) (i 2)
def gateK (i : S65536x16.Idx) : EReal := Fox.gate (featK (n := 16) m c 3072 (by omega) (i 0) (i 1) + m ((c : Thread nD τ).loc main_arg3) (ix1 (i 1) : S16.Idx))

theorem outs8 (t : Fin cfg0.N) : (outsAt0 m c t).1 = out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) := by
  dsimp only [outsAt0]

theorem outs9 (t : Fin cfg0.N) : (outsAt0 m c t).2.1 = out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) := by
  dsimp only [outsAt0]

theorem outs10 (t : Fin cfg0.N) : (outsAt0 m c t).2.2.1 = out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) := by
  dsimp only [outsAt0]

theorem outs11 (t : Fin cfg0.N) : (outsAt0 m c t).2.2.2.1 = out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) := by
  dsimp only [outsAt0]

theorem outs12 (t : Fin cfg0.N) : (outsAt0 m c t).2.2.2.2.1 = out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) := by
  dsimp only [outsAt0]

theorem outs13 (t : Fin cfg0.N) : (outsAt0 m c t).2.2.2.2.2 = out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) := by
  dsimp only [outsAt0]

theorem final8 : (dats m 0 c).arrAt (8 : Fin 14) cfg0.N = queriesK m c := by
  refine (dats m 0 c).arrAt_eq_of_covers (8 : Fin 14) _ covers8 fun t hft y => ?_
  have hi := (at_ t).2.2.2.2.2.2.2.2.1
  have hlt := lt128 t
  obtain ⟨z, z', s, r, hy⟩ : ∃ (z z' : Fin 1) (s : Fin 2048) (r : Fin 512), (y : S1x1x2048x512.Idx) = ix4 z z' s r := ⟨y 0, y 1, y 2, y 3, eq_ix4 (y : S1x1x2048x512.Idx)⟩
  have he : ((cfg0.win (8 : Fin 14)).blk t).view.emb y = ix4 (⟨t.val / 4, by omega⟩ : Fin 32) (⟨t.val % 4, by omega⟩ : Fin 4) s r := by
    subst hy
    funext e; apply Fin.ext
    match e with
    | ⟨0, _⟩ => show (cfg0.win (8 : Fin 14)).index t 0 * 1 + 1 * z.val = t.val / 4; rw [hi]; show t.val / 4 * 1 + 1 * z.val = _; omega
    | ⟨1, _⟩ => show (cfg0.win (8 : Fin 14)).index t 1 * 1 + 1 * z'.val = t.val % 4; rw [hi]; show t.val % 4 * 1 + 1 * z'.val = _; omega
    | ⟨2, _⟩ => show (cfg0.win (8 : Fin 14)).index t 2 * 2048 + 1 * s.val = s.val; rw [hi]; show 0 * 2048 + 1 * s.val = _; omega
    | ⟨3, _⟩ => show (cfg0.win (8 : Fin 14)).index t 3 * 512 + 1 * r.val = r.val; rw [hi]; show 0 * 512 + 1 * r.val = _; omega
  rw [he]
  refine (congrFun (after0_8 m c t) y).trans ?_
  have hy' : y = (ix4 z z' s r : S1x1x2048x512.Idx) := hy
  rw [hy']
  refine (congrFun (outs8 m c t) _).trans ((out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) z z' s r).trans ?_)
  have hr := row_eq t r ⟨t.val / 4, by omega⟩ ⟨t.val % 4, by omega⟩ rfl rfl
  show _ = Proj.slab (fun f => featK (n := 1024) m c 0 (by omega) (Fox.row ⟨t.val / 4, by omega⟩ ⟨t.val % 4, by omega⟩ r) f * Proj.scale) s
  rw [← hr]
  refine congrArg (fun q => Proj.slab q s) (funext fun f => congrArg (fun a : EReal => a * Proj.scale) ?_)
  exact blk_eq m c 0 (by omega) _ (fun k f => (iblk_wq m c t f k).trans (host_wq m c f k)) t r f

theorem final9 : (dats m 0 c).arrAt (9 : Fin 14) cfg0.N = keysK m c := by
  refine (dats m 0 c).arrAt_eq_of_covers (9 : Fin 14) _ covers9 fun t hft y => ?_
  have hi := (at_ t).2.2.2.2.2.2.2.2.2.1
  obtain ⟨r, a, d, hy⟩ : ∃ (r : Fin 512) (a : Fin 16) (d : Fin 64), (y : S512x16x64.Idx) = ix3 r a d := ⟨y 0, y 1, y 2, eq_ix3 (y : S512x16x64.Idx)⟩
  have he : ((cfg0.win (9 : Fin 14)).blk t).view.emb y = ix3 (row t r) a d := by
    subst hy
    funext e; apply Fin.ext
    match e with
    | ⟨0, _⟩ => show (cfg0.win (9 : Fin 14)).index t 0 * 512 + 1 * r.val = 512 * t.val + r.val; rw [hi]; show t.val * 512 + 1 * r.val = _; omega
    | ⟨1, _⟩ => show (cfg0.win (9 : Fin 14)).index t 1 * 16 + 1 * a.val = a.val; rw [hi]; show 0 * 16 + 1 * a.val = _; omega
    | ⟨2, _⟩ => show (cfg0.win (9 : Fin 14)).index t 2 * 64 + 1 * d.val = d.val; rw [hi]; show 0 * 64 + 1 * d.val = _; omega
  rw [he]
  refine (congrFun (after0_9 m c t) y).trans ?_
  have hy' : y = (ix3 r a d : S512x16x64.Idx) := hy
  rw [hy']
  refine (congrFun (outs9 m c t) _).trans ((out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) r a d).trans ?_)
  exact blk_eq m c 1024 (by omega) _ (fun k f => (iblk_wk m c t k f).trans (host_wk m c k f)) t r _

theorem final10 : (dats m 0 c).arrAt (10 : Fin 14) cfg0.N = rowsK m c := by
  refine (dats m 0 c).arrAt_eq_of_covers (10 : Fin 14) _ covers10 fun t hft y => ?_
  have hi := (at_ t).2.2.2.2.2.2.2.2.2.2.1
  obtain ⟨r, f, hy⟩ : ∃ (r : Fin 512) (f : Fin 1024), (y : S512x1024.Idx) = ix2 r f := ⟨y 0, y 1, eq_ix2 (y : S512x1024.Idx)⟩
  have he : ((cfg0.win (10 : Fin 14)).blk t).view.emb y = ix2 (row t r) f := by
    subst hy
    funext e; apply Fin.ext
    match e with
    | ⟨0, _⟩ => show (cfg0.win (10 : Fin 14)).index t 0 * 512 + 1 * r.val = 512 * t.val + r.val; rw [hi]; show t.val * 512 + 1 * r.val = _; omega
    | ⟨1, _⟩ => show (cfg0.win (10 : Fin 14)).index t 1 * 1024 + 1 * f.val = f.val; rw [hi]; show 0 * 1024 + 1 * f.val = _; omega
  rw [he]
  refine (congrFun (after0_10 m c t) y).trans ?_
  have hy' : y = (ix2 r f : S512x1024.Idx) := hy
  rw [hy']
  refine (congrFun (outs10 m c t) _).trans ((out10_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) r f).trans ?_)
  exact blk_eq m c 1024 (by omega) _ (fun k f => (iblk_wk m c t k f).trans (host_wk m c k f)) t r f

theorem final11 : (dats m 0 c).arrAt (11 : Fin 14) cfg0.N = valsK m c := by
  refine (dats m 0 c).arrAt_eq_of_covers (11 : Fin 14) _ covers11 fun t hft y => ?_
  have hi := (at_ t).2.2.2.2.2.2.2.2.2.2.2.1
  obtain ⟨r, a, d, hy⟩ : ∃ (r : Fin 512) (a : Fin 16) (d : Fin 64), (y : S512x16x64.Idx) = ix3 r a d := ⟨y 0, y 1, y 2, eq_ix3 (y : S512x16x64.Idx)⟩
  have he : ((cfg0.win (11 : Fin 14)).blk t).view.emb y = ix3 (row t r) a d := by
    subst hy
    funext e; apply Fin.ext
    match e with
    | ⟨0, _⟩ => show (cfg0.win (11 : Fin 14)).index t 0 * 512 + 1 * r.val = 512 * t.val + r.val; rw [hi]; show t.val * 512 + 1 * r.val = _; omega
    | ⟨1, _⟩ => show (cfg0.win (11 : Fin 14)).index t 1 * 16 + 1 * a.val = a.val; rw [hi]; show 0 * 16 + 1 * a.val = _; omega
    | ⟨2, _⟩ => show (cfg0.win (11 : Fin 14)).index t 2 * 64 + 1 * d.val = d.val; rw [hi]; show 0 * 64 + 1 * d.val = _; omega
  rw [he]
  refine (congrFun (after0_11 m c t) y).trans ?_
  have hy' : y = (ix3 r a d : S512x16x64.Idx) := hy
  rw [hy']
  refine (congrFun (outs11 m c t) _).trans ((out11_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) r a d).trans ?_)
  exact blk_eq m c 2048 (by omega) _ (fun k f => (iblk_wv m c t k f).trans (host_wv m c k f)) t r _

theorem final12 : (dats m 0 c).arrAt (12 : Fin 14) cfg0.N = augK m c := by
  refine (dats m 0 c).arrAt_eq_of_covers (12 : Fin 14) _ covers12 fun t hft y => ?_
  have hi := (at_ t).2.2.2.2.2.2.2.2.2.2.2.2.1
  have hlt := lt128 t
  obtain ⟨z, z', s, r, hy⟩ : ∃ (z z' : Fin 1) (s : Fin 1280) (r : Fin 512), (y : S1x1x1280x512.Idx) = ix4 z z' s r := ⟨y 0, y 1, y 2, y 3, eq_ix4 (y : S1x1x1280x512.Idx)⟩
  have he : ((cfg0.win (12 : Fin 14)).blk t).view.emb y = ix4 (⟨t.val / 4, by omega⟩ : Fin 32) (⟨t.val % 4, by omega⟩ : Fin 4) s r := by
    subst hy
    funext e; apply Fin.ext
    match e with
    | ⟨0, _⟩ => show (cfg0.win (12 : Fin 14)).index t 0 * 1 + 1 * z.val = t.val / 4; rw [hi]; show t.val / 4 * 1 + 1 * z.val = _; omega
    | ⟨1, _⟩ => show (cfg0.win (12 : Fin 14)).index t 1 * 1 + 1 * z'.val = t.val % 4; rw [hi]; show t.val % 4 * 1 + 1 * z'.val = _; omega
    | ⟨2, _⟩ => show (cfg0.win (12 : Fin 14)).index t 2 * 1280 + 1 * s.val = s.val; rw [hi]; show 0 * 1280 + 1 * s.val = _; omega
    | ⟨3, _⟩ => show (cfg0.win (12 : Fin 14)).index t 3 * 512 + 1 * r.val = r.val; rw [hi]; show 0 * 512 + 1 * r.val = _; omega
  rw [he]
  refine (congrFun (after0_12 m c t) y).trans ?_
  have hy' : y = (ix4 z z' s r : S1x1x1280x512.Idx) := hy
  rw [hy']
  refine (congrFun (outs12 m c t) _).trans ((out12_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) z z' s r).trans ?_)
  have hr := row_eq t r ⟨t.val / 4, by omega⟩ ⟨t.val % 4, by omega⟩ rfl rfl
  show _ = Fox.aug (fun f => featK (n := 1024) m c 2048 (by omega) (Fox.row ⟨t.val / 4, by omega⟩ ⟨t.val % 4, by omega⟩ r) f) s
  rw [← hr]
  refine congrArg (fun q => Fox.aug q s) (funext fun f => ?_)
  exact blk_eq m c 2048 (by omega) _ (fun k f => (iblk_wvt m c t f k).trans (host_wvt m c f k)) t r f

theorem final13 : (dats m 0 c).arrAt (13 : Fin 14) cfg0.N = gateK m c := by
  refine (dats m 0 c).arrAt_eq_of_covers (13 : Fin 14) _ covers13 fun t hft y => ?_
  have hi := (at_ t).2.2.2.2.2.2.2.2.2.2.2.2.2
  obtain ⟨r, a, hy⟩ : ∃ (r : Fin 512) (a : Fin 16), (y : S512x16.Idx) = ix2 r a := ⟨y 0, y 1, eq_ix2 (y : S512x16.Idx)⟩
  have he : ((cfg0.win (13 : Fin 14)).blk t).view.emb y = ix2 (row t r) a := by
    subst hy
    funext e; apply Fin.ext
    match e with
    | ⟨0, _⟩ => show (cfg0.win (13 : Fin 14)).index t 0 * 512 + 1 * r.val = 512 * t.val + r.val; rw [hi]; show t.val * 512 + 1 * r.val = _; omega
    | ⟨1, _⟩ => show (cfg0.win (13 : Fin 14)).index t 1 * 16 + 1 * a.val = a.val; rw [hi]; show 0 * 16 + 1 * a.val = _; omega
  rw [he]
  refine (congrFun (after0_13 m c t) y).trans ?_
  have hy' : y = (ix2 r a : S512x16.Idx) := hy
  rw [hy']
  refine (congrFun (outs13 m c t) _).trans ((out13_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) r a).trans ?_)
  refine congrArg Fox.gate (congrArg₂ (fun a b : EReal => a + b) ?_ (iblk_b m c t a))
  exact blk_eq m c 3072 (by omega) _ (fun k a => (iblk_wf m c t k a).trans (host_wf m c k a)) t r a

/-- The run of the call: its results and its arguments. -/
theorem run (ρ : Dev nD → PrngReg) : θ_run defs (onTc (τ := τ) (main (F := Ideal))) ⟨m, fun _ => 0, ρ⟩ fun r => ∀ c : Dev nD,
    r.2.mem ((c : Thread nD τ).loc main_v10_0) = queriesK m c
    ∧ r.2.mem ((c : Thread nD τ).loc main_v10_1) = keysK m c
    ∧ r.2.mem ((c : Thread nD τ).loc main_v10_2) = rowsK m c
    ∧ r.2.mem ((c : Thread nD τ).loc main_v10_3) = valsK m c
    ∧ r.2.mem ((c : Thread nD τ).loc main_v10_4) = augK m c
    ∧ r.2.mem ((c : Thread nD τ).loc main_v10_5) = gateK m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨((h c).1 8).trans (final8 m c), ((h c).1 9).trans (final9 m c), ((h c).1 10).trans (final10 m c),
      ((h c).1 11).trans (final11 m c), ((h c).1 12).trans (final12 m c), ((h c).1 13).trans (final13 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Kernel6Ideal.Qkv
end
end
-- ==== Proof.Ref5.lean ====
module

public import proofs.«01_k».proof.Proof.Gen.Reference5Ideal.Read
public import proofs.«01_k».proof.Proof.Proj

@[expose] public section

/-! # The reference of the projections, at an index -/

set_option maxRecDepth 65536

noncomputable section

namespace Cert.Reference5Ideal.At

open Cert.Reference5Ideal Cert.Reference5Ideal.Read
open Idealize.ShloMosaic Idealize.ShloMosaic.ValueIdx
open Idealize.ShloMosaic.TcCoe
open Idealize.SL Idealize.SL.Sem

/-! ## Indices -/

theorem idx_main_v1_eq (r : Fin 65536) (k : Fin 1024) : idx_main_v1 (ix1 r) k = (ix2 r k : S65536x1024.Idx) := by
  funext a
  match a with
  | ⟨0, _⟩ => rfl
  | ⟨1, _⟩ => rfl

theorem idx_main_v2_eq (r : Fin 65536) (z : Fin 1) : idx_main_v2 (ix2 r z) = (ix1 r : S65536.Idx) := by
  funext a
  match a with
  | ⟨0, _⟩ => rfl

theorem idx_main_v8_eq (r : Fin 65536) (k : Fin 1024) : idx_main_v8 (ix2 r k) = (ix2 r 0 : S65536x1.Idx) := by
  funext a
  match a with
  | ⟨0, _⟩ => rfl
  | ⟨1, _⟩ => rfl

theorem idx_main_v10_eq (z : Fin 1) (k : Fin 1024) : idx_main_v10 (ix2 z k) = (ix1 k : S1024.Idx) := by
  funext a
  match a with
  | ⟨0, _⟩ => rfl

theorem idx_main_v11_eq (r : Fin 65536) (k : Fin 1024) : idx_main_v11 (ix2 r k) = (ix2 0 k : S1x1024.Idx) := by
  funext a
  match a with
  | ⟨0, _⟩ => rfl
  | ⟨1, _⟩ => rfl

theorem lidx_main_v13_eq (r : Fin 65536) (f : Fin 3072) (k : Fin 1024) : lidx_main_v13 (ix2 r f) k = (ix2 r k : S65536x1024.Idx) := by
  funext a
  match a with
  | ⟨0, _⟩ => rfl
  | ⟨1, _⟩ => rfl

theorem ridx_main_v13_eq (r : Fin 65536) (f : Fin 3072) (k : Fin 1024) : ridx_main_v13 (ix2 r f) k = (ix2 k f : S1024x3072.Idx) := by
  funext a
  match a with
  | ⟨0, _⟩ => rfl
  | ⟨1, _⟩ => rfl

theorem idx_main_v14_eq (r : Fin 65536) (f : Fin 1024) : idx_main_v14 (ix2 r f) = (ix2 r (⟨0 + f.val, by omega⟩ : Fin 3072) : S65536x3072.Idx) := by
  funext a
  match a with
  | ⟨0, _⟩ => rfl
  | ⟨1, _⟩ => apply Fin.ext; first | rfl | (show f.val = 0 + f.val; omega)

theorem idx_main_v15_eq (r : Fin 65536) (f : Fin 1024) : idx_main_v15 (ix2 r f) = (ix2 r (⟨1024 + f.val, by omega⟩ : Fin 3072) : S65536x3072.Idx) := by
  funext a
  match a with
  | ⟨0, _⟩ => rfl
  | ⟨1, _⟩ => apply Fin.ext; first | rfl | (show f.val = 0 + f.val; omega)

theorem idx_main_v16_eq (r : Fin 65536) (f : Fin 1024) : idx_main_v16 (ix2 r f) = (ix2 r (⟨2048 + f.val, by omega⟩ : Fin 3072) : S65536x3072.Idx) := by
  funext a
  match a with
  | ⟨0, _⟩ => rfl
  | ⟨1, _⟩ => apply Fin.ext; first | rfl | (show f.val = 0 + f.val; omega)

theorem idx_main_v25_eq (r : Fin 65536) (a : Fin 16) (z : Fin 1) (d : Fin 64) : idx_main_v25 (ix4 r a z d) = (ix2 r (⟨a.val * 64 + d.val, by omega⟩ : Fin 1024) : S65536x1024.Idx) := by
  funext e
  match e with
  | ⟨0, _⟩ => apply Fin.ext; show (((r.val * 16 + a.val) * 1 + z.val) * 64 + d.val) / 1024 = r.val; omega
  | ⟨1, _⟩ => apply Fin.ext; show (((r.val * 16 + a.val) * 1 + z.val) * 64 + d.val) % 1024 = a.val * 64 + d.val; omega

theorem idx_main_v24_eq (z : Fin 1) (a : Fin 16) (p : Fin 2) (z' : Fin 1) : idx_main_v24 (ix4 z a p z') = (ix2 a p : S16x2.Idx) := by
  funext e
  match e with
  | ⟨0, _⟩ => rfl
  | ⟨1, _⟩ => rfl

theorem idx_main_call0_v1_eq (r : Fin 65536) (a : Fin 16) (p : Fin 2) (d : Fin 64) : idx_main_call0_v1 (ix4 r a p d) = (ix4 0 a p 0 : S1x16x2x1.Idx) := by
  funext e
  match e with
  | ⟨0, _⟩ => rfl
  | ⟨1, _⟩ => rfl
  | ⟨2, _⟩ => rfl
  | ⟨3, _⟩ => rfl

theorem idx_main_call0_v2_eq (r : Fin 65536) (a : Fin 16) (p : Fin 2) (d : Fin 64) : idx_main_call0_v2 (ix4 r a p d) = (ix4 r a 0 d : S65536x16x1x64.Idx) := by
  funext e
  match e with
  | ⟨0, _⟩ => rfl
  | ⟨1, _⟩ => rfl
  | ⟨2, _⟩ => rfl
  | ⟨3, _⟩ => rfl

theorem idx_main_v27_eq (b : Fin 32) (n : Fin 8) (r : Fin 256) (s : Fin 2048) :
    idx_main_v27 (ix4 b n r s) = (ix4 (Proj.row b n r) (⟨s.val / 128, by omega⟩ : Fin 16) (⟨s.val / 64 % 2, by omega⟩ : Fin 2) (⟨s.val % 64, by omega⟩ : Fin 64) : S65536x16x2x64.Idx) := by
  funext e
  match e with
  | ⟨0, _⟩ => apply Fin.ext; show (((b.val * 8 + n.val) * 256 + r.val) * 2048 + s.val) / 2048 = (b.val * 8 + n.val) * 256 + r.val; omega
  | ⟨1, _⟩ => apply Fin.ext; show (((b.val * 8 + n.val) * 256 + r.val) * 2048 + s.val) / 128 % 16 = s.val / 128; omega
  | ⟨2, _⟩ => apply Fin.ext; show (((b.val * 8 + n.val) * 256 + r.val) * 2048 + s.val) / 64 % 2 = s.val / 64 % 2; omega
  | ⟨3, _⟩ => apply Fin.ext; show (((b.val * 8 + n.val) * 256 + r.val) * 2048 + s.val) % 64 = s.val % 64; omega

theorem idx_main_v28_eq (b : Fin 32) (n : Fin 8) (s : Fin 2048) (r : Fin 256) : idx_main_v28 (ix4 b n s r) = (ix4 b n r s : S32x8x256x2048.Idx) := by
  funext e
  match e with
  | ⟨0, _⟩ => rfl
  | ⟨1, _⟩ => rfl
  | ⟨2, _⟩ => rfl
  | ⟨3, _⟩ => rfl

theorem idx_main_v30_eq (r : Fin 65536) (a : Fin 16) (d : Fin 64) : idx_main_v30 (ix3 r a d) = (ix2 r (⟨a.val * 64 + d.val, by omega⟩ : Fin 1024) : S65536x1024.Idx) := by
  funext e
  match e with
  | ⟨0, _⟩ => apply Fin.ext; show ((r.val * 16 + a.val) * 64 + d.val) / 1024 = r.val; omega
  | ⟨1, _⟩ => apply Fin.ext; show ((r.val * 16 + a.val) * 64 + d.val) % 1024 = a.val * 64 + d.val; omega

theorem idx_main_v32_eq (r : Fin 65536) (a : Fin 16) (d : Fin 64) : idx_main_v32 (ix3 r a d) = (ix2 r (⟨a.val * 64 + d.val, by omega⟩ : Fin 1024) : S65536x1024.Idx) :=
  idx_main_v30_eq r a d

theorem idx_main_v33_eq (b : Fin 32) (n : Fin 8) (r : Fin 256) (f : Fin 1024) : idx_main_v33 (ix4 b n r f) = (ix2 (Proj.row b n r) f : S65536x1024.Idx) := by
  funext e
  match e with
  | ⟨0, _⟩ => apply Fin.ext; show (((b.val * 8 + n.val) * 256 + r.val) * 1024 + f.val) / 1024 = (b.val * 8 + n.val) * 256 + r.val; omega
  | ⟨1, _⟩ => apply Fin.ext; show (((b.val * 8 + n.val) * 256 + r.val) * 1024 + f.val) % 1024 = f.val; omega

theorem idx_main_v34_eq (b : Fin 32) (n : Fin 8) (f : Fin 1024) (r : Fin 256) : idx_main_v34 (ix4 b n f r) = (ix4 b n r f : S32x8x256x1024.Idx) := by
  funext e
  match e with
  | ⟨0, _⟩ => rfl
  | ⟨1, _⟩ => rfl
  | ⟨2, _⟩ => rfl
  | ⟨3, _⟩ => rfl

/-! ## The stages -/

theorem zero_lit : Ideal.ofBits .f32 0x00000000#32 = 0 := by
  simp [Ideal.ofBits, Ideal.ieee]

theorem hid_at (x0 : (⟨S65536x1024, .f32⟩ : BufTy).Contents (Elt Ideal)) (x1 : (⟨S1024, .f32⟩ : BufTy).Contents (Elt Ideal)) (r : Fin 65536) (k : Fin 1024) :
    val_main_v12 (F := Ideal) x0 x1 (ix2 r k) = Swiglu.norm (fun k => x0 (ix2 r k)) (fun k => x1 (ix1 k)) k := by
  simp only [val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply,
    idx_main_v1_eq, idx_main_v2_eq, idx_main_v8_eq, idx_main_v10_eq, idx_main_v11_eq]
  show _ * Ideal.rsqrt (Ideal.div (Ideal.ofBits .f32 0x00000000#32 + _) _ + _) * _ = _
  rw [zero_lit, zero_add]
  rfl

variable (x0 : (⟨S65536x1024, .f32⟩ : BufTy).Contents (Elt Ideal)) (x1 : (⟨S1024, .f32⟩ : BufTy).Contents (Elt Ideal)) (x2 : (⟨S1024x3072, .f32⟩ : BufTy).Contents (Elt Ideal))

/-- Feature `f` of the part from column `o` of the projection of row `r`. -/
def featR (o : ℕ) (ho : o + 1024 ≤ 3072) (r : Fin 65536) (f : Fin 1024) : EReal :=
  Proj.feat (fun r k => x0 (ix2 r k)) (fun k => x1 (ix1 k)) (fun k f => x2 (ix2 k f)) r (⟨o + f.val, by omega⟩ : Fin 3072)

theorem dot_at (r : Fin 65536) (f : Fin 3072) :
    val_main_v13 (F := Ideal) x0 x1 x2 (ix2 r f) = Proj.feat (fun r k => x0 (ix2 r k)) (fun k => x1 (ix1 k)) (fun k f => x2 (ix2 k f)) r f := by
  simp only [val_main_v13_apply, lidx_main_v13_eq, ridx_main_v13_eq, hid_at]
  rfl

theorem own_bit : ∀ (a : Fin 16) (p : Fin 2), IntOp.cmpi .eq (IntOp.andi (BitVec.ofNat 32 a.val) 1#32) (BitVec.ofNat 32 p.val) = if p.val = a.val % 2 then 1#1 else 0#1 := by
  decide +kernel

theorem half_at (a : Fin 16) (p : Fin 2) : val_main_v23 (F := Ideal) (ix2 a p) = if p.val = a.val % 2 then 1#1 else 0#1 := own_bit a p

theorem queries_at (b : Fin 32) (n : Fin 8) (s : Fin 2048) (r : Fin 256) :
    val_main_v29 (F := Ideal) x0 x1 x2 (ix4 b n s r) = Proj.slab (fun f => featR x0 x1 x2 0 (by omega) (Proj.row b n r) f * Proj.scale) s := by
  simp only [val_main_v29_apply, val_main_v28_apply, idx_main_v28_eq, val_main_v27_apply, idx_main_v27_eq, val_main_v26_apply, val_main_call0_v1_apply,
    idx_main_call0_v1_eq, val_main_v24_apply, idx_main_v24_eq, half_at, val_main_call0_v2_apply, idx_main_call0_v2_eq, val_main_v25_apply, idx_main_v25_eq,
    val_main_v18_apply, val_main_v17_apply, val_main_cst_2_apply, val_main_v14_apply, idx_main_v14_eq, dot_at,
    val_main_call0_v3_apply, val_main_call0_v0_apply, val_main_cst_3_apply]
  unfold Proj.slab
  by_cases h : Proj.Own s.val
  · rw [if_pos (by exact h), if_pos h]
    rfl
  · rw [if_neg (by exact h), if_neg h]
    exact zero_lit

theorem keys_at (r : Fin 65536) (a : Fin 16) (d : Fin 64) :
    val_main_v30 (F := Ideal) x0 x1 x2 (ix3 r a d) = featR x0 x1 x2 1024 (by omega) r ⟨a.val * 64 + d.val, by omega⟩ := by
  simp only [val_main_v30_apply, idx_main_v30_eq, val_main_v15_apply, idx_main_v15_eq, dot_at]
  rfl

theorem rows_at (r : Fin 65536) (f : Fin 1024) : val_main_v31 (F := Ideal) x0 x1 x2 (ix2 r f) = featR x0 x1 x2 1024 (by omega) r f := by
  simp only [val_main_v31_apply, val_main_v15_apply, idx_main_v15_eq, dot_at]
  rfl

theorem vals_at (r : Fin 65536) (a : Fin 16) (d : Fin 64) :
    val_main_v32 (F := Ideal) x0 x1 x2 (ix3 r a d) = featR x0 x1 x2 2048 (by omega) r ⟨a.val * 64 + d.val, by omega⟩ := by
  simp only [val_main_v32_apply, idx_main_v32_eq, val_main_v16_apply, idx_main_v16_eq, dot_at]
  rfl

theorem tiles_at (b : Fin 32) (n : Fin 8) (f : Fin 1024) (r : Fin 256) :
    val_main_v35 (F := Ideal) x0 x1 x2 (ix4 b n f r) = featR x0 x1 x2 2048 (by omega) (Proj.row b n r) f := by
  simp only [val_main_v35_apply, val_main_v34_apply, idx_main_v34_eq, val_main_v33_apply, idx_main_v33_eq, val_main_v16_apply, idx_main_v16_eq, dot_at]
  rfl

end Cert.Reference5Ideal.At
end
end
-- ==== Proof.Ref6.lean ====
module

public import proofs.«01_k».proof.Proof.Gen.Reference6Ideal.Read
public import proofs.«01_k».proof.Proof.Fox
public import Idealize.ShloMosaic.Lib.KernelVsHost

@[expose] public section

/-! # The reference of the projections into the forgetting mixer, at an index -/

set_option maxRecDepth 65536

noncomputable section

namespace Cert.Reference6Ideal.At

open Cert.Reference6Ideal Cert.Reference6Ideal.Read
open Idealize.ShloMosaic Idealize.ShloMosaic.ValueIdx
open Idealize.ShloMosaic.TcCoe
open Idealize.SL Idealize.SL.Sem

/-! ## Indices -/

theorem idx_main_v1_eq (r : Fin 65536) (k : Fin 1024) : idx_main_v1 (ix1 r) k = (ix2 r k : S65536x1024.Idx) := by
  funext a
  match a with
  | ⟨0, _⟩ => rfl
  | ⟨1, _⟩ => rfl

theorem idx_main_v2_eq (r : Fin 65536) (z : Fin 1) : idx_main_v2 (ix2 r z) = (ix1 r : S65536.Idx) := by
  funext a
  match a with
  | ⟨0, _⟩ => rfl

theorem idx_main_v8_eq (r : Fin 65536) (k : Fin 1024) : idx_main_v8 (ix2 r k) = (ix2 r 0 : S65536x1.Idx) := by
  funext a
  match a with
  | ⟨0, _⟩ => rfl
  | ⟨1, _⟩ => rfl

theorem idx_main_v10_eq (z : Fin 1) (k : Fin 1024) : idx_main_v10 (ix2 z k) = (ix1 k : S1024.Idx) := by
  funext a
  match a with
  | ⟨0, _⟩ => rfl

theorem idx_main_v11_eq (r : Fin 65536) (k : Fin 1024) : idx_main_v11 (ix2 r k) = (ix2 0 k : S1x1024.Idx) := by
  funext a
  match a with
  | ⟨0, _⟩ => rfl
  | ⟨1, _⟩ => rfl

theorem lidx_main_v13_eq (r : Fin 65536) (f : Fin 3088) (k : Fin 1024) : lidx_main_v13 (ix2 r f) k = (ix2 r k : S65536x1024.Idx) := by
  funext a
  match a with
  | ⟨0, _⟩ => rfl
  | ⟨1, _⟩ => rfl

theorem ridx_main_v13_eq (r : Fin 65536) (f : Fin 3088) (k : Fin 1024) : ridx_main_v13 (ix2 r f) k = (ix2 k f : S1024x3088.Idx) := by
  funext a
  match a with
  | ⟨0, _⟩ => rfl
  | ⟨1, _⟩ => rfl

theorem idx_main_v14_eq (r : Fin 65536) (f : Fin 1024) : idx_main_v14 (ix2 r f) = (ix2 r (⟨0 + f.val, by omega⟩ : Fin 3088) : S65536x3088.Idx) := by
  funext a
  match a with
  | ⟨0, _⟩ => rfl
  | ⟨1, _⟩ => apply Fin.ext; first | rfl | (show f.val = 0 + f.val; omega)

theorem idx_main_v15_eq (r : Fin 65536) (f : Fin 1024) : idx_main_v15 (ix2 r f) = (ix2 r (⟨1024 + f.val, by omega⟩ : Fin 3088) : S65536x3088.Idx) := by
  funext a
  match a with
  | ⟨0, _⟩ => rfl
  | ⟨1, _⟩ => apply Fin.ext; first | rfl | (show f.val = 0 + f.val; omega)

theorem idx_main_v16_eq (r : Fin 65536) (f : Fin 1024) : idx_main_v16 (ix2 r f) = (ix2 r (⟨2048 + f.val, by omega⟩ : Fin 3088) : S65536x3088.Idx) := by
  funext a
  match a with
  | ⟨0, _⟩ => rfl
  | ⟨1, _⟩ => apply Fin.ext; first | rfl | (show f.val = 0 + f.val; omega)

theorem idx_main_v26_eq (r : Fin 65536) (a : Fin 16) (z : Fin 1) (d : Fin 64) : idx_main_v26 (ix4 r a z d) = (ix2 r (⟨a.val * 64 + d.val, by omega⟩ : Fin 1024) : S65536x1024.Idx) := by
  funext e
  match e with
  | ⟨0, _⟩ => apply Fin.ext; show (((r.val * 16 + a.val) * 1 + z.val) * 64 + d.val) / 1024 = r.val; omega
  | ⟨1, _⟩ => apply Fin.ext; show (((r.val * 16 + a.val) * 1 + z.val) * 64 + d.val) % 1024 = a.val * 64 + d.val; omega

theorem idx_main_v25_eq (z : Fin 1) (a : Fin 16) (p : Fin 2) (z' : Fin 1) : idx_main_v25 (ix4 z a p z') = (ix2 a p : S16x2.Idx) := by
  funext e
  match e with
  | ⟨0, _⟩ => rfl
  | ⟨1, _⟩ => rfl

theorem idx_main_call0_v1_eq (r : Fin 65536) (a : Fin 16) (p : Fin 2) (d : Fin 64) : idx_main_call0_v1 (ix4 r a p d) = (ix4 0 a p 0 : S1x16x2x1.Idx) := by
  funext e
  match e with
  | ⟨0, _⟩ => rfl
  | ⟨1, _⟩ => rfl
  | ⟨2, _⟩ => rfl
  | ⟨3, _⟩ => rfl

theorem idx_main_call0_v2_eq (r : Fin 65536) (a : Fin 16) (p : Fin 2) (d : Fin 64) : idx_main_call0_v2 (ix4 r a p d) = (ix4 r a 0 d : S65536x16x1x64.Idx) := by
  funext e
  match e with
  | ⟨0, _⟩ => rfl
  | ⟨1, _⟩ => rfl
  | ⟨2, _⟩ => rfl
  | ⟨3, _⟩ => rfl

theorem idx_main_v28_eq (b : Fin 32) (n : Fin 4) (r : Fin 512) (s : Fin 2048) :
    idx_main_v28 (ix4 b n r s) = (ix4 (Fox.row b n r) (⟨s.val / 128, by omega⟩ : Fin 16) (⟨s.val / 64 % 2, by omega⟩ : Fin 2) (⟨s.val % 64, by omega⟩ : Fin 64) : S65536x16x2x64.Idx) := by
  funext e
  match e with
  | ⟨0, _⟩ => apply Fin.ext; show (((b.val * 4 + n.val) * 512 + r.val) * 2048 + s.val) / 2048 = (b.val * 4 + n.val) * 512 + r.val; omega
  | ⟨1, _⟩ => apply Fin.ext; show (((b.val * 4 + n.val) * 512 + r.val) * 2048 + s.val) / 128 % 16 = s.val / 128; omega
  | ⟨2, _⟩ => apply Fin.ext; show (((b.val * 4 + n.val) * 512 + r.val) * 2048 + s.val) / 64 % 2 = s.val / 64 % 2; omega
  | ⟨3, _⟩ => apply Fin.ext; show (((b.val * 4 + n.val) * 512 + r.val) * 2048 + s.val) % 64 = s.val % 64; omega

theorem idx_main_v29_eq (b : Fin 32) (n : Fin 4) (s : Fin 2048) (r : Fin 512) : idx_main_v29 (ix4 b n s r) = (ix4 b n r s : S32x4x512x2048.Idx) := by
  funext e
  match e with
  | ⟨0, _⟩ => rfl
  | ⟨1, _⟩ => rfl
  | ⟨2, _⟩ => rfl
  | ⟨3, _⟩ => rfl

theorem idx_main_v31_eq (r : Fin 65536) (a : Fin 16) (d : Fin 64) : idx_main_v31 (ix3 r a d) = (ix2 r (⟨a.val * 64 + d.val, by omega⟩ : Fin 1024) : S65536x1024.Idx) := by
  funext e
  match e with
  | ⟨0, _⟩ => apply Fin.ext; show ((r.val * 16 + a.val) * 64 + d.val) / 1024 = r.val; omega
  | ⟨1, _⟩ => apply Fin.ext; show ((r.val * 16 + a.val) * 64 + d.val) % 1024 = a.val * 64 + d.val; omega

theorem idx_main_v33_eq (r : Fin 65536) (a : Fin 16) (d : Fin 64) : idx_main_v33 (ix3 r a d) = (ix2 r (⟨a.val * 64 + d.val, by omega⟩ : Fin 1024) : S65536x1024.Idx) :=
  idx_main_v31_eq r a d

theorem idx_main_v17_eq (r : Fin 65536) (f : Fin 16) : idx_main_v17 (ix2 r f) = (ix2 r (⟨3072 + f.val, by omega⟩ : Fin 3088) : S65536x3088.Idx) := by
  funext a
  match a with
  | ⟨0, _⟩ => rfl
  | ⟨1, _⟩ => rfl

theorem idx_main_v34_eq (r : Fin 65536) (a : Fin 16) (d : Fin 64) : idx_main_v34 (ix3 r a d) = (ix2 r (⟨a.val * 64 + d.val, by omega⟩ : Fin 1024) : S65536x1024.Idx) :=
  idx_main_v31_eq r a d

theorem idx_main_v40_eq (b : Fin 32) (n : Fin 4) (r : Fin 512) (s : Fin 1280) :
    idx_main_v40 (ix4 b n r s) = (ix3 (Fox.row b n r) (⟨s.val / 80, by omega⟩ : Fin 16) (⟨s.val % 80, by omega⟩ : Fin 80) : S65536x16x80.Idx) := by
  funext e
  match e with
  | ⟨0, _⟩ => apply Fin.ext; show (((b.val * 4 + n.val) * 512 + r.val) * 1280 + s.val) / 1280 = (b.val * 4 + n.val) * 512 + r.val; omega
  | ⟨1, _⟩ => apply Fin.ext; show (((b.val * 4 + n.val) * 512 + r.val) * 1280 + s.val) / 80 % 16 = s.val / 80; omega
  | ⟨2, _⟩ => apply Fin.ext; show (((b.val * 4 + n.val) * 512 + r.val) * 1280 + s.val) % 80 = s.val % 80; omega

theorem idx_main_v41_eq (b : Fin 32) (n : Fin 4) (s : Fin 1280) (r : Fin 512) : idx_main_v41 (ix4 b n s r) = (ix4 b n r s : S32x4x512x1280.Idx) := by
  funext e
  match e with
  | ⟨0, _⟩ => rfl
  | ⟨1, _⟩ => rfl
  | ⟨2, _⟩ => rfl
  | ⟨3, _⟩ => rfl

theorem idx_main_v43_eq (z : Fin 1) (a : Fin 16) : idx_main_v43 (ix2 z a) = (ix1 a : S16.Idx) := by
  funext e
  match e with
  | ⟨0, _⟩ => rfl

theorem idx_main_v44_eq (r : Fin 65536) (a : Fin 16) : idx_main_v44 (ix2 r a) = (ix2 0 a : S1x16.Idx) := by
  funext e
  match e with
  | ⟨0, _⟩ => rfl
  | ⟨1, _⟩ => rfl

/-! ## The stages -/

theorem zero_lit : Ideal.ofBits .f32 0x00000000#32 = 0 := by
  simp [Ideal.ofBits, Ideal.ieee]

theorem hid_at (x0 : (⟨S65536x1024, .f32⟩ : BufTy).Contents (Elt Ideal)) (x1 : (⟨S1024, .f32⟩ : BufTy).Contents (Elt Ideal)) (r : Fin 65536) (k : Fin 1024) :
    val_main_v12 (F := Ideal) x0 x1 (ix2 r k) = Swiglu.norm (fun k => x0 (ix2 r k)) (fun k => x1 (ix1 k)) k := by
  simp only [val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply,
    idx_main_v1_eq, idx_main_v2_eq, idx_main_v8_eq, idx_main_v10_eq, idx_main_v11_eq]
  show _ * Ideal.rsqrt (Ideal.div (Ideal.ofBits .f32 0x00000000#32 + _) _ + _) * _ = _
  rw [zero_lit, zero_add]
  rfl

variable (x0 : (⟨S65536x1024, .f32⟩ : BufTy).Contents (Elt Ideal)) (x1 : (⟨S1024, .f32⟩ : BufTy).Contents (Elt Ideal)) (x2 : (⟨S1024x3088, .f32⟩ : BufTy).Contents (Elt Ideal))

/-- Feature `f` of the part from column `o` of the projection of row `r`. -/
def featR {n : ℕ} (o : ℕ) (ho : o + n ≤ 3088) (r : Fin 65536) (f : Fin n) : EReal :=
  Proj.feat (fun r k => x0 (ix2 r k)) (fun k => x1 (ix1 k)) (fun k f => x2 (ix2 k f)) r (⟨o + f.val, by omega⟩ : Fin 3088)

theorem dot_at (r : Fin 65536) (f : Fin 3088) :
    val_main_v13 (F := Ideal) x0 x1 x2 (ix2 r f) = Proj.feat (fun r k => x0 (ix2 r k)) (fun k => x1 (ix1 k)) (fun k f => x2 (ix2 k f)) r f := by
  simp only [val_main_v13_apply, lidx_main_v13_eq, ridx_main_v13_eq, hid_at]
  rfl

theorem own_bit : ∀ (a : Fin 16) (p : Fin 2), IntOp.cmpi .eq (IntOp.andi (BitVec.ofNat 32 a.val) 1#32) (BitVec.ofNat 32 p.val) = if p.val = a.val % 2 then 1#1 else 0#1 := by
  decide +kernel

theorem half_at (a : Fin 16) (p : Fin 2) : val_main_v24 (F := Ideal) (ix2 a p) = if p.val = a.val % 2 then 1#1 else 0#1 := own_bit a p

theorem queries_at (b : Fin 32) (n : Fin 4) (s : Fin 2048) (r : Fin 512) :
    val_main_v30 (F := Ideal) x0 x1 x2 (ix4 b n s r) = Proj.slab (fun f => featR (n := 1024) x0 x1 x2 0 (by omega) (Fox.row b n r) f * Proj.scale) s := by
  simp only [val_main_v30_apply, val_main_v29_apply, idx_main_v29_eq, val_main_v28_apply, idx_main_v28_eq, val_main_v27_apply, val_main_call0_v1_apply,
    idx_main_call0_v1_eq, val_main_v25_apply, idx_main_v25_eq, half_at, val_main_call0_v2_apply, idx_main_call0_v2_eq, val_main_v26_apply, idx_main_v26_eq,
    val_main_v19_apply, val_main_v18_apply, val_main_cst_2_apply, val_main_v14_apply, idx_main_v14_eq, dot_at,
    val_main_call0_v3_apply, val_main_call0_v0_apply, val_main_cst_3_apply]
  unfold Proj.slab
  by_cases h : Proj.Own s.val
  · rw [if_pos (by exact h), if_pos h]
    rfl
  · rw [if_neg (by exact h), if_neg h]
    exact zero_lit

theorem keys_at (r : Fin 65536) (a : Fin 16) (d : Fin 64) :
    val_main_v31 (F := Ideal) x0 x1 x2 (ix3 r a d) = featR (n := 1024) x0 x1 x2 1024 (by omega) r ⟨a.val * 64 + d.val, by omega⟩ := by
  simp only [val_main_v31_apply, idx_main_v31_eq, val_main_v15_apply, idx_main_v15_eq, dot_at]
  rfl

theorem rows_at (r : Fin 65536) (f : Fin 1024) : val_main_v32 (F := Ideal) x0 x1 x2 (ix2 r f) = featR (n := 1024) x0 x1 x2 1024 (by omega) r f := by
  simp only [val_main_v32_apply, val_main_v15_apply, idx_main_v15_eq, dot_at]
  rfl

theorem vals_at (r : Fin 65536) (a : Fin 16) (d : Fin 64) :
    val_main_v33 (F := Ideal) x0 x1 x2 (ix3 r a d) = featR (n := 1024) x0 x1 x2 2048 (by omega) r ⟨a.val * 64 + d.val, by omega⟩ := by
  simp only [val_main_v33_apply, idx_main_v33_eq, val_main_v16_apply, idx_main_v16_eq, dot_at]
  rfl

theorem pad_in (r : Fin 65536) (a : Fin 16) (j : Fin 80) (h : j.val < 64) :
    val_main_v35 (F := Ideal) x0 x1 x2 (ix3 r a j) = featR (n := 1024) x0 x1 x2 2048 (by omega) r ⟨a.val * 64 + j.val, by omega⟩ := by
  have e : val_main_v35 (F := Ideal) x0 x1 x2 (ix3 r a j) = val_main_v34 (F := Ideal) x0 x1 x2 (ix3 r a (⟨j.val, h⟩ : Fin 64)) := by
    unfold val_main_v35
    refine pad_apply_of_inside _ _ _ _ _ _ _ _ _ fun k => ?_
    match k with
    | ⟨0, _⟩ => show r.val = 0 + r.val * (0 + 1); omega
    | ⟨1, _⟩ => show a.val = 0 + a.val * (0 + 1); omega
    | ⟨2, _⟩ => show j.val = 0 + j.val * (0 + 1); omega
  rw [e]
  simp only [val_main_v34_apply, idx_main_v34_eq, val_main_v16_apply, idx_main_v16_eq, dot_at]
  rfl

theorem pad_out (r : Fin 65536) (a : Fin 16) (j : Fin 80) (h : ¬ j.val < 64) :
    val_main_v35 (F := Ideal) x0 x1 x2 (ix3 r a j) = 0 := by
  unfold val_main_v35
  refine (pad_apply_of_not_inside _ _ _ _ _ _ _ _ (2 : Fin 3) ?_).trans ?_
  · show ¬ (0 ≤ j.val ∧ (j.val - 0) % (0 + 1) = 0 ∧ (j.val - 0) / (0 + 1) < 64)
    omega
  · rw [val_main_call1_v0_apply, val_main_c_4_apply]
    show (((0#32 : BitVec 32).toInt : ℝ) : EReal) = 0
    simp

theorem one_bit : ∀ j : Fin 80, IntOp.cmpi .eq (BitVec.ofNat 32 j.val) 64#32 = if j.val = 64 then 1#1 else 0#1 := by decide +kernel

theorem head_at (r : Fin 65536) (a : Fin 16) (j : Fin 80) :
    val_main_v39 (F := Ideal) x0 x1 x2 (ix3 r a j)
      = if h : j.val < 64 then featR (n := 1024) x0 x1 x2 2048 (by omega) r ⟨a.val * 64 + j.val, by omega⟩ else Fox.extra (j.val - 64) := by
  have hb : val_main_v38 (F := Ideal) (ix3 r a j) = if j.val = 64 then 1#1 else 0#1 := by
    simp only [val_main_v38_apply, val_main_v37_apply, val_main_v36_apply, val_main_c_5_apply]
    exact one_bit j
  simp only [val_main_v39_apply, hb, val_main_call2_v1_apply, val_main_call2_v0_apply, val_main_cst_6_apply]
  by_cases h : j.val < 64
  · rw [dif_pos h, if_neg (by omega)]
    exact pad_in x0 x1 x2 r a j h
  · rw [dif_neg h]
    unfold Fox.extra
    by_cases h' : j.val = 64
    · rw [if_pos h', if_pos (by omega)]
      exact Swiglu.one_eq
    · rw [if_neg h', if_neg (by omega)]
      exact pad_out x0 x1 x2 r a j h

theorem aug_at (b : Fin 32) (n : Fin 4) (s : Fin 1280) (r : Fin 512) :
    val_main_v42 (F := Ideal) x0 x1 x2 (ix4 b n s r) = Fox.aug (featR (n := 1024) x0 x1 x2 2048 (by omega) (Fox.row b n r)) s := by
  have e : val_main_v42 (F := Ideal) x0 x1 x2 (ix4 b n s r) = val_main_v39 (F := Ideal) x0 x1 x2 (ix3 (Fox.row b n r) (⟨s.val / 80, by omega⟩ : Fin 16) (⟨s.val % 80, by omega⟩ : Fin 80)) := by
    simp only [val_main_v42_apply, val_main_v41_apply, idx_main_v41_eq, val_main_v40_apply, idx_main_v40_eq]
    rfl
  rw [e, head_at]
  unfold Fox.aug
  by_cases h : s.val % 80 < 64
  · rw [dif_pos (by exact h), if_pos h]
    exact congrArg _ (Fin.ext (by show s.val / 80 * 64 + s.val % 80 = s.val / 80 * 64 + s.val % 80 % 64; omega))
  · rw [dif_neg (by exact h), if_neg h]

theorem une_self (d : EReal) : FloatOps.cmpf (F := Ideal) (φ := .f32) .une d d = 0#1 := by
  show BitVec.ofBool (decide (d ≠ d)) = 0#1
  simp

theorem gate_at (x3 : (⟨S16, .f32⟩ : BufTy).Contents (Elt Ideal)) (r : Fin 65536) (a : Fin 16) :
    val_main_v46 (F := Ideal) x0 x1 x2 x3 (ix2 r a) = Fox.gate (featR (n := 16) x0 x1 x2 3072 (by omega) r a + x3 (ix1 a)) := by
  have hz : val_main_v45 (F := Ideal) x0 x1 x2 x3 (ix2 r a) = featR (n := 16) x0 x1 x2 3072 (by omega) r a + x3 (ix1 a) := by
    simp only [val_main_v45_apply, val_main_v44_apply, idx_main_v44_eq, val_main_v43_apply, idx_main_v43_eq, val_main_v17_apply, idx_main_v17_eq, dot_at]
    rfl
  rw [← hz, ← Fox.neg_softplus]
  simp only [val_main_v46_apply, val_main_call3_v1_apply, val_main_call3_call0_v4_apply, une_self, val_main_call3_call0_v11_apply, val_main_call3_call0_v10_apply,
    val_main_call3_call0_v9_apply, val_main_call3_call0_v8_apply, val_main_call3_call0_v7_apply, val_main_call3_call0_v3_apply, val_main_call3_call0_v2_apply,
    val_main_call3_call0_v1_apply, val_main_call3_call0_v0_apply, val_main_call3_call0_cst_apply, val_main_call3_v0_apply]
  generalize val_main_v45 (F := Ideal) x0 x1 x2 x3 (ix2 r a) = z
  show -(max (-z) (Ideal.ofBits .f32 0x00000000#32) + Ideal.log (1 + Ideal.exp (-(max (-z - Ideal.ofBits .f32 0x00000000#32) (-(-z - Ideal.ofBits .f32 0x00000000#32)))))) = _
  rw [zero_lit]

end Cert.Reference6Ideal.At
end
end
-- ==== Proof.lean ====
/- The claims about the attention kernel: it and its idealization run to the end and leave their arguments as they were, for
   the tables of the blocks on and below the diagonal; the idealization reads two constants as the numbers they stand for;
   and over the reals the kernel computes the causal softmax attention of the reference.

   The claims about the three feed-forward kernels (alone, after the output projection of a mixer, and with the final norm):
   each runs to the end and leaves its arguments as they were, and over the reals computes what its reference computes.

   The same claims about the projections into the stick-breaking mixer and into the forgetting mixer. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference
public import proofs.«01_k».proof.Proof.Gen.Pre_call_args
public import proofs.«01_k».proof.Proof.Gen.Pre_tables
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Reference4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Reference5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Reference6
public import proofs.«01_k».proof.Proof.Args
public import proofs.«01_k».proof.Proof.Eq
public import proofs.«01_k».proof.Proof.Array2
public import proofs.«01_k».proof.Proof.Ref2
public import proofs.«01_k».proof.Proof.Array3
public import proofs.«01_k».proof.Proof.Ref3
public import proofs.«01_k».proof.Proof.Array4
public import proofs.«01_k».proof.Proof.Ref4
public import proofs.«01_k».proof.Proof.Array5
public import proofs.«01_k».proof.Proof.Array6
public import proofs.«01_k».proof.Proof.Ref5
public import proofs.«01_k».proof.Proof.Ref6
public import Idealize.ShloMosaic.Lib.StableHlo.RunHlo
public import Idealize.ShloMosaic.Adequacy
public import Idealize.ShloMosaic.Init

@[expose] public section

set_option maxRecDepth 65536

noncomputable section

namespace Cert.Proof

open Idealize.ShloMosaic Idealize.ShloMosaic.TcCoe Idealize.SL Idealize.SL.Sem

/-! ## The tables -/

theorem pinned_kernel (m : (ℓ : Loc Cert.Kernel.nD Cert.Kernel.τ Cert.Kernel.sig) → Buf (Elt Bits) ℓ) (h : Cert.Pre_Kernel m) :
    Cert.Kernel.Gen.Pinned 0 m :=
  ⟨fun c => (Cert.Args.tables_eq (F := Bits) _ _ _ _ _ _ (h c)).1, fun c => (Cert.Args.tables_eq (F := Bits) _ _ _ _ _ _ (h c)).2⟩

theorem pinned_ideal (m : (ℓ : Loc Cert.KernelIdeal.nD Cert.KernelIdeal.τ Cert.KernelIdeal.sig) → Buf (Elt Ideal) ℓ) (h : Cert.Pre_KernelIdeal m) :
    Cert.KernelIdeal.Gen.Pinned 0 m :=
  ⟨fun c => (Cert.Args.tables_eq (F := Ideal) _ _ _ _ _ _ (h c)).1, fun c => (Cert.Args.tables_eq (F := Ideal) _ _ _ _ _ _ (h c)).2⟩

theorem pinned_args (m : (ℓ : Loc Cert.KernelIdeal.nD Cert.KernelIdeal.τ Cert.KernelIdeal.sig) → Buf (Elt Ideal) ℓ) (h : Cert.Pre_KernelIdeal_call_args m) :
    Cert.KernelIdeal.Gen.Pinned 0 m :=
  ⟨fun c => (Cert.Args.args_tables _ _ _ _ _ _ (h c).1 (h c).2.1).1, fun c => (Cert.Args.args_tables _ _ _ _ _ _ (h c).1 (h c).2.1).2⟩

theorem good_args (m : (ℓ : Loc Cert.KernelIdeal.nD Cert.KernelIdeal.τ Cert.KernelIdeal.sig) → Buf (Elt Ideal) ℓ) (h : Cert.Pre_KernelIdeal_call_args m)
    (c : Dev Cert.KernelIdeal.nD) : Cert.KernelIdeal.Traj.Good m c where
  zero b a r y hr := Cert.Args.query_zero _ _ _ _ _ _ (h c).2.2.1 b a r y hr
  qreal i := Cert.Args.query_real _ _ _ _ _ _ (h c).2.2.2.1 i
  kreal i := Cert.Args.key_real _ _ _ _ _ _ (h c).2.2.2.2.1 i
  creal i := Cert.Args.gate_real _ _ _ _ _ _ (h c).2.2.2.2.2.2 i
  ones b j hd y := Cert.Args.ones_row _ _ _ _ _ _ (h c).2.2.2.2.2.1 b j hd y

/-! ## The frames -/

theorem frame_kernel : Cert.quiescent_Kernel := fun m ρ h => Cert.Kernel.Gen.frame 0 m ρ (pinned_kernel m h)
theorem frame_ideal : Cert.quiescent_KernelIdeal := fun m ρ h => Cert.KernelIdeal.Gen.frame 0 m ρ (pinned_ideal m h)
theorem frame_ideal_args : Cert.quiescent_KernelIdeal_pre_call_args := fun m ρ h => Cert.KernelIdeal.Gen.frame 0 m ρ (pinned_args m h)

theorem frame_reference_ideal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_reference_ideal_args : Cert.quiescent_ReferenceIdeal_pre_call_args := fun m ρ _ => frame_reference_ideal m ρ trivial

theorem frame_reference : Cert.quiescent_Reference := by
  intro m ρ _
  refine (θ_run Cert.Reference.defs _ _).mono (fun r h => ⟨h, Idealize.ShloMosaic.sem_eq_zero_of_no_sems (by decide) r.2⟩) ?_
  hlo_run

/-! ## The idealization and the value -/

theorem preserves_kernel : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

theorem value : Cert.algebraic_KernelIdeal_ReferenceIdeal_pre_call_args := by
  intro m g m' g' hp hagree
  have hpin := pinned_args m hp
  refine ⟨fun c => fun i : Cert.KernelIdeal.S32x2048x1024.Idx => Cert.KernelIdeal.Traj.resultK m c (i 0) (i 1) (i 2), ?_, ?_⟩
  · refine (θ_run Cert.KernelIdeal.defs _ _).mono (fun r h c => ⟨?_, h.2 c⟩)
      (θ_run_and (Cert.KernelIdeal.Gen.run_main 0 m g hpin) (Cert.KernelIdeal.Gen.unchanged 0 m g hpin))
    exact ((h.1 c).1 (4 : Fin 5)).trans (Cert.KernelIdeal.Traj.final m g c (Cert.KernelIdeal.Traj.good_fin m c (good_args m hp c)))
  · refine (θ_run Cert.ReferenceIdeal.defs _ _).mono (fun r h c => ⟨?_, (h c).2⟩) (Cert.ReferenceIdeal.Value.run (F := Ideal) m' g')
    refine (h c).1.trans ((Cert.ReferenceIdeal.Read.val_main_v49_eq m' c).trans ?_)
    funext i
    obtain ⟨_, _, h2, h3, h4, h5⟩ := hagree c
    rw [h2, h3, h4, h5]
    have e : (i : Cert.ReferenceIdeal.S32x2048x1024.Idx) = ix3 (i 0) (i 1) (i 2) := eq_ix3 i
    refine (congrArg _ e).trans ?_
    exact (Cert.KernelIdeal.Traj.result_eq m c (good_args m hp c) (i 0) (i 1) (i 2)).symm

/-! ## The feed-forward kernels -/

theorem frame_kernel2 : Cert.quiescent_Kernel2 := fun m ρ _ => Cert.Kernel2.Gen.frame m ρ
theorem frame_ideal2 : Cert.quiescent_Kernel2Ideal := fun m ρ _ => Cert.Kernel2Ideal.Gen.frame m ρ

theorem frame_reference_ideal2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_reference2 : Cert.quiescent_Reference2 := by
  intro m ρ _
  refine (θ_run Cert.Reference2.defs _ _).mono (fun r h => ⟨h, Idealize.ShloMosaic.sem_eq_zero_of_no_sems (by decide) r.2⟩) ?_
  hlo_run

theorem value2 : Cert.algebraic_Kernel2Ideal_Reference2Ideal := by
  intro m g m' g' _ hagree
  refine ⟨fun c => fun i : Cert.Kernel2Ideal.S65536x1024.Idx => Cert.Kernel2Ideal.Ffn.resultK m c (i 0) (i 1), ?_, ?_⟩
  · exact (θ_run Cert.Kernel2Ideal.defs _ _).mono (fun r h c => ⟨(h c).1.trans (Cert.Kernel2Ideal.Ffn.final m c), (h c).2⟩)
      (Cert.Kernel2Ideal.Value.run_blocks m g)
  · refine (θ_run Cert.Reference2Ideal.defs _ _).mono (fun r h c => ⟨?_, (h c).2⟩) (Cert.Reference2Ideal.Value.run (F := Ideal) m' g')
    refine (h c).1.trans ((Cert.Reference2Ideal.Read.val_main_v23_eq _ _ _ _).trans ?_)
    funext i
    obtain ⟨h0, h1, h2, h3⟩ := hagree c
    rw [h0, h1, h2, h3]
    have e : (i : Cert.Reference2Ideal.S65536x1024.Idx) = ix2 (i 0) (i 1) := eq_ix2 i
    refine (congrArg _ e).trans ?_
    exact Cert.Reference2Ideal.At.result_at _ _ _ _ (i 0) (i 1)

theorem frame_kernel3 : Cert.quiescent_Kernel3 := fun m ρ _ => Cert.Kernel3.Gen.frame m ρ
theorem frame_ideal3 : Cert.quiescent_Kernel3Ideal := fun m ρ _ => Cert.Kernel3Ideal.Gen.frame m ρ

theorem frame_reference_ideal3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_reference3 : Cert.quiescent_Reference3 := by
  intro m ρ _
  refine (θ_run Cert.Reference3.defs _ _).mono (fun r h => ⟨h, Idealize.ShloMosaic.sem_eq_zero_of_no_sems (by decide) r.2⟩) ?_
  hlo_run

theorem value3 : Cert.algebraic_Kernel3Ideal_Reference3Ideal := by
  intro m g m' g' _ hagree
  refine ⟨fun c => fun i : Cert.Kernel3Ideal.S65536x1024.Idx => Cert.Kernel3Ideal.Ffn.resultK m c (i 0) (i 1), ?_, ?_⟩
  · exact (θ_run Cert.Kernel3Ideal.defs _ _).mono (fun r h c => ⟨(h c).1.trans (Cert.Kernel3Ideal.Ffn.final m c), (h c).2⟩)
      (Cert.Kernel3Ideal.Value.run_blocks m g)
  · refine (θ_run Cert.Reference3Ideal.defs _ _).mono (fun r h c => ⟨?_, (h c).2⟩) (Cert.Reference3Ideal.Value.run (F := Ideal) m' g')
    refine (h c).1.trans ((Cert.Reference3Ideal.Read.val_main_v27_eq m' c).trans ?_)
    funext i
    obtain ⟨h0, h1, h2, h3, h4, h5⟩ := hagree c
    rw [h0, h1, h2, h3, h4, h5]
    have e : (i : Cert.Reference3Ideal.S65536x1024.Idx) = ix2 (i 0) (i 1) := eq_ix2 i
    refine (congrArg _ e).trans ?_
    exact Cert.Reference3Ideal.At.result_at _ _ _ _ _ _ (i 0) (i 1)

theorem frame_kernel4 : Cert.quiescent_Kernel4 := fun m ρ _ => Cert.Kernel4.Gen.frame m ρ
theorem frame_ideal4 : Cert.quiescent_Kernel4Ideal := fun m ρ _ => Cert.Kernel4Ideal.Gen.frame m ρ

theorem frame_reference_ideal4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem frame_reference4 : Cert.quiescent_Reference4 := by
  intro m ρ _
  refine (θ_run Cert.Reference4.defs _ _).mono (fun r h => ⟨h, Idealize.ShloMosaic.sem_eq_zero_of_no_sems (by decide) r.2⟩) ?_
  hlo_run

theorem value4 : Cert.algebraic_Kernel4Ideal_Reference4Ideal := by
  intro m g m' g' _ hagree
  refine ⟨fun c => fun i : Cert.Kernel4Ideal.S65536x1024.Idx => Cert.Kernel4Ideal.Ffn.resultK m c (i 0) (i 1), ?_, ?_⟩
  · exact (θ_run Cert.Kernel4Ideal.defs _ _).mono (fun r h c => ⟨(h c).1.trans (Cert.Kernel4Ideal.Ffn.final m c), (h c).2⟩)
      (Cert.Kernel4Ideal.Value.run_blocks m g)
  · refine (θ_run Cert.Reference4Ideal.defs _ _).mono (fun r h c => ⟨?_, (h c).2⟩) (Cert.Reference4Ideal.Value.run (F := Ideal) m' g')
    refine (h c).1.trans ((Cert.Reference4Ideal.Read.val_main_v40_eq m' c).trans ?_)
    funext i
    obtain ⟨h0, h1, h2, h3, h4, h5, h6⟩ := hagree c
    rw [h0, h1, h2, h3, h4, h5, h6]
    have e : (i : Cert.Reference4Ideal.S65536x1024.Idx) = ix2 (i 0) (i 1) := eq_ix2 i
    refine (congrArg _ e).trans ?_
    exact Cert.Reference4Ideal.At.result_at _ _ _ _ _ _ _ (i 0) (i 1)

theorem frame_kernel5 : Cert.quiescent_Kernel5 := fun m ρ _ => Cert.Kernel5.Gen.frame m ρ
theorem frame_ideal5 : Cert.quiescent_Kernel5Ideal := fun m ρ _ => Cert.Kernel5Ideal.Gen.frame m ρ

theorem frame_reference_ideal5 : Cert.quiescent_Reference5Ideal := fun m ρ _ =>
  (θ_run Cert.Reference5Ideal.defs _ _).mono (fun r h => ⟨fun c => (h c).2.2.2.2.2, Idealize.ShloMosaic.sem_eq_zero_of_no_sems (by decide) r.2⟩)
    (Cert.Reference5Ideal.Value.run (F := Ideal) m ρ)

theorem frame_reference5 : Cert.quiescent_Reference5 := by
  intro m ρ _
  refine (θ_run Cert.Reference5.defs _ _).mono (fun r h => ⟨h, Idealize.ShloMosaic.sem_eq_zero_of_no_sems (by decide) r.2⟩) ?_
  hlo_run

theorem value5 : Cert.algebraic_Kernel5Ideal_Reference5Ideal := by
  intro m g m' g' _ hagree
  refine ⟨fun c => Cert.Kernel5Ideal.Qkv.queriesK m c, fun c => Cert.Kernel5Ideal.Qkv.keysK m c, fun c => Cert.Kernel5Ideal.Qkv.rowsK m c,
    fun c => Cert.Kernel5Ideal.Qkv.valsK m c, fun c => Cert.Kernel5Ideal.Qkv.tilesK m c, Cert.Kernel5Ideal.Qkv.run m g, ?_⟩
  refine (θ_run Cert.Reference5Ideal.defs _ _).mono (fun r h c => ?_) (Cert.Reference5Ideal.Value.run (F := Ideal) m' g')
  obtain ⟨e0, e1, e2, e3, e4, kept⟩ := h c
  obtain ⟨h0, h1, h2⟩ := hagree c
  refine ⟨e0.trans ((Cert.Reference5Ideal.Read.val_main_v29_eq _ _ _).trans ?_), e1.trans ((Cert.Reference5Ideal.Read.val_main_v30_eq _ _ _).trans ?_),
    e2.trans ((Cert.Reference5Ideal.Read.val_main_v31_eq _ _ _).trans ?_), e3.trans ((Cert.Reference5Ideal.Read.val_main_v32_eq _ _ _).trans ?_),
    e4.trans ((Cert.Reference5Ideal.Read.val_main_v35_eq _ _ _).trans ?_), kept⟩
  all_goals
    funext i
    rw [h0, h1, h2]
  · exact (congrArg _ (eq_ix4 (i : Cert.Reference5Ideal.S32x8x2048x256.Idx))).trans (Cert.Reference5Ideal.At.queries_at _ _ _ (i 0) (i 1) (i 2) (i 3))
  · exact (congrArg _ (eq_ix3 (i : Cert.Reference5Ideal.S65536x16x64.Idx))).trans (Cert.Reference5Ideal.At.keys_at _ _ _ (i 0) (i 1) (i 2))
  · exact (congrArg _ (eq_ix2 (i : Cert.Reference5Ideal.S65536x1024.Idx))).trans (Cert.Reference5Ideal.At.rows_at _ _ _ (i 0) (i 1))
  · exact (congrArg _ (eq_ix3 (i : Cert.Reference5Ideal.S65536x16x64.Idx))).trans (Cert.Reference5Ideal.At.vals_at _ _ _ (i 0) (i 1) (i 2))
  · exact (congrArg _ (eq_ix4 (i : Cert.Reference5Ideal.S32x8x1024x256.Idx))).trans (Cert.Reference5Ideal.At.tiles_at _ _ _ (i 0) (i 1) (i 2) (i 3))

theorem frame_kernel6 : Cert.quiescent_Kernel6 := fun m ρ _ => Cert.Kernel6.Gen.frame m ρ
theorem frame_ideal6 : Cert.quiescent_Kernel6Ideal := fun m ρ _ => Cert.Kernel6Ideal.Gen.frame m ρ

theorem frame_reference_ideal6 : Cert.quiescent_Reference6Ideal := fun m ρ _ =>
  (θ_run Cert.Reference6Ideal.defs _ _).mono (fun r h => ⟨fun c => (h c).2.2.2.2.2.2, Idealize.ShloMosaic.sem_eq_zero_of_no_sems (by decide) r.2⟩)
    (Cert.Reference6Ideal.Value.run (F := Ideal) m ρ)

theorem frame_reference6 : Cert.quiescent_Reference6 := by
  intro m ρ _
  refine (θ_run Cert.Reference6.defs _ _).mono (fun r h => ⟨h, Idealize.ShloMosaic.sem_eq_zero_of_no_sems (by decide) r.2⟩) ?_
  hlo_run

theorem value6 : Cert.algebraic_Kernel6Ideal_Reference6Ideal := by
  intro m g m' g' _ hagree
  refine ⟨fun c => Cert.Kernel6Ideal.Qkv.queriesK m c, fun c => Cert.Kernel6Ideal.Qkv.keysK m c, fun c => Cert.Kernel6Ideal.Qkv.rowsK m c,
    fun c => Cert.Kernel6Ideal.Qkv.valsK m c, fun c => Cert.Kernel6Ideal.Qkv.augK m c, fun c => Cert.Kernel6Ideal.Qkv.gateK m c, Cert.Kernel6Ideal.Qkv.run m g, ?_⟩
  refine (θ_run Cert.Reference6Ideal.defs _ _).mono (fun r h c => ?_) (Cert.Reference6Ideal.Value.run (F := Ideal) m' g')
  obtain ⟨e0, e1, e2, e3, e4, e5, kept⟩ := h c
  obtain ⟨h0, h1, h2, h3⟩ := hagree c
  refine ⟨e0.trans ((Cert.Reference6Ideal.Read.val_main_v30_eq _ _ _).trans ?_), e1.trans ((Cert.Reference6Ideal.Read.val_main_v31_eq _ _ _).trans ?_),
    e2.trans ((Cert.Reference6Ideal.Read.val_main_v32_eq _ _ _).trans ?_), e3.trans ((Cert.Reference6Ideal.Read.val_main_v33_eq _ _ _).trans ?_),
    e4.trans ((Cert.Reference6Ideal.Read.val_main_v42_eq _ _ _).trans ?_), e5.trans ((Cert.Reference6Ideal.Read.val_main_v46_eq m' c).trans ?_), kept⟩
  · funext i
    rw [h0, h1, h2]
    exact (congrArg _ (eq_ix4 (i : Cert.Reference6Ideal.S32x4x2048x512.Idx))).trans (Cert.Reference6Ideal.At.queries_at _ _ _ (i 0) (i 1) (i 2) (i 3))
  · funext i
    rw [h0, h1, h2]
    exact (congrArg _ (eq_ix3 (i : Cert.Reference6Ideal.S65536x16x64.Idx))).trans (Cert.Reference6Ideal.At.keys_at _ _ _ (i 0) (i 1) (i 2))
  · funext i
    rw [h0, h1, h2]
    exact (congrArg _ (eq_ix2 (i : Cert.Reference6Ideal.S65536x1024.Idx))).trans (Cert.Reference6Ideal.At.rows_at _ _ _ (i 0) (i 1))
  · funext i
    rw [h0, h1, h2]
    exact (congrArg _ (eq_ix3 (i : Cert.Reference6Ideal.S65536x16x64.Idx))).trans (Cert.Reference6Ideal.At.vals_at _ _ _ (i 0) (i 1) (i 2))
  · funext i
    rw [h0, h1, h2]
    exact (congrArg _ (eq_ix4 (i : Cert.Reference6Ideal.S32x4x1280x512.Idx))).trans (Cert.Reference6Ideal.At.aug_at _ _ _ (i 0) (i 1) (i 2) (i 3))
  · funext i
    rw [h0, h1, h2, h3]
    exact (congrArg _ (eq_ix2 (i : Cert.Reference6Ideal.S65536x16.Idx))).trans (Cert.Reference6Ideal.At.gate_at _ _ _ _ (i 0) (i 1))

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts, Cert.Reference2.Gen.facts,
  Cert.Kernel3.Gen.facts, Cert.Kernel3Ideal.Gen.facts, Cert.Reference3Ideal.Gen.facts, Cert.Reference3.Gen.facts,
  Cert.Kernel4.Gen.facts, Cert.Kernel4Ideal.Gen.facts, Cert.Reference4Ideal.Gen.facts, Cert.Reference4.Gen.facts,
  Cert.Kernel5.Gen.facts, Cert.Kernel5Ideal.Gen.facts, Cert.Reference5Ideal.Gen.facts, Cert.Reference5.Gen.facts,
  Cert.Kernel6.Gen.facts, Cert.Kernel6Ideal.Gen.facts, Cert.Reference6Ideal.Gen.facts, Cert.Reference6.Gen.facts,
  Cert.Pre_tables.Gen.facts, Cert.Pre_call_args.Gen.facts,
  frame_kernel, frame_ideal, frame_ideal_args, frame_reference_ideal, frame_reference_ideal_args, frame_reference,
  frame_kernel2, frame_ideal2, frame_reference_ideal2, frame_reference2,
  frame_kernel3, frame_ideal3, frame_reference_ideal3, frame_reference3,
  frame_kernel4, frame_ideal4, frame_reference_ideal4, frame_reference4,
  frame_kernel5, frame_ideal5, frame_reference_ideal5, frame_reference5,
  frame_kernel6, frame_ideal6, frame_reference_ideal6, frame_reference6,
  preserves_kernel, trivial, value, trivial, trivial, value2, trivial, trivial, value3, trivial, trivial, value4, trivial, trivial, value5,
  trivial, trivial, value6⟩

end Cert.Proof

end
